-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_out_pre [hPre_out_pre : Cert.Pre_out_pre.Facts] (m : (ℓ : Loc Cert.KernelIdeal.nD Cert.KernelIdeal.τ Cert.KernelIdeal.sig) → Buf (Elt Ideal) ℓ) : Prop :=
  ∀ c : Dev Cert.KernelIdeal.nD,
    (Cert.Pre_out_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_out_pre [hPre_out_pre : Cert.Pre_out_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_out_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_mid_pre [hPre_mid_pre : Cert.Pre_mid_pre.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_mid_pre.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_mid_pre [hPre_mid_pre : Cert.Pre_mid_pre.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_mid_pre.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_knn_pre [hPre_knn_pre : Cert.Pre_knn_pre.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_knn_pre.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_knn_pre [hPre_knn_pre : Cert.Pre_knn_pre.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_knn_pre.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_out_pre [hKernelIdeal : Cert.KernelIdeal.Facts] [hPre_out_pre : Cert.Pre_out_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_out_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_out_pre [hReferenceIdeal : Cert.ReferenceIdeal.Facts] [hPre_out_pre : Cert.Pre_out_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_out_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_mid_pre [hKernel2Ideal : Cert.Kernel2Ideal.Facts] [hPre_mid_pre : Cert.Pre_mid_pre.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_mid_pre m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_mid_pre [hReference2Ideal : Cert.Reference2Ideal.Facts] [hPre_mid_pre : Cert.Pre_mid_pre.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_mid_pre m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_knn_pre [hKernel3Ideal : Cert.Kernel3Ideal.Facts] [hPre_knn_pre : Cert.Pre_knn_pre.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_knn_pre m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_knn_pre [hReference3Ideal : Cert.Reference3Ideal.Facts] [hPre_knn_pre : Cert.Pre_knn_pre.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_knn_pre m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  True

def algebraic_KernelIdeal_ReferenceIdeal_pre_out_pre [hKernelIdeal : Cert.KernelIdeal.Facts] [hReferenceIdeal : Cert.ReferenceIdeal.Facts] [hPre_out_pre : Cert.Pre_out_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_out_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  IdealRules.named_const.Statement Cert.Kernel2Ideal.κ "third" .f32 0x3EAAAAAB#32 ((1 / 3 : ℝ) : EReal)

def algebraic_Kernel2Ideal_Reference2Ideal_pre_mid_pre [hKernel2Ideal : Cert.Kernel2Ideal.Facts] [hReference2Ideal : Cert.Reference2Ideal.Facts] [hPre_mid_pre : Cert.Pre_mid_pre.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_mid_pre m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)) (v4 : (c : Dev Cert.Kernel2Ideal.nD) → Buf (Elt Ideal) ((c.tc : Thread Cert.Kernel2Ideal.nD Cert.Kernel2Ideal.τ).loc Cert.Kernel2Ideal.main_v13_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_v13_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_v70) = v3 c
          ∧ r.2.mem ((c.tc : Thread Cert.Reference2Ideal.nD Cert.Reference2Ideal.τ).loc Cert.Reference2Ideal.main_v73) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal_pre_knn_pre [hKernel3Ideal : Cert.Kernel3Ideal.Facts] [hReference3Ideal : Cert.Reference3Ideal.Facts] [hPre_knn_pre : Cert.Pre_knn_pre.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_knn_pre m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)) (v1 : (c : Dev Cert.Kernel3Ideal.nD) → Buf (Elt Ideal) ((c.tc : Thread Cert.Kernel3Ideal.nD Cert.Kernel3Ideal.τ).loc Cert.Kernel3Ideal.main_v1_0)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_v1_0) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_out_pre : Cert.Pre_out_pre.Facts) (hPre_mid_pre : Cert.Pre_mid_pre.Facts) (hPre_knn_pre : Cert.Pre_knn_pre.Facts),
    quiescent_Kernel (hKernel := hKernel)
    ∧ quiescent_KernelIdeal (hKernelIdeal := hKernelIdeal)
    ∧ quiescent_KernelIdeal_pre_out_pre (hKernelIdeal := hKernelIdeal) (hPre_out_pre := hPre_out_pre)
    ∧ quiescent_ReferenceIdeal (hReferenceIdeal := hReferenceIdeal)
    ∧ quiescent_ReferenceIdeal_pre_out_pre (hReferenceIdeal := hReferenceIdeal) (hPre_out_pre := hPre_out_pre)
    ∧ quiescent_Kernel2 (hKernel2 := hKernel2)
    ∧ quiescent_Kernel2Ideal (hKernel2Ideal := hKernel2Ideal)
    ∧ quiescent_Kernel2Ideal_pre_mid_pre (hKernel2Ideal := hKernel2Ideal) (hPre_mid_pre := hPre_mid_pre)
    ∧ quiescent_Reference2Ideal (hReference2Ideal := hReference2Ideal)
    ∧ quiescent_Reference2Ideal_pre_mid_pre (hReference2Ideal := hReference2Ideal) (hPre_mid_pre := hPre_mid_pre)
    ∧ quiescent_Kernel3 (hKernel3 := hKernel3)
    ∧ quiescent_Kernel3Ideal (hKernel3Ideal := hKernel3Ideal)
    ∧ quiescent_Kernel3Ideal_pre_knn_pre (hKernel3Ideal := hKernel3Ideal) (hPre_knn_pre := hPre_knn_pre)
    ∧ quiescent_Reference3Ideal (hReference3Ideal := hReference3Ideal)
    ∧ quiescent_Reference3Ideal_pre_knn_pre (hReference3Ideal := hReference3Ideal) (hPre_knn_pre := hPre_knn_pre)
    ∧ preserves_Kernel_KernelIdeal
    ∧ algebraic_KernelIdeal_ReferenceIdeal_pre_out_pre (hKernelIdeal := hKernelIdeal) (hReferenceIdeal := hReferenceIdeal) (hPre_out_pre := hPre_out_pre)
    ∧ preserves_Kernel2_Kernel2Ideal
    ∧ algebraic_Kernel2Ideal_Reference2Ideal_pre_mid_pre (hKernel2Ideal := hKernel2Ideal) (hReference2Ideal := hReference2Ideal) (hPre_mid_pre := hPre_mid_pre)
    ∧ preserves_Kernel3_Kernel3Ideal
    ∧ algebraic_Kernel3Ideal_Reference3Ideal_pre_knn_pre (hKernel3Ideal := hKernel3Ideal) (hReference3Ideal := hReference3Ideal) (hPre_knn_pre := hPre_knn_pre)
-- ==== Pre_knn_pre.lean ====
abbrev S4x128x2048 : Shape := ⟨3, ![4, 128, 2048]⟩
abbrev S4x2048x3 : Shape := ⟨3, ![4, 2048, 3]⟩
abbrev S_ : Shape := ⟨0, ![]⟩

class Facts : Prop where
  bcast_S_S4x128x2048 : S_.BroadcastsInDim S4x128x2048 (![] : Fin 0 → Fin S4x128x2048.rank)
  reducesTo_S4x128x2048_S_d0_1_2 : S4x128x2048.ReducesTo [0, 1, 2] S_
  h_S_ : 0 < S_.numel
  bcast_S_S4x2048x3 : S_.BroadcastsInDim S4x2048x3 (![] : Fin 0 → Fin S4x2048x3.rank)
  reducesTo_S4x2048x3_S_d0_1_2 : S4x2048x3.ReducesTo [0, 1, 2] S_

variable [Facts]

def fn {F : FTy → Type} [FloatOps F] (main_arg0 : FVec F S4x128x2048 .f32) (main_arg1 : FVec F S4x2048x3 .f32) : IVec S_ 1 :=
  let main_v0 : FVec F S4x128x2048 .f32 := Host.absf main_arg0
  let main_cst : FVec F S_ .f32 := constant S_ .f32 0x7F800000#32
  let main_v1 : FVec F S4x128x2048 .f32 := broadcastInDim S4x128x2048 ![] bcast_S_S4x128x2048 main_cst
  let main_v2 : IVec S4x128x2048 1 := cmpf .olt main_v0 main_v1
  let main_c : IVec S_ 1 := constantI S_ 1 1#1
  let main_v3 : IVec S_ 1 := (fun x v => Host.reduce IntOp.andi x v reducesTo_S4x128x2048_S_d0_1_2 h_S_) main_v2 main_c
  let main_v4 : FVec F S4x2048x3 .f32 := Host.absf main_arg1
  let main_cst_0 : FVec F S_ .f32 := constant S_ .f32 0x7F800000#32
  let main_v5 : FVec F S4x2048x3 .f32 := broadcastInDim S4x2048x3 ![] bcast_S_S4x2048x3 main_cst_0
  let main_v6 : IVec S4x2048x3 1 := cmpf .olt main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  main_v8
-- ==== Pre_mid_pre.lean ====
abbrev S24576x128 : Shape := ⟨2, ![24576, 128]⟩
abbrev S1x128 : Shape := ⟨2, ![1, 128]⟩
abbrev S128x128 : Shape := ⟨2, ![128, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S24576x128 : S_.BroadcastsInDim S24576x128 (![] : Fin 0 → Fin S24576x128.rank)
  reducesTo_S24576x128_S_d0_1 : S24576x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S24576x128_S128_d0 : S24576x128.ReducesTo [0] S128
  bcast_S128_S1x128_1 : S128.BroadcastsInDim S1x128 (![1] : Fin 1 → Fin S1x128.rank)
  reducesTo_S1x128_S_d0_1 : S1x128.ReducesTo [0, 1] S_
  dot_S24576x128_S24576x128_S128x128_0_0_1_1_n_n_wf : DotDims.WF S24576x128 S24576x128 S128x128 [0] [0] [1] [1] [] []

variable [Facts]

def dot_S24576x128_S24576x128_S128x128_0_0_1_1_n_n : DotDims S24576x128 S24576x128 S128x128 where
  lhsContracting := [0]
  rhsContracting := [0]
  lhsNonContracting := [1]
  rhsNonContracting := [1]
  lhsBatch := []
  rhsBatch := []
  wf := dot_S24576x128_S24576x128_S128x128_0_0_1_1_n_n_wf
def fn_part3 {F : FTy → Type} [FloatOps F] (main_v48 : IVec S_ 1) (main_v50 : IVec S128x128 1) (main_c_18 : IVec S_ 1) : IVec S_ 1 :=
  let main_v51 : IVec S_ 1 := (fun x v => Host.reduce IntOp.andi x v reducesTo_S128x128_S_d0_1 h_S_) main_v50 main_c_18
  let main_v52 : IVec S_ 1 := andi main_v48 main_v51
  main_v52

def fn_part2 {F : FTy → Type} [FloatOps F] (main_arg0 : FVec F S24576x128 .f32) (main_arg1 : FVec F S1x128 .f32) (main_arg2 : FVec F S128x128 .f32) (main_arg10 : FVec F S128 .f32) (main_arg11 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_cst_16 : FVec F S_ .f32 := constant S_ .f32 0x00000000#32
  let main_v44 : FVec F S128 .f32 := (fun x v => Host.reduceAdd x v reducesTo_S24576x128_S128_d0 h_S_) main_arg0 main_cst_16
  let main_v45 : FVec F S1x128 .f32 := broadcastInDim S1x128 ![1] bcast_S128_S1x128_1 main_v44
  let main_v46 : IVec S1x128 1 := cmpf .oeq main_arg1 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S128x128 .f32 := (fun l r => Host.dotGeneral dot_S24576x128_S24576x128_S128x128_0_0_1_1_n_n none l r) main_arg0 main_arg0
  let main_v50 : IVec S128x128 1 := cmpf .oeq main_arg2 main_v49
  let main_c_18 : IVec S_ 1 := constantI S_ 1 1#1
  fn_part3 (F := F) main_v48 main_v50 main_c_18

def fn_part1 {F : FTy → Type} [FloatOps F] (main_arg0 : FVec F S24576x128 .f32) (main_arg1 : FVec F S1x128 .f32) (main_arg2 : FVec F S128x128 .f32) (main_arg6 : FVec F S256 .f32) (main_arg7 : FVec F S128x256 .f32) (main_arg9 : FVec F S128x128 .f32) (main_arg10 : FVec F S128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg1 main_arg2 main_arg10 main_arg11 main_v33

def fn {F : FTy → Type} [FloatOps F] (main_arg0 : FVec F S24576x128 .f32) (main_arg1 : FVec F S1x128 .f32) (main_arg2 : FVec F S128x128 .f32) (main_arg3 : FVec F S256x128 .f32) (main_arg4 : FVec F S256 .f32) (main_arg5 : FVec F S256 .f32) (main_arg6 : FVec F S256 .f32) (main_arg7 : FVec F S128x256 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S24576x128 .f32 := Host.absf main_arg0
  let main_cst : FVec F S_ .f32 := constant S_ .f32 0x7F800000#32
  let main_v1 : FVec F S24576x128 .f32 := broadcastInDim S24576x128 ![] bcast_S_S24576x128 main_cst
  let main_v2 : IVec S24576x128 1 := cmpf .olt main_v0 main_v1
  let main_c : IVec S_ 1 := constantI S_ 1 1#1
  let main_v3 : IVec S_ 1 := (fun x v => Host.reduce IntOp.andi x v reducesTo_S24576x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg1 main_arg2 main_arg6 main_arg7 main_arg9 main_arg10 main_arg11 main_v13 main_v16
-- ==== Pre_out_pre.lean ====
abbrev S24576x128 : Shape := ⟨2, ![24576, 128]⟩
abbrev S128x128 : Shape := ⟨2, ![128, 128]⟩
abbrev S1x128 : Shape := ⟨2, ![1, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S1x128_S24576x128_0_1 : S1x128.BroadcastsInDim S24576x128 (![0, 1] : Fin 2 → Fin S24576x128.rank)
  bcast_S_S24576x128 : S_.BroadcastsInDim S24576x128 (![] : Fin 0 → Fin S24576x128.rank)
  reducesTo_S24576x128_S_d0_1 : S24576x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  reducesTo_S24576x128_S128_d0 : S24576x128.ReducesTo [0] S128
  bcast_S128_S1x128_1 : S128.BroadcastsInDim S1x128 (![1] : Fin 1 → Fin S1x128.rank)
  dot_S24576x128_S128x128_S24576x128_1_0_0_1_n_n_wf : DotDims.WF S24576x128 S128x128 S24576x128 [1] [0] [0] [1] [] []
  dot_S24576x128_S24576x128_S128x128_0_0_1_1_n_n_wf : DotDims.WF S24576x128 S24576x128 S128x128 [0] [0] [1] [1] [] []

variable [Facts]

def dot_S24576x128_S128x128_S24576x128_1_0_0_1_n_n : DotDims S24576x128 S128x128 S24576x128 where
  lhsContracting := [1]
  rhsContracting := [0]
  lhsNonContracting := [0]
  rhsNonContracting := [1]
  lhsBatch := []
  rhsBatch := []
  wf := dot_S24576x128_S128x128_S24576x128_1_0_0_1_n_n_wf
def dot_S24576x128_S24576x128_S128x128_0_0_1_1_n_n : DotDims S24576x128 S24576x128 S128x128 where
  lhsContracting := [0]
  rhsContracting := [0]
  lhsNonContracting := [1]
  rhsNonContracting := [1]
  lhsBatch := []
  rhsBatch := []
  wf := dot_S24576x128_S24576x128_S128x128_0_0_1_1_n_n_wf
def fn_relu {F : FTy → Type} [FloatOps F] (arg0 : FVec F S24576x128 .f32) : FVec F S24576x128 .f32 :=
  let cst : FVec F S_ .f32 := constant S_ .f32 0x00000000#32
  let v0 : FVec F S24576x128 .f32 := broadcastInDim S24576x128 ![] bcast_S_S24576x128 cst
  let v1 : FVec F S24576x128 .f32 := maximumf arg0 v0
  v1

def fn_part2 {F : FTy → Type} [FloatOps F] (main_arg3 : FVec F S1x128 .f32) (main_arg4 : FVec F S128x128 .f32) (main_v3 : FVec F S24576x128 .f32) (main_v32 : IVec S_ 1) (main_v34 : FVec F S1x128 .f32) : IVec S_ 1 :=
  let main_v35 : IVec S1x128 1 := cmpf .oeq main_arg3 main_v34
  let main_c_11 : IVec S_ 1 := constantI S_ 1 1#1
  let main_v36 : IVec S_ 1 := (fun x v => Host.reduce IntOp.andi x v reducesTo_S1x128_S_d0_1 h_S_) main_v35 main_c_11
  let main_v37 : IVec S_ 1 := andi main_v32 main_v36
  let main_v38 : FVec F S128x128 .f32 := (fun l r => Host.dotGeneral dot_S24576x128_S24576x128_S128x128_0_0_1_1_n_n none l r) main_v3 main_v3
  let main_v39 : IVec S128x128 1 := cmpf .oeq main_arg4 main_v38
  let main_c_12 : IVec S_ 1 := constantI S_ 1 1#1
  let main_v40 : IVec S_ 1 := (fun x v => Host.reduce IntOp.andi x v reducesTo_S128x128_S_d0_1 h_S_) main_v39 main_c_12
  let main_v41 : IVec S_ 1 := andi main_v37 main_v40
  main_v41

def fn_part1 {F : FTy → Type} [FloatOps F] (main_arg3 : FVec F S1x128 .f32) (main_arg4 : FVec F S128x128 .f32) (main_arg5 : FVec F S128x128 .f32) (main_arg6 : FVec F S128 .f32) (main_arg7 : FVec F S128 .f32) (main_v3 : FVec F S24576x128 .f32) (main_v17 : IVec S_ 1) : IVec S_ 1 :=
  let main_v18 : FVec F S128x128 .f32 := Host.absf main_arg5
  let main_cst_4 : FVec F S_ .f32 := constant S_ .f32 0x7F800000#32
  let main_v19 : FVec F S128x128 .f32 := broadcastInDim S128x128 ![] bcast_S_S128x128 main_cst_4
  let main_v20 : IVec S128x128 1 := cmpf .olt main_v18 main_v19
  let main_c_5 : IVec S_ 1 := constantI S_ 1 1#1
  let main_v21 : IVec S_ 1 := (fun x v => Host.reduce IntOp.andi x v reducesTo_S128x128_S_d0_1 h_S_) main_v20 main_c_5
  let main_v22 : IVec S_ 1 := andi main_v17 main_v21
  let main_v23 : FVec F S128 .f32 := Host.absf main_arg6
  let main_cst_6 : FVec F S_ .f32 := constant S_ .f32 0x7F800000#32
  let main_v24 : FVec F S128 .f32 := broadcastInDim S128 ![] bcast_S_S128 main_cst_6
  let main_v25 : IVec S128 1 := cmpf .olt main_v23 main_v24
  let main_c_7 : IVec S_ 1 := constantI S_ 1 1#1
  let main_v26 : IVec S_ 1 := (fun x v => Host.reduce IntOp.andi x v reducesTo_S128_S_d0 h_S_) main_v25 main_c_7
  let main_v27 : IVec S_ 1 := andi main_v22 main_v26
  let main_v28 : FVec F S128 .f32 := Host.absf main_arg7
  let main_cst_8 : FVec F S_ .f32 := constant S_ .f32 0x7F800000#32
  let main_v29 : FVec F S128 .f32 := broadcastInDim S128 ![] bcast_S_S128 main_cst_8
  let main_v30 : IVec S128 1 := cmpf .olt main_v28 main_v29
  let main_c_9 : IVec S_ 1 := constantI S_ 1 1#1
  let main_v31 : IVec S_ 1 := (fun x v => Host.reduce IntOp.andi x v reducesTo_S128_S_d0 h_S_) main_v30 main_c_9
  let main_v32 : IVec S_ 1 := andi main_v27 main_v31
  let main_cst_10 : FVec F S_ .f32 := constant S_ .f32 0x00000000#32
  let main_v33 : FVec F S128 .f32 := (fun x v => Host.reduceAdd x v reducesTo_S24576x128_S128_d0 h_S_) main_v3 main_cst_10
  let main_v34 : FVec F S1x128 .f32 := broadcastInDim S1x128 ![1] bcast_S128_S1x128_1 main_v33
  fn_part2 (F := F) main_arg3 main_arg4 main_v3 main_v32 main_v34

def fn {F : FTy → Type} [FloatOps F] (main_arg0 : FVec F S24576x128 .f32) (main_arg1 : FVec F S128x128 .f32) (main_arg2 : FVec F S1x128 .f32) (main_arg3 : FVec F S1x128 .f32) (main_arg4 : FVec F S128x128 .f32) (main_arg5 : FVec F S128x128 .f32) (main_arg6 : FVec F S128 .f32) (main_arg7 : FVec F S128 .f32) (main_arg8 : FVec F S128 .f32) (main_arg9 : FVec F S2x128 .f32) (main_arg10 : FVec F S2 .f32) : IVec S_ 1 :=
  let main_v0 : FVec F S24576x128 .f32 := (fun l r => Host.dotGeneral dot_S24576x128_S128x128_S24576x128_1_0_0_1_n_n none l r) main_arg0 main_arg1
  let main_v1 : FVec F S24576x128 .f32 := broadcastInDim S24576x128 ![0, 1] bcast_S1x128_S24576x128_0_1 main_arg2
  let main_v2 : FVec F S24576x128 .f32 := addf main_v0 main_v1
  let main_v3 : FVec F S24576x128 .f32 := fn_relu (F := F) main_v2
  let main_v4 : FVec F S24576x128 .f32 := Host.absf main_arg0
  let main_cst : FVec F S_ .f32 := constant S_ .f32 0x7F800000#32
  let main_v5 : FVec F S24576x128 .f32 := broadcastInDim S24576x128 ![] bcast_S_S24576x128 main_cst
  let main_v6 : IVec S24576x128 1 := cmpf .olt main_v4 main_v5
  let main_c : IVec S_ 1 := constantI S_ 1 1#1
  let main_v7 : IVec S_ 1 := (fun x v => Host.reduce IntOp.andi x v reducesTo_S24576x128_S_d0_1 h_S_) main_v6 main_c
  let main_v8 : FVec F S128x128 .f32 := Host.absf main_arg1
  let main_cst_0 : FVec F S_ .f32 := constant S_ .f32 0x7F800000#32
  let main_v9 : FVec F S128x128 .f32 := broadcastInDim S128x128 ![] bcast_S_S128x128 main_cst_0
  let main_v10 : IVec S128x128 1 := cmpf .olt main_v8 main_v9
  let main_c_1 : IVec S_ 1 := constantI S_ 1 1#1
  let main_v11 : IVec S_ 1 := (fun x v => Host.reduce IntOp.andi x v reducesTo_S128x128_S_d0_1 h_S_) main_v10 main_c_1
  let main_v12 : IVec S_ 1 := andi main_v7 main_v11
  let main_v13 : FVec F S1x128 .f32 := Host.absf main_arg2
  let main_cst_2 : FVec F S_ .f32 := constant S_ .f32 0x7F800000#32
  let main_v14 : FVec F S1x128 .f32 := broadcastInDim S1x128 ![] bcast_S_S1x128 main_cst_2
  let main_v15 : IVec S1x128 1 := cmpf .olt main_v13 main_v14
  let main_c_3 : IVec S_ 1 := constantI S_ 1 1#1
  let main_v16 : IVec S_ 1 := (fun x v => Host.reduce IntOp.andi x v reducesTo_S1x128_S_d0_1 h_S_) main_v15 main_c_3
  let main_v17 : IVec S_ 1 := andi main_v12 main_v16
  fn_part1 (F := F) main_arg3 main_arg4 main_arg5 main_arg6 main_arg7 main_v3 main_v17
-- ==== Kernel.lean ====
abbrev S24576x128 : Shape := ⟨2, ![24576, 128]⟩
abbrev S128x128 : Shape := ⟨2, ![128, 128]⟩
abbrev S1x128 : Shape := ⟨2, ![1, 128]⟩
abbrev S128 : Shape := ⟨1, ![128]⟩
abbrev S2x128 : Shape := ⟨2, ![2, 128]⟩
abbrev S2 : Shape := ⟨1, ![2]⟩
abbrev S_ : Shape := ⟨0, ![]⟩
abbrev S1x1 : Shape := ⟨2, ![1, 1]⟩
abbrev S128x2 : Shape := ⟨2, ![128, 2]⟩
abbrev S2x1 : Shape := ⟨2, ![2, 1]⟩
abbrev S4x2x6144 : Shape := ⟨3, ![4, 2, 6144]⟩
abbrev S6144x128 : Shape := ⟨2, ![6144, 128]⟩
abbrev S1x2x6144 : Shape := ⟨3, ![1, 2, 6144]⟩
abbrev S2x6144 : Shape := ⟨2, ![2, 6144]⟩

abbrev nBuf : Space → Nat
  | .hbm => 23
  | .vmem => 17
  | .smem => 0
  | _ => 0

abbrev bufTy : (tb : Table) → Fin (tcTables nBuf tb) → BufTy
  | .hbm, ⟨0, _⟩ => ⟨S24576x128, .f32⟩
  | .hbm, ⟨1, _⟩ => ⟨S128x128, .f32⟩
  | .hbm, ⟨2, _⟩ => ⟨S1x128, .f32⟩
  | .hbm, ⟨3, _⟩ => ⟨S1x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S2x128, .f32⟩
  | .hbm, ⟨10, _⟩ => ⟨S2, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S1x1, .f32⟩
  | .hbm, ⟨16, _⟩ => ⟨S128x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S128x2, .f32⟩
  | .hbm, ⟨21, _⟩ => ⟨S2x1, .f32⟩
  | .hbm, ⟨22, _⟩ => ⟨S4x2x6144, .f32⟩
  | .local _ .vmem, ⟨0, _⟩ => ⟨S6144x128, .f32⟩
  | .local _ .vmem, ⟨1, _⟩ => ⟨S6144x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x2, .f32⟩
  | .local _ .vmem, ⟨11, _⟩ => ⟨S2x1, .f32⟩
  | .local _ .vmem, ⟨12, _⟩ => ⟨S1x1, .f32⟩
  | .local _ .vmem, ⟨13, _⟩ => ⟨S1x2x6144, .f32⟩
  | .local _ .vmem, ⟨14, _⟩ => ⟨S1x2x6144, .f32⟩
  | .local _ .vmem, ⟨15, _⟩ => ⟨S128x128, .f32⟩
  | .local _ .vmem, ⟨16, _⟩ => ⟨S1x128, .f32⟩
  | _, _ => ⟨S24576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6144x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2x6144 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S24576x128 : Shape := ⟨2, ![24576, 128]⟩
abbrev S128x128 : Shape := ⟨2, ![128, 128]⟩
abbrev S1x128 : Shape := ⟨2, ![1, 128]⟩
abbrev S128 : Shape := ⟨1, ![128]⟩
abbrev S2x128 : Shape := ⟨2, ![2, 128]⟩
abbrev S2 : Shape := ⟨1, ![2]⟩
abbrev S_ : Shape := ⟨0, ![]⟩
abbrev S4x6144x128 : Shape := ⟨3, ![4, 6144, 128]⟩
abbrev S4x6144x2 : Shape := ⟨3, ![4, 6144, 2]⟩
abbrev S4x2x6144 : Shape := ⟨3, ![4, 2, 6144]⟩
abbrev S1x2x1 : Shape := ⟨3, ![1, 2, 1]⟩

abbrev nBuf : Space → Nat
  | .hbm => 74
  | .vmem => 0
  | .smem => 0
  | _ => 0

abbrev bufTy : (tb : Table) → Fin (tcTables nBuf tb) → BufTy
  | .hbm, ⟨0, _⟩ => ⟨S24576x128, .f32⟩
  | .hbm, ⟨1, _⟩ => ⟨S128x128, .f32⟩
  | .hbm, ⟨2, _⟩ => ⟨S1x128, .f32⟩
  | .hbm, ⟨3, _⟩ => ⟨S1x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S2x128, .f32⟩
  | .hbm, ⟨10, _⟩ => ⟨S2, .f32⟩
  | .hbm, ⟨11, _⟩ => ⟨S24576x128, .f32⟩
  | .hbm, ⟨12, _⟩ => ⟨S24576x128, .f32⟩
  | .hbm, ⟨13, _⟩ => ⟨S24576x128, .f32⟩
  | .hbm, ⟨14, _⟩ => ⟨S_, .f32⟩
  | .hbm, ⟨15, _⟩ => ⟨S24576x128, .f32⟩
  | .hbm, ⟨16, _⟩ => ⟨S24576x128, .f32⟩
  | .hbm, ⟨17, _⟩ => ⟨S24576x128, .f32⟩
  | .hbm, ⟨18, _⟩ => ⟨S1x128, .f32⟩
  | .hbm, ⟨19, _⟩ => ⟨S24576x128, .f32⟩
  | .hbm, ⟨20, _⟩ => ⟨S24576x128, .f32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S24576x128, .f32⟩
  | .hbm, ⟨35, _⟩ => ⟨S24576x128, .f32⟩
  | .hbm, ⟨36, _⟩ => ⟨S24576x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S24576x128, .f32⟩
  | .hbm, ⟨53, _⟩ => ⟨S24576x128, .f32⟩
  | .hbm, ⟨54, _⟩ => ⟨S24576x128, .f32⟩
  | .hbm, ⟨55, _⟩ => ⟨S24576x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S24576x128, .f32⟩
  | .hbm, ⟨61, _⟩ => ⟨S24576x128, .f32⟩
  | .hbm, ⟨62, _⟩ => ⟨S1x128, .f32⟩
  | .hbm, ⟨63, _⟩ => ⟨S24576x128, .f32⟩
  | .hbm, ⟨64, _⟩ => ⟨S24576x128, .f32⟩
  | .hbm, ⟨65, _⟩ => ⟨S_, .f32⟩
  | .hbm, ⟨66, _⟩ => ⟨S24576x128, .f32⟩
  | .hbm, ⟨67, _⟩ => ⟨S24576x128, .f32⟩
  | .hbm, ⟨68, _⟩ => ⟨S4x6144x128, .f32⟩
  | .hbm, ⟨69, _⟩ => ⟨S4x6144x2, .f32⟩
  | .hbm, ⟨70, _⟩ => ⟨S4x2x6144, .f32⟩
  | .hbm, ⟨71, _⟩ => ⟨S1x2x1, .f32⟩
  | .hbm, ⟨72, _⟩ => ⟨S4x2x6144, .f32⟩
  | .hbm, ⟨73, _⟩ => ⟨S4x2x6144, .f32⟩
  | _, _ => ⟨S24576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_cst : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_cst_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_cst_1 : Ref sig .tc := ⟨.hbm, 38, rfl⟩
abbrev main_call1_v8 : Ref sig .tc := ⟨.hbm, 39, rfl⟩
abbrev main_call1_cst_2 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_cst_3 : Ref sig .tc := ⟨.hbm, 45, rfl⟩
abbrev main_call1_v13 : Ref sig .tc := ⟨.hbm, 46, rfl⟩
abbrev main_call1_cst_4 : Ref sig .tc := ⟨.hbm, 47, rfl⟩
abbrev main_call1_call0_v0 : Ref sig .tc := ⟨.hbm, 48, rfl⟩
abbrev main_call1_call0_v1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_1 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_call2_cst : Ref sig .tc := ⟨.hbm, 65, rfl⟩
abbrev main_call2_v0 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩

abbrev nD : Nat := 1
abbrev τ : Topo := Topo.v7x

variable {F : FTy → Type} [FloatOps F]
-- ==== Kernel2.lean ====
abbrev S24576x128 : Shape := ⟨2, ![24576, 128]⟩
abbrev S1x128 : Shape := ⟨2, ![1, 128]⟩
abbrev S128x128 : Shape := ⟨2, ![128, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩
abbrev S1x1 : Shape := ⟨2, ![1, 1]⟩
abbrev S1x256 : Shape := ⟨2, ![1, 256]⟩
abbrev S4x128x2048 : Shape := ⟨3, ![4, 128, 2048]⟩
abbrev S6144x128 : Shape := ⟨2, ![6144, 128]⟩
abbrev S1x128x2048 : Shape := ⟨3, ![1, 128, 2048]⟩
abbrev S128x1 : Shape := ⟨2, ![128, 1]⟩
abbrev S2048x3x128 : Shape := ⟨3, ![2048, 3, 128]⟩
abbrev S2048x1x128 : Shape := ⟨3, ![2048, 1, 128]⟩
abbrev S2048x128 : Shape := ⟨2, ![2048, 128]⟩
abbrev S128x2048 : Shape := ⟨2, ![128, 2048]⟩

abbrev nBuf : Space → Nat
  | .hbm => 33
  | .vmem => 25
  | .smem => 0
  | _ => 0

abbrev bufTy : (tb : Table) → Fin (tcTables nBuf tb) → BufTy
  | .hbm, ⟨0, _⟩ => ⟨S24576x128, .f32⟩
  | .hbm, ⟨1, _⟩ => ⟨S1x128, .f32⟩
  | .hbm, ⟨2, _⟩ => ⟨S128x128, .f32⟩
  | .hbm, ⟨3, _⟩ => ⟨S256x128, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S1x1, .f32⟩
  | .hbm, ⟨18, _⟩ => ⟨S128x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S256x128, .f32⟩
  | .hbm, ⟨23, _⟩ => ⟨S1x128, .f32⟩
  | .hbm, ⟨24, _⟩ => ⟨S128x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S128x128, .f32⟩
  | .hbm, ⟨30, _⟩ => ⟨S4x128x2048, .f32⟩
  | .hbm, ⟨31, _⟩ => ⟨S128x128, .f32⟩
  | .hbm, ⟨32, _⟩ => ⟨S1x128, .f32⟩
  | .local _ .vmem, ⟨0, _⟩ => ⟨S6144x128, .f32⟩
  | .local _ .vmem, ⟨1, _⟩ => ⟨S6144x128, .f32⟩
  | .local _ .vmem, ⟨2, _⟩ => ⟨S1x128, .f32⟩
  | .local _ .vmem, ⟨3, _⟩ => ⟨S128x128, .f32⟩
  | .local _ .vmem, ⟨4, _⟩ => ⟨S128x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x1, .f32⟩
  | .local _ .vmem, ⟨15, _⟩ => ⟨S1x128, .f32⟩
  | .local _ .vmem, ⟨16, _⟩ => ⟨S128x128, .f32⟩
  | .local _ .vmem, ⟨17, _⟩ => ⟨S1x128x2048, .f32⟩
  | .local _ .vmem, ⟨18, _⟩ => ⟨S1x128x2048, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S128x1, .f32⟩
  | _, _ => ⟨S24576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev main_v13_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg18_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem18_0 : DmaSem sig := 20

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6144x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Kernel2Ideal.lean ====
variable {F : FTy → Type} [FloatOps F] [Named F]
def κ : String → Option EReal := fun
  | "third" => some ((1 / 3 : ℝ) : EReal)
  | _ => none
-- ==== Reference2Ideal.lean ====
abbrev S24576x128 : Shape := ⟨2, ![24576, 128]⟩
abbrev S1x128 : Shape := ⟨2, ![1, 128]⟩
abbrev S128x128 : Shape := ⟨2, ![128, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S24576x256 : Shape := ⟨2, ![24576, 256]⟩
abbrev S1x256 : Shape := ⟨2, ![1, 256]⟩
abbrev S_ : Shape := ⟨0, ![]⟩
abbrev S4x2048x3x256 : Shape := ⟨4, ![4, 2048, 3, 256]⟩
abbrev S4x2048x256 : Shape := ⟨3, ![4, 2048, 256]⟩
abbrev S4x2048x128 : Shape := ⟨3, ![4, 2048, 128]⟩
abbrev S4x128x2048 : Shape := ⟨3, ![4, 128, 2048]⟩
abbrev S1x128x1 : Shape := ⟨3, ![1, 128, 1]⟩

abbrev nBuf : Space → Nat
  | .hbm => 169
  | .vmem => 0
  | .smem => 0
  | _ => 0

abbrev hbmTy0_0 (i : Nat) : BufTy := match i % 128 with
  | 0 => ⟨S24576x128, .f32⟩
  | 1 => ⟨S1x128, .f32⟩
  | 2 => ⟨S128x128, .f32⟩
  | 3 => ⟨S256x128, .f32⟩
  | 4 => ⟨S256, .f32⟩
  | 5 => ⟨S256, .f32⟩
  | 6 => ⟨S256, .f32⟩
  | 7 => ⟨S128x256, .f32⟩
  | 8 => ⟨S128, .f32⟩
  | 9 => ⟨S128x128, .f32⟩
  | 10 => ⟨S128, .f32⟩
  | 11 => ⟨S128, .f32⟩
  | 12 => ⟨S128, .f32⟩
  | 13 => ⟨S24576x256, .f32⟩
  | 14 => ⟨S1x256, .f32⟩
  | 15 => ⟨S24576x256, .f32⟩
  | 16 => ⟨S24576x256, .f32⟩
  | 17 => ⟨S_, .f32⟩
  | 18 => ⟨S256, .f32⟩
  | 19 => ⟨S1x256, .f32⟩
  | 20 => ⟨S_, .f32⟩
  | 21 => ⟨S1x256, .f32⟩
  | 22 => ⟨S1x256, .f32⟩
  | 23 => ⟨S_, .i32⟩
  | 24 => ⟨S_, .f32⟩
  | 25 => ⟨S256, .f32⟩
  | 26 => ⟨S1x256, .f32⟩
  | 27 => ⟨S_, .f32⟩
  | 28 => ⟨S1x256, .f32⟩
  | 29 => ⟨S1x256, .f32⟩
  | 30 => ⟨S24576x256, .f32⟩
  | 31 => ⟨S24576x256, .f32⟩
  | 32 => ⟨S24576x256, .f32⟩
  | 33 => ⟨S_, .f32⟩
  | 34 => ⟨S_, .f32⟩
  | 35 => ⟨S_, .f32⟩
  | 36 => ⟨S_, .f32⟩
  | 37 => ⟨S256, .f32⟩
  | 38 => ⟨S1x256, .f32⟩
  | 39 => ⟨S1x256, .f32⟩
  | 40 => ⟨S1x256, .f32⟩
  | 41 => ⟨S_, .f32⟩
  | 42 => ⟨S_, .i1⟩
  | 43 => ⟨S_, .f32⟩
  | 44 => ⟨S_, .f32⟩
  | 45 => ⟨S1x256, .f32⟩
  | 46 => ⟨S1x256, .f32⟩
  | 47 => ⟨S1x256, .f32⟩
  | 48 => ⟨S24576x256, .f32⟩
  | 49 => ⟨S24576x256, .f32⟩
  | 50 => ⟨S24576x256, .f32⟩
  | 51 => ⟨S24576x256, .f32⟩
  | 52 => ⟨S_, .f32⟩
  | 53 => ⟨S1x256, .f32⟩
  | 54 => ⟨S1x256, .f32⟩
  | 55 => ⟨S1x256, .f32⟩
  | 56 => ⟨S24576x256, .f32⟩
  | 57 => ⟨S24576x256, .f32⟩
  | 58 => ⟨S1x256, .f32⟩
  | 59 => ⟨S24576x256, .f32⟩
  | 60 => ⟨S24576x256, .f32⟩
  | 61 => ⟨S4x2048x3x256, .f32⟩
  | 62 => ⟨S_, .f32⟩
  | 63 => ⟨S4x2048x256, .f32⟩
  | 64 => ⟨S_, .f32⟩
  | 65 => ⟨S4x2048x256, .f32⟩
  | 66 => ⟨S4x2048x256, .f32⟩
  | 67 => ⟨S4x2048x128, .f32⟩
  | 68 => ⟨S4x128x2048, .f32⟩
  | 69 => ⟨S1x128x1, .f32⟩
  | 70 => ⟨S4x128x2048, .f32⟩
  | 71 => ⟨S4x128x2048, .f32⟩
  | 72 => ⟨S24576x128, .f32⟩
  | 73 => ⟨S1x128, .f32⟩
  | 74 => ⟨S24576x128, .f32⟩
  | 75 => ⟨S24576x128, .f32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S24576x128, .f32⟩
  | 90 => ⟨S24576x128, .f32⟩
  | 91 => ⟨S24576x128, .f32⟩
  | 92 => ⟨S_, .f32⟩
  | 93 => ⟨S_, .f32⟩
  | 94 => ⟨S_, .f32⟩
  | 95 => ⟨S_, .f32⟩
  | 96 => ⟨S128, .f32⟩
  | 97 => ⟨S1x128, .f32⟩
  | 98 => ⟨S1x128, .f32⟩
  | 99 => ⟨S1x128, .f32⟩
  | 100 => ⟨S_, .f32⟩
  | 101 => ⟨S_, .i1⟩
  | 102 => ⟨S_, .f32⟩
  | 103 => ⟨S_, .f32⟩
  | 104 => ⟨S1x128, .f32⟩
  | 105 => ⟨S1x128, .f32⟩
  | 106 => ⟨S1x128, .f32⟩
  | 107 => ⟨S24576x128, .f32⟩
  | 108 => ⟨S24576x128, .f32⟩
  | 109 => ⟨S24576x128, .f32⟩
  | 110 => ⟨S24576x128, .f32⟩
  | 111 => ⟨S_, .f32⟩
  | 112 => ⟨S1x128, .f32⟩
  | 113 => ⟨S1x128, .f32⟩
  | 114 => ⟨S1x128, .f32⟩
  | 115 => ⟨S24576x128, .f32⟩
  | 116 => ⟨S24576x128, .f32⟩
  | 117 => ⟨S1x128, .f32⟩
  | 118 => ⟨S24576x128, .f32⟩
  | 119 => ⟨S24576x128, .f32⟩
  | 120 => ⟨S_, .f32⟩
  | 121 => ⟨S24576x128, .f32⟩
  | 122 => ⟨S24576x128, .f32⟩
  | 123 => ⟨S_, .i32⟩
  | 124 => ⟨S_, .f32⟩
  | 125 => ⟨S128, .f32⟩
  | 126 => ⟨S1x128, .f32⟩
  | 127 => ⟨S_, .f32⟩
  | _ => ⟨S24576x128, .f32⟩

abbrev hbmTy0_1 (i : Nat) : BufTy := match i % 128 with
  | 0 => ⟨S1x128, .f32⟩
  | 1 => ⟨S1x128, .f32⟩
  | 2 => ⟨S24576x128, .f32⟩
  | 3 => ⟨S24576x128, .f32⟩
  | 4 => ⟨S24576x128, .f32⟩
  | 5 => ⟨S_, .f32⟩
  | 6 => ⟨S_, .f32⟩
  | 7 => ⟨S_, .f32⟩
  | 8 => ⟨S_, .f32⟩
  | 9 => ⟨S128, .f32⟩
  | 10 => ⟨S128, .f32⟩
  | 11 => ⟨S128, .f32⟩
  | 12 => ⟨S_, .f32⟩
  | 13 => ⟨S_, .i1⟩
  | 14 => ⟨S_, .f32⟩
  | 15 => ⟨S_, .f32⟩
  | 16 => ⟨S128, .f32⟩
  | 17 => ⟨S128, .f32⟩
  | 18 => ⟨S_, .f32⟩
  | 19 => ⟨S128, .f32⟩
  | 20 => ⟨S128, .f32⟩
  | 21 => ⟨S128, .f32⟩
  | 22 => ⟨S128, .f32⟩
  | 23 => ⟨S_, .f32⟩
  | 24 => ⟨S128, .f32⟩
  | 25 => ⟨S_, .f32⟩
  | 26 => ⟨S128, .f32⟩
  | 27 => ⟨S128, .f32⟩
  | 28 => ⟨S128, .f32⟩
  | 29 => ⟨S128, .f32⟩
  | 30 => ⟨S_, .f32⟩
  | 31 => ⟨S128, .f32⟩
  | 32 => ⟨S1x128, .f32⟩
  | 33 => ⟨S128x128, .f32⟩
  | 34 => ⟨S128x128, .f32⟩
  | 35 => ⟨S1x128, .f32⟩
  | 36 => ⟨S128x128, .f32⟩
  | 37 => ⟨S128x128, .f32⟩
  | 38 => ⟨S128, .f32⟩
  | 39 => ⟨S128, .f32⟩
  | 40 => ⟨S1x128, .f32⟩
  | _ => ⟨S24576x128, .f32⟩

abbrev hbmTy (i : Nat) : BufTy := match i / 128 with
  | 0 => hbmTy0_0 i
  | 1 => hbmTy0_1 i
  | _ => ⟨S24576x128, .f32⟩

abbrev bufTy : (tb : Table) → Fin (tcTables nBuf tb) → BufTy
  | .hbm, ⟨i, _⟩ => hbmTy i
  | _, _ => ⟨S24576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_1 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_2 : Ref sig .tc := ⟨.hbm, 62, rfl⟩
abbrev main_v23 : Ref sig .tc := ⟨.hbm, 63, rfl⟩
abbrev main_cst_3 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_4 : Ref sig .tc := ⟨.hbm, 76, rfl⟩
abbrev main_v35 : Ref sig .tc := ⟨.hbm, 77, rfl⟩
abbrev main_v36 : Ref sig .tc := ⟨.hbm, 78, rfl⟩
abbrev main_cst_5 : Ref sig .tc := ⟨.hbm, 79, rfl⟩
abbrev main_v37 : Ref sig .tc := ⟨.hbm, 80, rfl⟩
abbrev main_v38 : Ref sig .tc := ⟨.hbm, 81, rfl⟩
abbrev main_c_6 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_v12 : Ref sig .tc := ⟨.hbm, 99, rfl⟩
abbrev main_call1_cst_3 : Ref sig .tc := ⟨.hbm, 100, rfl⟩
abbrev main_call1_v13 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_cst_7 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_call2_cst : Ref sig .tc := ⟨.hbm, 120, rfl⟩
abbrev main_call2_v0 : Ref sig .tc := ⟨.hbm, 121, rfl⟩
abbrev main_v53 : Ref sig .tc := ⟨.hbm, 122, rfl⟩
abbrev main_c_8 : Ref sig .tc := ⟨.hbm, 123, rfl⟩
abbrev main_call3_cst : Ref sig .tc := ⟨.hbm, 124, rfl⟩
abbrev main_call3_v0 : Ref sig .tc := ⟨.hbm, 125, rfl⟩
abbrev main_call3_v1 : Ref sig .tc := ⟨.hbm, 126, rfl⟩
abbrev main_call3_cst_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_v7 : Ref sig .tc := ⟨.hbm, 133, rfl⟩
abbrev main_call3_cst_1 : Ref sig .tc := ⟨.hbm, 134, rfl⟩
abbrev main_call3_v8 : Ref sig .tc := ⟨.hbm, 135, rfl⟩
abbrev main_call3_cst_2 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_cst_3 : Ref sig .tc := ⟨.hbm, 140, rfl⟩
abbrev main_call3_v12 : Ref sig .tc := ⟨.hbm, 141, rfl⟩
abbrev main_call3_cst_4 : Ref sig .tc := ⟨.hbm, 142, rfl⟩
abbrev main_call3_call0_v0 : Ref sig .tc := ⟨.hbm, 143, rfl⟩
abbrev main_call3_call0_v1 : Ref sig .tc := ⟨.hbm, 144, rfl⟩
abbrev main_v54 : Ref sig .tc := ⟨.hbm, 145, rfl⟩
abbrev main_cst_9 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_cst_10 : Ref sig .tc := ⟨.hbm, 151, rfl⟩
abbrev main_v59 : Ref sig .tc := ⟨.hbm, 152, rfl⟩
abbrev main_cst_11 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_cst_12 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩

abbrev nD : Nat := 1
abbrev τ : Topo := Topo.v7x

variable {F : FTy → Type} [FloatOps F]
-- ==== Kernel3.lean ====
abbrev S4x128x2048 : Shape := ⟨3, ![4, 128, 2048]⟩
abbrev S4x2048x3 : Shape := ⟨3, ![4, 2048, 3]⟩
abbrev S4x3x2048 : Shape := ⟨3, ![4, 3, 2048]⟩
abbrev S24576x128 : Shape := ⟨2, ![24576, 128]⟩
abbrev S4x2048x8 : Shape := ⟨3, ![4, 2048, 8]⟩
abbrev S1x128 : Shape := ⟨2, ![1, 128]⟩
abbrev S128x128 : Shape := ⟨2, ![128, 128]⟩
abbrev S1x1024x3 : Shape := ⟨3, ![1, 1024, 3]⟩
abbrev S1x3x2048 : Shape := ⟨3, ![1, 3, 2048]⟩
abbrev S1x128x2048 : Shape := ⟨3, ![1, 128, 2048]⟩
abbrev S3072x128 : Shape := ⟨2, ![3072, 128]⟩
abbrev S1x1024x8 : Shape := ⟨3, ![1, 1024, 8]⟩
abbrev S2048x128 : Shape := ⟨2, ![2048, 128]⟩
abbrev S128x2048 : Shape := ⟨2, ![128, 2048]⟩
abbrev S1024x3 : Shape := ⟨2, ![1024, 3]⟩
abbrev S3x2048 : Shape := ⟨2, ![3, 2048]⟩
abbrev S1024x1 : Shape := ⟨2, ![1024, 1]⟩
abbrev S1x2048 : Shape := ⟨2, ![1, 2048]⟩
abbrev S1024x2048 : Shape := ⟨2, ![1024, 2048]⟩
abbrev S1024x128 : Shape := ⟨2, ![1024, 128]⟩
abbrev S1024 : Shape := ⟨1, ![1024]⟩
abbrev S1024x1x128 : Shape := ⟨3, ![1024, 1, 128]⟩
abbrev S1024x3x128 : Shape := ⟨3, ![1024, 3, 128]⟩
abbrev S1024x4 : Shape := ⟨2, ![1024, 4]⟩
abbrev S1024x8 : Shape := ⟨2, ![1024, 8]⟩
abbrev S128 : Shape := ⟨1, ![128]⟩

abbrev nBuf : Space → Nat
  | .hbm => 8
  | .vmem => 15
  | .smem => 0
  | _ => 0

abbrev bufTy : (tb : Table) → Fin (tcTables nBuf tb) → BufTy
  | .hbm, ⟨0, _⟩ => ⟨S4x128x2048, .f32⟩
  | .hbm, ⟨1, _⟩ => ⟨S4x2048x3, .f32⟩
  | .hbm, ⟨2, _⟩ => ⟨S4x3x2048, .f32⟩
  | .hbm, ⟨3, _⟩ => ⟨S24576x128, .f32⟩
  | .hbm, ⟨4, _⟩ => ⟨S4x2048x8, .i32⟩
  | .hbm, ⟨5, _⟩ => ⟨S1x128, .f32⟩
  | .hbm, ⟨6, _⟩ => ⟨S128x128, .f32⟩
  | .hbm, ⟨7, _⟩ => ⟨S4x2048x3, .i32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x128x2048, .f32⟩
  | .local _ .vmem, ⟨5, _⟩ => ⟨S1x128x2048, .f32⟩
  | .local _ .vmem, ⟨6, _⟩ => ⟨S3072x128, .f32⟩
  | .local _ .vmem, ⟨7, _⟩ => ⟨S3072x128, .f32⟩
  | .local _ .vmem, ⟨8, _⟩ => ⟨S1x1024x8, .i32⟩
  | .local _ .vmem, ⟨9, _⟩ => ⟨S1x1024x8, .i32⟩
  | .local _ .vmem, ⟨10, _⟩ => ⟨S1x128, .f32⟩
  | .local _ .vmem, ⟨11, _⟩ => ⟨S128x128, .f32⟩
  | .local _ .vmem, ⟨12, _⟩ => ⟨S2048x128, .f32⟩
  | .local _ .vmem, ⟨13, _⟩ => ⟨S2048x128, .bf16⟩
  | .local _ .vmem, ⟨14, _⟩ => ⟨S2048x128, .bf16⟩
  | _, _ => ⟨S4x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11

abbrev nD : Nat := 1
abbrev τ : Topo := Topo.v7x

variable {F : FTy → Type} [FloatOps F]

abbrev grid0 : Pipeline.Grid := ⟨2, ![4, 2], ![false, false]⟩

def k0_off1 (i : grid0.Coords) : Fin 2 → Nat :=
  let arg1 : BitVec 32 := BitVec.ofNat 32 (i 1).val
  let c1024_i32 : BitVec 32 := 1024#32
  let v35 : BitVec 32 := Scalar.muli arg1 c1024_i32
  let v36 : Index := Scalar.indexCast v35
  let c0_9 : Index := 0#32
  ![v36.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3072x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference3Ideal.lean ====
abbrev S4x128x2048 : Shape := ⟨3, ![4, 128, 2048]⟩
abbrev S4x2048x3 : Shape := ⟨3, ![4, 2048, 3]⟩
abbrev S4x2048x128 : Shape := ⟨3, ![4, 2048, 128]⟩
abbrev S4x2048x1x3 : Shape := ⟨4, ![4, 2048, 1, 3]⟩
abbrev S4x1x2048x3 : Shape := ⟨4, ![4, 1, 2048, 3]⟩
abbrev S4x2048x2048x3 : Shape := ⟨4, ![4, 2048, 2048, 3]⟩
abbrev S_ : Shape := ⟨0, ![]⟩
abbrev S4x2048x2048 : Shape := ⟨3, ![4, 2048, 2048]⟩
abbrev S4x2048x4 : Shape := ⟨3, ![4, 2048, 4]⟩
abbrev S4 : Shape := ⟨1, ![4]⟩
abbrev S4x1x1 : Shape := ⟨3, ![4, 1, 1]⟩
abbrev S4x2048x3x1 : Shape := ⟨4, ![4, 2048, 3, 1]⟩
abbrev S4x2048x3x2 : Shape := ⟨4, ![4, 2048, 3, 2]⟩
abbrev S4x2048x3x128 : Shape := ⟨4, ![4, 2048, 3, 128]⟩
abbrev S4x2048x1x128 : Shape := ⟨4, ![4, 2048, 1, 128]⟩
abbrev S24576x128 : Shape := ⟨2, ![24576, 128]⟩
abbrev S128 : Shape := ⟨1, ![128]⟩
abbrev S1x128 : Shape := ⟨2, ![1, 128]⟩
abbrev S128x24576 : Shape := ⟨2, ![128, 24576]⟩
abbrev S128x128 : Shape := ⟨2, ![128, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x128x2048, .f32⟩
  | .hbm, ⟨1, _⟩ => ⟨S4x2048x3, .f32⟩
  | .hbm, ⟨2, _⟩ => ⟨S4x2048x128, .f32⟩
  | .hbm, ⟨3, _⟩ => ⟨S4x2048x1x3, .f32⟩
  | .hbm, ⟨4, _⟩ => ⟨S4x1x2048x3, .f32⟩
  | .hbm, ⟨5, _⟩ => ⟨S4x2048x2048x3, .f32⟩
  | .hbm, ⟨6, _⟩ => ⟨S4x2048x2048x3, .f32⟩
  | .hbm, ⟨7, _⟩ => ⟨S4x2048x2048x3, .f32⟩
  | .hbm, ⟨8, _⟩ => ⟨S4x2048x2048x3, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S4x2048x4, .f32⟩
  | .hbm, ⟨13, _⟩ => ⟨S4x2048x4, .i32⟩
  | .hbm, ⟨14, _⟩ => ⟨S4x2048x3, .i32⟩
  | .hbm, ⟨15, _⟩ => ⟨S4, .i32⟩
  | .hbm, ⟨16, _⟩ => ⟨S4x1x1, .i32⟩
  | .hbm, ⟨17, _⟩ => ⟨S_, .i32⟩
  | .hbm, ⟨18, _⟩ => ⟨S4x1x1, .i32⟩
  | .hbm, ⟨19, _⟩ => ⟨S4x1x1, .i1⟩
  | .hbm, ⟨20, _⟩ => ⟨S_, .i32⟩
  | .hbm, ⟨21, _⟩ => ⟨S4x1x1, .i32⟩
  | .hbm, ⟨22, _⟩ => ⟨S4x1x1, .i32⟩
  | .hbm, ⟨23, _⟩ => ⟨S4x1x1, .i32⟩
  | .hbm, ⟨24, _⟩ => ⟨S_, .i32⟩
  | .hbm, ⟨25, _⟩ => ⟨S4x2048x3, .i32⟩
  | .hbm, ⟨26, _⟩ => ⟨S4x2048x3, .i1⟩
  | .hbm, ⟨27, _⟩ => ⟨S_, .i32⟩
  | .hbm, ⟨28, _⟩ => ⟨S4x2048x3, .i32⟩
  | .hbm, ⟨29, _⟩ => ⟨S4x2048x3, .i32⟩
  | .hbm, ⟨30, _⟩ => ⟨S4x2048x3, .i32⟩
  | .hbm, ⟨31, _⟩ => ⟨S4x2048x3, .i32⟩
  | .hbm, ⟨32, _⟩ => ⟨S4x2048x3x1, .i32⟩
  | .hbm, ⟨33, _⟩ => ⟨S4x2048x3x1, .i32⟩
  | .hbm, ⟨34, _⟩ => ⟨S4x2048x3x2, .i32⟩
  | .hbm, ⟨35, _⟩ => ⟨S4x2048x3x128, .f32⟩
  | .hbm, ⟨36, _⟩ => ⟨S4x2048x1x128, .f32⟩
  | .hbm, ⟨37, _⟩ => ⟨S4x2048x3x128, .f32⟩
  | .hbm, ⟨38, _⟩ => ⟨S4x2048x3x128, .f32⟩
  | .hbm, ⟨39, _⟩ => ⟨S24576x128, .f32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S128x24576, .f32⟩
  | .hbm, ⟨44, _⟩ => ⟨S128x128, .f32⟩
  | _, _ => ⟨S4x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_values : Ref sig .tc := ⟨.hbm, 12, rfl⟩
abbrev main_indices : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Proof.OutPay.lean ====
module

public import proofs.«01_k».proof.Proof.Gen.KernelIdeal.Value
public import Idealize.ShloMosaic.Lib.VecWindow
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

/-! What each point of the grid leaves in the output block and in the two scratch arrays, as functions of the
blocks the point reads. -/

/-- A load of part of a buffer that a store has just filled whole reads that part of what was stored. -/
theorem readAt_after_full {sig : RefSig} {κ : Kind} {sp : Space} {s : Shape} {e : EltTy} {Val : EltTy → Type} (v : View sig κ sp s e) (f : v.ty.Contents Val)
    {off : Fin s.rank → ℕ} (inb : ∀ a, off a + s.size a ≤ s.size a) (w : (Rect.unit off s.size inb).shape.Idx → Val e) (L : List (View.Piece Val s e)) (B : LoadRect s) :
    v.readAt Val B (v.writes Val f (⟨Rect.unit off s.size inb, w⟩ :: L)) = fun x => w (B.idx x) := by
  funext x
  exact congrFun (View.read_writes_full v f inb w L) (B.idx x)

/-- A load of part of a whole buffer holding `X` reads that part of `X`. -/
theorem readAt_of_whole {sig : RefSig} {κ : Kind} {sp : Space} {s : Shape} {e : EltTy} {Val : EltTy → Type} {m : Memref sig κ sp s e} (h : m.IsWhole) (X : s.Idx → Val e) (B : LoadRect s) :
    View.readAt Val m.view B (h.unread X) = fun x => X (B.idx x) :=
  funext fun x => h.readAt_unread X B x

/-- The folded weights of the last hidden layer. -/
def outW3 (mu : Vec F S1x128 .f32) (S w : Vec F S128x128 .f32) (g : Vec F S1x128 .f32) (minv : Vec F S1x1 .f32) : FVec F S128x128 .f32 := k0_pay8 minv mu S w g
/-- The folded bias of the last hidden layer. -/
def outB3 (mu : Vec F S1x128 .f32) (S w : Vec F S128x128 .f32) (b g be : Vec F S1x128 .f32) (minv : Vec F S1x1 .f32) : FVec F S1x128 .f32 := k0_pay1 (k0_pay6 minv mu S w g) (k0_pay7 minv mu S w b g be) b

set_option maxHeartbeats 4000000 in
/-- At the first point the output block is computed with the folded weights it has just stored. -/
theorem out0_A_12_eq (c : Dev nD) (i : grid0.Coords) (arg1 : Memref sig .tc .vmem S6144x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x2 .f32) (harg10 : arg10.IsWhole) (arg11 : Memref sig .tc .vmem S2x1 .f32) (harg11 : arg11.IsWhole) (arg12 : Memref sig .tc .vmem S1x1 .f32) (harg12 : arg12.IsWhole) (arg13 : Memref sig .tc .vmem S1x2x6144 .f32) (harg13 : arg13.IsWhole) (arg14 : Memref sig .tc .vmem S128x128 .f32) (harg14 : arg14.IsWhole) (arg15 : Memref sig .tc .vmem S1x128 .f32) (harg15 : arg15.IsWhole) (hc0 : cond0_0 i)
    (x0 : Vec F S6144x128 .f32) (x1 : Vec F S128x128 .f32) (x2 : Vec F S1x128 .f32) (x3 : Vec F S1x128 .f32) (x4 : Vec F S128x128 .f32) (x5 : Vec F S128x128 .f32) (x6 : Vec F S1x128 .f32) (x7 : Vec F S1x128 .f32) (x8 : Vec F S1x128 .f32) (x9 : Vec F S128x2 .f32) (x10 : Vec F S2x1 .f32) (x11 : Vec F S1x1 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 = k0_pay2 x0 x1 x2 (outW3 x3 x4 x5 x7 x11) (outB3 x3 x4 x5 x6 x7 x8 x11) x9 x10 := by
  unfold out0_A_12
  delta kernelRun0_A
  dsimp only
  try delta kernelRun0_A.sl.r_3
  try delta kernelRun0_A.sl.r_2
  try delta kernelRun0_A.sl.r_1
  try delta kernelRun0_A.sl.r
  try delta kernelRun0_A.sl.v67
  try delta kernelRun0_A.sl.v60
  try delta kernelRun0_A.sl.v54
  try delta kernelRun0_A.sl.v48
  try delta kernelRun0_A.sl.v45
  try delta kernelRun0_A.sl.v38
  try delta kernelRun0_A.sl.v33
  try delta kernelRun0_A.sl.v30
  try delta kernelRun0_A.sl.v28
  try delta kernelRun0_A.sl.v21
  try delta kernelRun0_A.sl.v18
  try delta kernelRun0_A.sl.v16
  try delta kernelRun0_A.sl.v14
  try delta kernelRun0_A.sl.v13
  try delta kernelRun0_A.sl.v11
  try delta kernelRun0_A.sl.H0_1
  try delta kernelRun0_A.sl.H1_1
  try delta kernelRun0_A.sl.H2_1
  try delta kernelRun0_A.sl.H3_1
  try delta kernelRun0_A.sl.H4_1
  try delta kernelRun0_A.sl.H5_1
  try delta kernelRun0_A.sl.H6_1
  try delta kernelRun0_A.sl.H7_1
  try delta kernelRun0_A.sl.H8_1
  try delta kernelRun0_A.sl.H9_1
  try delta kernelRun0_A.sl.H10_1
  try delta kernelRun0_A.sl.H11_1
  try delta kernelRun0_A.sl.H12_1
  try delta kernelRun0_A.sl.H13_1
  try delta kernelRun0_A.sl.H14_1
  try delta kernelRun0_A.sl.HS0_1
  try delta kernelRun0_A.sl.HS1_1
  try delta kernelRun0_A.sl.r_3
  try delta kernelRun0_A.sl.r_2
  try delta kernelRun0_A.sl.r_1
  try delta kernelRun0_A.sl.r
  simp (config := { index := false }) only [View.read_writes_full, View.readCov_full, View.readAt_full, Memref.IsWhole.read_unread, readAt_after_full, readAt_of_whole, outW3, outB3]

set_option maxHeartbeats 4000000 in
/-- The first point stores the folded weights. -/
theorem sout0_A_0_eq (c : Dev nD) (i : grid0.Coords) (arg1 : Memref sig .tc .vmem S6144x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x2 .f32) (harg10 : arg10.IsWhole) (arg11 : Memref sig .tc .vmem S2x1 .f32) (harg11 : arg11.IsWhole) (arg12 : Memref sig .tc .vmem S1x1 .f32) (harg12 : arg12.IsWhole) (arg13 : Memref sig .tc .vmem S1x2x6144 .f32) (harg13 : arg13.IsWhole) (arg14 : Memref sig .tc .vmem S128x128 .f32) (harg14 : arg14.IsWhole) (arg15 : Memref sig .tc .vmem S1x128 .f32) (harg15 : arg15.IsWhole) (hc0 : cond0_0 i)
    (x0 : Vec F S6144x128 .f32) (x1 : Vec F S128x128 .f32) (x2 : Vec F S1x128 .f32) (x3 : Vec F S1x128 .f32) (x4 : Vec F S128x128 .f32) (x5 : Vec F S128x128 .f32) (x6 : Vec F S1x128 .f32) (x7 : Vec F S1x128 .f32) (x8 : Vec F S1x128 .f32) (x9 : Vec F S128x2 .f32) (x10 : Vec F S2x1 .f32) (x11 : Vec F S1x1 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 = outW3 x3 x4 x5 x7 x11 := by
  unfold sout0_A_0
  delta kernelRun0_A
  dsimp only
  try delta kernelRun0_A.sl.r_3
  try delta kernelRun0_A.sl.r_2
  try delta kernelRun0_A.sl.r_1
  try delta kernelRun0_A.sl.r
  try delta kernelRun0_A.sl.v67
  try delta kernelRun0_A.sl.v60
  try delta kernelRun0_A.sl.v54
  try delta kernelRun0_A.sl.v48
  try delta kernelRun0_A.sl.v45
  try delta kernelRun0_A.sl.v38
  try delta kernelRun0_A.sl.v33
  try delta kernelRun0_A.sl.v30
  try delta kernelRun0_A.sl.v28
  try delta kernelRun0_A.sl.v21
  try delta kernelRun0_A.sl.v18
  try delta kernelRun0_A.sl.v16
  try delta kernelRun0_A.sl.v14
  try delta kernelRun0_A.sl.v13
  try delta kernelRun0_A.sl.v11
  try delta kernelRun0_A.sl.H0_1
  try delta kernelRun0_A.sl.H1_1
  try delta kernelRun0_A.sl.H2_1
  try delta kernelRun0_A.sl.H3_1
  try delta kernelRun0_A.sl.H4_1
  try delta kernelRun0_A.sl.H5_1
  try delta kernelRun0_A.sl.H6_1
  try delta kernelRun0_A.sl.H7_1
  try delta kernelRun0_A.sl.H8_1
  try delta kernelRun0_A.sl.H9_1
  try delta kernelRun0_A.sl.H10_1
  try delta kernelRun0_A.sl.H11_1
  try delta kernelRun0_A.sl.H12_1
  try delta kernelRun0_A.sl.H13_1
  try delta kernelRun0_A.sl.H14_1
  try delta kernelRun0_A.sl.HS0_1
  try delta kernelRun0_A.sl.HS1_1
  try delta kernelRun0_A.sl.r_3
  try delta kernelRun0_A.sl.r_2
  try delta kernelRun0_A.sl.r_1
  try delta kernelRun0_A.sl.r
  simp (config := { index := false }) only [View.read_writes_full, View.readCov_full, View.readAt_full, Memref.IsWhole.read_unread, readAt_after_full, readAt_of_whole, outW3, outB3]

set_option maxHeartbeats 4000000 in
/-- The first point stores the folded bias. -/
theorem sout0_A_1_eq (c : Dev nD) (i : grid0.Coords) (arg1 : Memref sig .tc .vmem S6144x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x2 .f32) (harg10 : arg10.IsWhole) (arg11 : Memref sig .tc .vmem S2x1 .f32) (harg11 : arg11.IsWhole) (arg12 : Memref sig .tc .vmem S1x1 .f32) (harg12 : arg12.IsWhole) (arg13 : Memref sig .tc .vmem S1x2x6144 .f32) (harg13 : arg13.IsWhole) (arg14 : Memref sig .tc .vmem S128x128 .f32) (harg14 : arg14.IsWhole) (arg15 : Memref sig .tc .vmem S1x128 .f32) (harg15 : arg15.IsWhole) (hc0 : cond0_0 i)
    (x0 : Vec F S6144x128 .f32) (x1 : Vec F S128x128 .f32) (x2 : Vec F S1x128 .f32) (x3 : Vec F S1x128 .f32) (x4 : Vec F S128x128 .f32) (x5 : Vec F S128x128 .f32) (x6 : Vec F S1x128 .f32) (x7 : Vec F S1x128 .f32) (x8 : Vec F S1x128 .f32) (x9 : Vec F S128x2 .f32) (x10 : Vec F S2x1 .f32) (x11 : Vec F S1x1 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 = outB3 x3 x4 x5 x6 x7 x8 x11 := by
  unfold sout0_A_1
  delta kernelRun0_A
  dsimp only
  try delta kernelRun0_A.sl.r_3
  try delta kernelRun0_A.sl.r_2
  try delta kernelRun0_A.sl.r_1
  try delta kernelRun0_A.sl.r
  try delta kernelRun0_A.sl.v67
  try delta kernelRun0_A.sl.v60
  try delta kernelRun0_A.sl.v54
  try delta kernelRun0_A.sl.v48
  try delta kernelRun0_A.sl.v45
  try delta kernelRun0_A.sl.v38
  try delta kernelRun0_A.sl.v33
  try delta kernelRun0_A.sl.v30
  try delta kernelRun0_A.sl.v28
  try delta kernelRun0_A.sl.v21
  try delta kernelRun0_A.sl.v18
  try delta kernelRun0_A.sl.v16
  try delta kernelRun0_A.sl.v14
  try delta kernelRun0_A.sl.v13
  try delta kernelRun0_A.sl.v11
  try delta kernelRun0_A.sl.H0_1
  try delta kernelRun0_A.sl.H1_1
  try delta kernelRun0_A.sl.H2_1
  try delta kernelRun0_A.sl.H3_1
  try delta kernelRun0_A.sl.H4_1
  try delta kernelRun0_A.sl.H5_1
  try delta kernelRun0_A.sl.H6_1
  try delta kernelRun0_A.sl.H7_1
  try delta kernelRun0_A.sl.H8_1
  try delta kernelRun0_A.sl.H9_1
  try delta kernelRun0_A.sl.H10_1
  try delta kernelRun0_A.sl.H11_1
  try delta kernelRun0_A.sl.H12_1
  try delta kernelRun0_A.sl.H13_1
  try delta kernelRun0_A.sl.H14_1
  try delta kernelRun0_A.sl.HS0_1
  try delta kernelRun0_A.sl.HS1_1
  try delta kernelRun0_A.sl.r_3
  try delta kernelRun0_A.sl.r_2
  try delta kernelRun0_A.sl.r_1
  try delta kernelRun0_A.sl.r
  simp (config := { index := false }) only [View.read_writes_full, View.readCov_full, View.readAt_full, Memref.IsWhole.read_unread, readAt_after_full, readAt_of_whole, outW3, outB3]

set_option maxHeartbeats 4000000 in
/-- At a later point the output block is computed with what the scratch arrays hold. -/
theorem out0_B_12_eq (c : Dev nD) (i : grid0.Coords) (arg1 : Memref sig .tc .vmem S6144x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x2 .f32) (harg10 : arg10.IsWhole) (arg11 : Memref sig .tc .vmem S2x1 .f32) (harg11 : arg11.IsWhole) (arg12 : Memref sig .tc .vmem S1x1 .f32) (harg12 : arg12.IsWhole) (arg13 : Memref sig .tc .vmem S1x2x6144 .f32) (harg13 : arg13.IsWhole) (arg14 : Memref sig .tc .vmem S128x128 .f32) (harg14 : arg14.IsWhole) (arg15 : Memref sig .tc .vmem S1x128 .f32) (harg15 : arg15.IsWhole) (hc0 : ¬cond0_0 i)
    (x0 : Vec F S6144x128 .f32) (x1 : Vec F S128x128 .f32) (x2 : Vec F S1x128 .f32) (x3 : Vec F S1x128 .f32) (x4 : Vec F S128x128 .f32) (x5 : Vec F S128x128 .f32) (x6 : Vec F S1x128 .f32) (x7 : Vec F S1x128 .f32) (x8 : Vec F S1x128 .f32) (x9 : Vec F S128x2 .f32) (x10 : Vec F S2x1 .f32) (x11 : Vec F S1x1 .f32) (xs0 : Vec F S128x128 .f32) (xs1 : Vec F S1x128 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs0 xs1 = k0_pay2 x0 x1 x2 xs0 xs1 x9 x10 := by
  unfold out0_B_12
  delta kernelRun0_B
  dsimp only
  try delta kernelRun0_B.sl.r_3
  try delta kernelRun0_B.sl.r_2
  try delta kernelRun0_B.sl.r_1
  try delta kernelRun0_B.sl.r
  try delta kernelRun0_B.sl.v67
  try delta kernelRun0_B.sl.v60
  try delta kernelRun0_B.sl.v54
  try delta kernelRun0_B.sl.v48
  try delta kernelRun0_B.sl.v45
  try delta kernelRun0_B.sl.v38
  try delta kernelRun0_B.sl.v33
  try delta kernelRun0_B.sl.v30
  try delta kernelRun0_B.sl.v28
  try delta kernelRun0_B.sl.v21
  try delta kernelRun0_B.sl.v18
  try delta kernelRun0_B.sl.v16
  try delta kernelRun0_B.sl.v14
  try delta kernelRun0_B.sl.v13
  try delta kernelRun0_B.sl.v11
  try delta kernelRun0_B.sl.H0_1
  try delta kernelRun0_B.sl.H1_1
  try delta kernelRun0_B.sl.H2_1
  try delta kernelRun0_B.sl.H3_1
  try delta kernelRun0_B.sl.H4_1
  try delta kernelRun0_B.sl.H5_1
  try delta kernelRun0_B.sl.H6_1
  try delta kernelRun0_B.sl.H7_1
  try delta kernelRun0_B.sl.H8_1
  try delta kernelRun0_B.sl.H9_1
  try delta kernelRun0_B.sl.H10_1
  try delta kernelRun0_B.sl.H11_1
  try delta kernelRun0_B.sl.H12_1
  try delta kernelRun0_B.sl.H13_1
  try delta kernelRun0_B.sl.H14_1
  try delta kernelRun0_B.sl.HS0_1
  try delta kernelRun0_B.sl.HS1_1
  try delta kernelRun0_B.sl.r_3
  try delta kernelRun0_B.sl.r_2
  try delta kernelRun0_B.sl.r_1
  try delta kernelRun0_B.sl.r
  simp (config := { index := false }) only [View.read_writes_full, View.readCov_full, View.readAt_full, Memref.IsWhole.read_unread, readAt_after_full, readAt_of_whole, outW3, outB3]

end Cert.KernelIdeal.Hand

end
-- ==== Proof.OutBlk.lean ====
module

public import proofs.«01_k».proof.Proof.OutPay
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ)

/-! The blocks the points of the grid read, in terms of the argument arrays. -/

/-- Every window but the first and the output's stays on its one block; the first moves down with the point. -/
theorem idx_const : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

theorem blk_1 (c : Dev nD) (t : Fin cfg0.N) : (iblk m c 1 t : Vec F S128x128 .f32) = m ((c : Thread nD τ).loc main_arg1) := by
  have e := idx_const t
  funext y
  blk_ext! [iblk, V, e]

theorem blk_2 (c : Dev nD) (t : Fin cfg0.N) : (iblk m c 2 t : Vec F S1x128 .f32) = m ((c : Thread nD τ).loc main_arg2) := by
  have e := idx_const t
  funext y
  blk_ext! [iblk, V, e]

theorem blk_3 (c : Dev nD) (t : Fin cfg0.N) : (iblk m c 3 t : Vec F S1x128 .f32) = m ((c : Thread nD τ).loc main_arg3) := by
  have e := idx_const t
  funext y
  blk_ext! [iblk, V, e]

theorem blk_4 (c : Dev nD) (t : Fin cfg0.N) : (iblk m c 4 t : Vec F S128x128 .f32) = m ((c : Thread nD τ).loc main_arg4) := by
  have e := idx_const t
  funext y
  blk_ext! [iblk, V, e]

theorem V_main_v3 (c : Dev nD) : V m c main_v3 = transpose S128x128 [1, 0] (m ((c : Thread nD τ).loc main_arg5)) transposes_S128x128_S128x128_1_0 := by
  entry_read
  rfl

theorem blk_5 (c : Dev nD) (t : Fin cfg0.N) : (iblk m c 5 t : Vec F S128x128 .f32) = V m c main_v3 := by
  have e := idx_const t
  funext y
  blk_ext! [iblk, e]

theorem V_main_v4 (c : Dev nD) : V m c main_v4 = shapeCast S1x128 (m ((c : Thread nD τ).loc main_arg6)) shapeCasts_S128_S1x128 := by
  entry_read
  rfl

theorem blk_6 (c : Dev nD) (t : Fin cfg0.N) : (iblk m c 6 t : Vec F S1x128 .f32) = V m c main_v4 := by
  have e := idx_const t
  funext y
  blk_ext! [iblk, e]

theorem V_main_v5 (c : Dev nD) : V m c main_v5 = shapeCast S1x128 (m ((c : Thread nD τ).loc main_arg7)) shapeCasts_S128_S1x128 := by
  entry_read
  rfl

theorem blk_7 (c : Dev nD) (t : Fin cfg0.N) : (iblk m c 7 t : Vec F S1x128 .f32) = V m c main_v5 := by
  have e := idx_const t
  funext y
  blk_ext! [iblk, e]

theorem V_main_v6 (c : Dev nD) : V m c main_v6 = shapeCast S1x128 (m ((c : Thread nD τ).loc main_arg8)) shapeCasts_S128_S1x128 := by
  entry_read
  rfl

theorem blk_8 (c : Dev nD) (t : Fin cfg0.N) : (iblk m c 8 t : Vec F S1x128 .f32) = V m c main_v6 := by
  have e := idx_const t
  funext y
  blk_ext! [iblk, e]

theorem V_main_v7 (c : Dev nD) : V m c main_v7 = transpose S128x2 [1, 0] (m ((c : Thread nD τ).loc main_arg9)) transposes_S2x128_S128x2_1_0 := by
  entry_read
  rfl

theorem blk_9 (c : Dev nD) (t : Fin cfg0.N) : (iblk m c 9 t : Vec F S128x2 .f32) = V m c main_v7 := by
  have e := idx_const t
  funext y
  blk_ext! [iblk, e]

theorem V_main_v8 (c : Dev nD) : V m c main_v8 = shapeCast S2x1 (m ((c : Thread nD τ).loc main_arg10)) shapeCasts_S2_S2x1 := by
  entry_read
  rfl

theorem blk_10 (c : Dev nD) (t : Fin cfg0.N) : (iblk m c 10 t : Vec F S2x1 .f32) = V m c main_v8 := by
  have e := idx_const t
  funext y
  blk_ext! [iblk, e]

theorem V_main_v2 (c : Dev nD) : V m c main_v2 = Host.divf (broadcastInDim S1x1 ![] bcast_S_S1x1 (constant S_ .f32 0x3F800000#32)) (broadcastInDim S1x1 ![] bcast_S_S1x1 (constant S_ .f32 0x46C00000#32)) := by
  entry_read
  rfl

theorem blk_11 (c : Dev nD) (t : Fin cfg0.N) : (iblk m c 11 t : Vec F S1x1 .f32) = V m c main_v2 := by
  have e := idx_const t
  funext y
  blk_ext! [iblk, e]

theorem blk_0 (c : Dev nD) (t : Fin cfg0.N) (r : Fin 6144) (k : Fin 128) (h : t.val * 6144 + r.val < 24576) :
    (iblk m c 0 t : Vec F S6144x128 .f32) (ix2 r k) = m ((c : Thread nD τ).loc main_arg0) (ix2 ⟨t.val * 6144 + r.val, h⟩ k) := by
  have e := idx_const t
  blk_ext! [iblk, V, e]

end Cert.KernelIdeal.Hand

end
-- ==== Proof.OutVal.lean ====
module

public import proofs.«01_k».proof.Proof.OutBlk
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

/-! What the result array holds, block by block. -/

section
variable {F : FTy → Type} [FloatOps F]
variable (m : (ℓ : Loc nD τ sig) → Buf (Elt F) ℓ)

/-- The folded weights, of the arguments. -/
def w3Of (c : Dev nD) : FVec F S128x128 .f32 :=
  outW3 (m ((c : Thread nD τ).loc main_arg3)) (m ((c : Thread nD τ).loc main_arg4)) (V m c main_v3) (V m c main_v5) (V m c main_v2)
/-- The folded bias, of the arguments. -/
def b3Of (c : Dev nD) : FVec F S1x128 .f32 :=
  outB3 (m ((c : Thread nD τ).loc main_arg3)) (m ((c : Thread nD τ).loc main_arg4)) (V m c main_v3) (V m c main_v4) (V m c main_v5) (V m c main_v6) (V m c main_v2)

/-- After every point the scratch arrays hold the folded weights and the folded bias. -/
theorem scratch_at (c : Dev nD) : ∀ (n : ℕ) (hn : n < cfg0.N), (outsAt0 m c n hn).2 = (w3Of m c, b3Of m c)
  | 0, hn => by
    rw [outsAt0_A m c ⟨0, hn⟩ rfl]
    dsimp only
    rw [sout0_A_0_eq, sout0_A_1_eq, blk_3, blk_4, blk_5, blk_6, blk_7, blk_8, blk_11]
    rfl
  | n + 1, hn => by
    have ih := scratch_at c n (Nat.lt_of_succ_lt hn)
    have hN := lt_of_lt_of_eq hn (show cfg0.N = 4 from N_0)
    rw [outsAt0_B m c ⟨n + 1, hn⟩ (by dsimp only; omega)]
    exact ih

/-- The output block after point `t`. -/
theorem out_at (c : Dev nD) (t : Fin cfg0.N) : (outsAt0 m c t.val t.isLt).1
    = k0_pay2 (iblk m c 0 t) (m ((c : Thread nD τ).loc main_arg1)) (m ((c : Thread nD τ).loc main_arg2)) (w3Of m c) (b3Of m c) (V m c main_v7) (V m c main_v8) := by
  by_cases h : t.val % 4 = 0
  · rw [outsAt0_A m c t h]
    dsimp only
    rw [out0_A_12_eq, blk_1, blk_2, blk_3, blk_4, blk_5, blk_6, blk_7, blk_8, blk_9, blk_10, blk_11]
    rfl
  · rw [outsAt0_B m c t h]
    dsimp only
    rw [out0_B_12_eq, blk_1, blk_2, blk_9, blk_10, scratch_at]

end

variable (m : (ℓ : Loc nD τ sig) → Buf (Elt Ideal) ℓ)

/-- A hidden row entry: the affine map followed by the positive part. -/
def hid (x : Fin 128 → EReal) (w : Fin 128 → EReal) (b : EReal) : EReal := max ((∑ k : Fin 128, x k * w k) + b) 0

set_option maxHeartbeats 1000000 in
/-- The payload of the output block at an index. -/
theorem pay2_apply (x0 : FVec Ideal S6144x128 .f32) (x1 : FVec Ideal S128x128 .f32) (x2 : FVec Ideal S1x128 .f32) (w3 : FVec Ideal S128x128 .f32) (b3 : FVec Ideal S1x128 .f32)
    (x9 : FVec Ideal S128x2 .f32) (x10 : FVec Ideal S2x1 .f32) (o : Fin 2) (n : Fin 6144) :
    k0_pay2 x0 x1 x2 w3 b3 x9 x10 (ix3 0 o n)
      = (∑ k : Fin 128, x9 (ix2 k o) * hid (fun j => hid (fun i => x0 (ix2 n i)) (fun i => x1 (ix2 i j)) (x2 (ix2 0 j))) (fun j => w3 (ix2 j k)) (b3 (ix2 0 k))) + x10 (ix2 o 0) := by
  pointwise [k0_pay2]
  rfl

/-- One logit, of the arguments and of the folded weights and bias: `r` is the row of `X`, `o` the class. -/
def logit (X : FVec Ideal S24576x128 .f32) (W2 : FVec Ideal S128x128 .f32) (b2 : FVec Ideal S1x128 .f32) (w3 : FVec Ideal S128x128 .f32) (b3 : FVec Ideal S1x128 .f32)
    (W4 : FVec Ideal S2x128 .f32) (b4 : FVec Ideal S2 .f32) (r : Fin 24576) (o : Fin 2) : EReal :=
  (∑ k : Fin 128, W4 (ix2 o k) * hid (fun j => hid (fun i => X (ix2 r i)) (fun i => W2 (ix2 i j)) (b2 (ix2 0 j))) (fun j => w3 (ix2 j k)) (b3 (ix2 0 k))) + b4 (ix1 o)

/-- The result array at an index. -/
theorem G12_apply (c : Dev nD) (b : Fin 4) (o : Fin 2) (n : Fin 6144) (h : b.val * 6144 + n.val < 24576) :
    Value.G12 m c (ix3 b o n)
      = logit (m ((c : Thread nD τ).loc main_arg0)) (m ((c : Thread nD τ).loc main_arg1)) (m ((c : Thread nD τ).loc main_arg2)) (w3Of m c) (b3Of m c)
          (m ((c : Thread nD τ).loc main_arg9)) (m ((c : Thread nD τ).loc main_arg10)) ⟨b.val * 6144 + n.val, h⟩ o := by

  have hb : b.val < cfg0.N := lt_of_lt_of_eq b.isLt N_0.symm
  have hp : Value.pt12Of (ix3 b o n) = b.val := by
    show 1 * (b.val / 1 - 0) + 1 * (o.val / 2 - 0) + 1 * (n.val / 6144 - 0) = b.val
    omega
  have hl : Value.loc12Of (ix3 b o n) = ix3 0 o n := by
    funext a
    match a with
    | ⟨0, _⟩ => exact Fin.ext (Nat.mod_one _)
    | ⟨1, _⟩ => exact Fin.ext (Nat.mod_eq_of_lt o.isLt)
    | ⟨2, _⟩ => exact Fin.ext (Nat.mod_eq_of_lt n.isLt)
  unfold Value.G12
  rw [dif_pos (by rw [hp]; exact hb), Value.fold0_congr m c _ _ b.val (by omega) hp, ← Value.outsAt0_sweep m c b.val hb, out_at m c ⟨b.val, hb⟩, hl, pay2_apply]
  simp only [blk_0 m c ⟨b.val, hb⟩ _ _ h]
  rw [V_main_v7, V_main_v8]
  unfold logit
  pointwise

end Cert.KernelIdeal.Hand

end
-- ==== Proof.Algebra.lean ====
module

public import Idealize.ShloMosaic.PureOps.Ideal
public import Mathlib.Data.EReal.Inv
public import Mathlib.Analysis.SpecialFunctions.Pow.Real

@[expose] public section

noncomputable section

/-! Batch normalisation by folded statistics: over the reals the variance of an affine image is a quadratic form in
the covariance, and scaling the weights and the bias is the same as normalising the result. -/

namespace Cert.Bn

open Idealize.ShloMosaic

variable {M : ℕ} {C : ℕ}

/-- A finite sum of real numbers, as extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

theorem coe_max (a b : ℝ) : ((max a b : ℝ) : EReal) = max (a : EReal) (b : EReal) :=
  Monotone.map_max EReal.coe_strictMono.monotone

/-- Division by a nonzero real number. -/
theorem div_real (a : ℝ) {b : ℝ} (hb : b ≠ 0) : Ideal.div (a : EReal) (b : EReal) = ((a / b : ℝ) : EReal) := by
  rw [Ideal.div_coe hb, ← EReal.coe_mul]
  congr 1
  ring

theorem sqrt_real {a : ℝ} (ha : 0 ≤ a) : Ideal.sqrt (a : EReal) = (Real.sqrt a : EReal) := by
  rw [Ideal.sqrt_coe, if_neg (not_lt.mpr ha)]

/-- The affine image of a row. -/
def aff (y : Fin M → Fin C → ℝ) (w : Fin C → ℝ) (b : ℝ) (r : Fin M) : ℝ := (∑ j, y r j * w j) + b

/-- The mean of `n` values. -/
def mean (n : ℝ) (z : Fin M → ℝ) : ℝ := (∑ r, z r) / n
/-- Their biased variance. -/
def var (n : ℝ) (z : Fin M → ℝ) : ℝ := (∑ r, (z r - mean n z) * (z r - mean n z)) / n

theorem var_nonneg {n : ℝ} (hn : 0 < n) (z : Fin M → ℝ) : 0 ≤ var n z :=
  div_nonneg (Finset.sum_nonneg fun r _ => mul_self_nonneg _) hn.le

/-- The mean of the affine image. -/
theorem mean_aff {n : ℝ} (hn : n ≠ 0) (hM : (M : ℝ) = n) (y : Fin M → Fin C → ℝ) (w : Fin C → ℝ) (b : ℝ) :
    mean n (aff y w b) = (∑ j, (∑ r, y r j) * (1 / n) * w j) + b := by
  unfold mean aff
  rw [Finset.sum_add_distrib, Finset.sum_comm, Finset.sum_const, Finset.card_univ, Fintype.card_fin, nsmul_eq_mul, hM, add_div, mul_div_cancel_left₀ _ hn, Finset.sum_div]
  congr 1
  refine Finset.sum_congr rfl fun j _ => ?_
  rw [← Finset.sum_mul]
  ring

/-- The variance of the affine image: the quadratic form of the covariance. -/
theorem var_aff {n : ℝ} (hn : n ≠ 0) (hM : (M : ℝ) = n) (y : Fin M → Fin C → ℝ) (w : Fin C → ℝ) (b : ℝ) :
    (∑ i, w i * ∑ j, ((∑ r, y r i * y r j) * (1 / n) - (∑ r, y r i) * (1 / n) * ((∑ r, y r j) * (1 / n))) * w j) = var n (aff y w b) := by
  have h1 : (∑ i, w i * ∑ j, ((∑ r, y r i * y r j) * (1 / n) - (∑ r, y r i) * (1 / n) * ((∑ r, y r j) * (1 / n))) * w j)
      = (∑ r, (∑ i, y r i * w i) * (∑ j, y r j * w j)) / n - (∑ i, (∑ r, y r i) * (1 / n) * w i) * (∑ j, (∑ r, y r j) * (1 / n) * w j) := by
    have q1 : (∑ r, (∑ i, y r i * w i) * (∑ j, y r j * w j)) / n = ∑ i, ∑ j, w i * ((∑ r, y r i * y r j) * (1 / n) * w j) := by
      simp only [Finset.sum_mul_sum]
      rw [Finset.sum_comm, Finset.sum_div]
      refine Finset.sum_congr rfl fun i _ => ?_
      rw [Finset.sum_comm, Finset.sum_div]
      refine Finset.sum_congr rfl fun j _ => ?_
      rw [Finset.sum_mul, Finset.sum_mul, Finset.mul_sum, Finset.sum_div]
      refine Finset.sum_congr rfl fun r _ => ?_
      ring
    rw [q1, Finset.sum_mul_sum, ← Finset.sum_sub_distrib]
    refine Finset.sum_congr rfl fun i _ => ?_
    rw [Finset.mul_sum, ← Finset.sum_sub_distrib]
    refine Finset.sum_congr rfl fun j _ => ?_
    ring
  rw [h1]
  have h2 := mean_aff hn hM y w b
  have h3 : ∀ r, aff y w b r - mean n (aff y w b) = (∑ j, y r j * w j) - ∑ j, (∑ r, y r j) * (1 / n) * w j := by
    intro r; rw [h2]; unfold aff; ring
  unfold var
  simp only [h3]
  generalize hm : ∑ j, (∑ r, y r j) * (1 / n) * w j = μ
  have h4 : ∑ r, (∑ j, y r j * w j) = n * μ := by
    rw [← hm, Finset.sum_comm, Finset.mul_sum]
    refine Finset.sum_congr rfl fun j _ => ?_
    rw [← Finset.sum_mul]
    field_simp
  have h5 : ∑ r, ((∑ j, y r j * w j) - μ) * ((∑ j, y r j * w j) - μ) = (∑ r, (∑ i, y r i * w i) * (∑ j, y r j * w j)) - n * μ * μ := by
    have : ∀ r, ((∑ j, y r j * w j) - μ) * ((∑ j, y r j * w j) - μ) = (∑ i, y r i * w i) * (∑ j, y r j * w j) - 2 * μ * (∑ j, y r j * w j) + μ * μ := fun r => by ring
    simp only [this]
    rw [Finset.sum_add_distrib, Finset.sum_sub_distrib, ← Finset.mul_sum, h4, Finset.sum_const, Finset.card_univ, Fintype.card_fin, nsmul_eq_mul, hM]
    ring
  rw [h5]
  field_simp

/-- The scale that batch normalisation folds into the weights, as the third call computes it from the sum `mu` and the
Gram matrix `S` of the rows. -/
def scale (g : EReal) (w : Fin C → EReal) (mu : Fin C → EReal) (S : Fin C → Fin C → EReal) (minv e : EReal) : EReal :=
  Ideal.div g (Ideal.sqrt ((∑ i, w i * ∑ j, (S i j * minv - mu i * minv * (mu j * minv)) * w j) + e))

/-- That scale, when the rows are real. -/
theorem scale_eq {n : ℝ} (hn : 0 < n) (hM : (M : ℝ) = n) {e : ℝ} (he : 0 < e) (y : Fin M → Fin C → ℝ) (w : Fin C → ℝ) (b g : ℝ) :
    scale (g : EReal) (fun j => (w j : EReal)) (fun j => ∑ r, (y r j : EReal)) (fun i j => ∑ r, (y r i : EReal) * (y r j : EReal)) ((1 / n : ℝ) : EReal) (e : EReal)
      = ((g / Real.sqrt (var n (aff y w b) + e) : ℝ) : EReal) := by
  have hv := var_nonneg hn (aff y w b)
  unfold scale
  simp only [← EReal.coe_mul, ← coe_sum, ← EReal.coe_sub, ← EReal.coe_add]
  rw [var_aff hn.ne' hM y w b, sqrt_real (by positivity), div_real _ (by positivity)]

/-- Normalising the affine image of a row is the affine map of the scaled weights and the shifted bias. -/
theorem fold_eq {n : ℝ} (hn : 0 < n) (hM : (M : ℝ) = n) {e : ℝ} (he : 0 < e) (y : Fin M → Fin C → ℝ) (w : Fin C → ℝ) (b g : ℝ) (β : EReal) (r : Fin M)
    (a : EReal) (ha : a = ((g / Real.sqrt (var n (aff y w b) + e) : ℝ) : EReal)) :
    (∑ j, (y r j : EReal) * ((w j : EReal) * a)) + (a * (b : EReal) + (β - a * ((∑ i, (∑ r, (y r i : EReal)) * ((1 / n : ℝ) : EReal) * (w i : EReal)) + (b : EReal))))
      = Ideal.div ((g : EReal) * (((∑ j, (y r j : EReal) * (w j : EReal)) + (b : EReal)) - Ideal.div (∑ r, ((∑ j, (y r j : EReal) * (w j : EReal)) + (b : EReal))) (n : EReal)))
          (Ideal.sqrt (Ideal.div (∑ r, (((∑ j, (y r j : EReal) * (w j : EReal)) + (b : EReal)) - Ideal.div (∑ r, ((∑ j, (y r j : EReal) * (w j : EReal)) + (b : EReal))) (n : EReal))
            * (((∑ j, (y r j : EReal) * (w j : EReal)) + (b : EReal)) - Ideal.div (∑ r, ((∑ j, (y r j : EReal) * (w j : EReal)) + (b : EReal))) (n : EReal))) (n : EReal) + (e : EReal))) + β := by
  have hv := var_nonneg hn (aff y w b)
  subst ha
  generalize hq : g / Real.sqrt (var n (aff y w b) + e) = q
  simp only [← EReal.coe_mul, ← coe_sum, ← EReal.coe_add, ← EReal.coe_sub, div_real _ hn.ne']
  have hz : ∀ r, (∑ j, y r j * w j) + b = aff y w b r := fun r => rfl
  have hm : (∑ r, aff y w b r) / n = mean n (aff y w b) := rfl
  have hw : (∑ r, (aff y w b r - mean n (aff y w b)) * (aff y w b r - mean n (aff y w b))) / n = var n (aff y w b) := rfl
  simp only [hz, hm, hw, ← EReal.coe_sub, ← EReal.coe_mul, ← coe_sum, ← EReal.coe_add, div_real _ hn.ne']
  rw [sqrt_real (by positivity), div_real _ (by positivity), ← mean_aff hn.ne' hM y w b, sub_eq_add_neg, ← EReal.coe_neg, ← add_assoc, ← add_assoc, ← EReal.coe_add, add_right_comm,
    ← EReal.coe_add]
  congr 2
  have hs : g * (aff y w b r - mean n (aff y w b)) / Real.sqrt (var n (aff y w b) + e) = q * (aff y w b r - mean n (aff y w b)) := by rw [← hq]; ring
  rw [hs, ← hz r, mul_sub, mul_add, Finset.mul_sum]
  have : ∑ j, y r j * (w j * q) = ∑ j, q * (y r j * w j) := Finset.sum_congr rfl fun j _ => by ring
  rw [this]
  ring

end Cert.Bn

end
-- ==== Proof.OutFold.lean ====
module

public import proofs.«01_k».proof.Proof.OutVal
public import proofs.«01_k».proof.Proof.Algebra

@[expose] public section

set_option maxRecDepth 16384

noncomputable section

namespace Cert.KernelIdeal.Hand

open Cert.KernelIdeal Cert.KernelIdeal.Gen
open Idealize.ShloMosaic Idealize.ShloMosaic.TcCoe

/-! The folded weights and bias at an index, of the arguments. -/

/-- The scale of column `k`. -/
def scaleOf (mu : FVec Ideal S1x128 .f32) (S : FVec Ideal S128x128 .f32) (W : FVec Ideal S128x128 .f32) (g : FVec Ideal S128 .f32) (k : Fin 128) : EReal :=
  Cert.Bn.scale (g (ix1 k)) (fun j => W (ix2 k j)) (fun j => mu (ix2 0 j)) (fun i j => S (ix2 i j)) (Ideal.div 1 (Ideal.ofBits .f32 0x46C00000#32))
    (Ideal.ofBits FTy.f32 925353388#32)

/-- A folded weight. -/
def wEntry (mu : FVec Ideal S1x128 .f32) (S : FVec Ideal S128x128 .f32) (W : FVec Ideal S128x128 .f32) (g : FVec Ideal S128 .f32) (j k : Fin 128) : EReal :=
  W (ix2 k j) * scaleOf mu S W g k

/-- A folded bias. -/
def bEntry (mu : FVec Ideal S1x128 .f32) (S : FVec Ideal S128x128 .f32) (W : FVec Ideal S128x128 .f32) (b g be : FVec Ideal S128 .f32) (k : Fin 128) : EReal :=
  scaleOf mu S W g k * b (ix1 k) + (be (ix1 k) - scaleOf mu S W g k
    * ((∑ i : Fin 128, mu (ix2 0 i) * Ideal.div 1 (Ideal.ofBits .f32 0x46C00000#32) * W (ix2 k i)) + b (ix1 k)))

variable (m : (ℓ : Loc nD τ sig) → Buf (Elt Ideal) ℓ)

set_option maxHeartbeats 1000000 in
theorem w3Of_apply (c : Dev nD) (j k : Fin 128) : w3Of m c (ix2 j k)
    = wEntry (m ((c : Thread nD τ).loc main_arg3)) (m ((c : Thread nD τ).loc main_arg4)) (m ((c : Thread nD τ).loc main_arg5)) (m ((c : Thread nD τ).loc main_arg7)) j k := by
  unfold w3Of outW3
  rw [V_main_v3, V_main_v5, V_main_v2]
  pointwise [k0_pay8, k0_pay6, k0_pay5, k0_pay4, k0_pay3]
  simp only [Fin.sum_univ_one]
  unfold wEntry scaleOf Cert.Bn.scale
  rfl

set_option maxHeartbeats 1000000 in
theorem b3Of_apply (c : Dev nD) (k : Fin 128) : b3Of m c (ix2 0 k)
    = bEntry (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) k := by
  unfold b3Of outB3
  rw [V_main_v3, V_main_v4, V_main_v5, V_main_v6, V_main_v2]
  pointwise [k0_pay1, k0_pay7, k0_pay8, k0_pay6, k0_pay5, k0_pay4, k0_pay3]
  simp only [Fin.sum_univ_one]
  unfold bEntry scaleOf Cert.Bn.scale
  rfl

end Cert.KernelIdeal.Hand

end
-- ==== Proof.OutRef.lean ====
module

public import proofs.«01_k».proof.Proof.Gen.ReferenceIdeal.Run
public import Idealize.ShloMosaic.Lib.Pointwise
public import Idealize.ShloMosaic.Lib.Tactic.CleanTypes

@[expose] public section

set_option maxRecDepth 16384

noncomputable section

/-! The result of the reference for the third call, at an index. -/

namespace Cert.ReferenceIdeal.Hand

open Cert.ReferenceIdeal Cert.ReferenceIdeal.Gen Cert.ReferenceIdeal.Value
open Idealize.ShloMosaic Idealize.ShloMosaic.TcCoe

/-- Entry `r, k` of the third layer before its normalisation. -/
def rz (X : FVec Ideal S24576x128 .f32) (W2 : FVec Ideal S128x128 .f32) (b2 : FVec Ideal S1x128 .f32) (W3 : FVec Ideal S128x128 .f32) (b3 : FVec Ideal S128 .f32) (r : Fin 24576) (k : Fin 128) : EReal :=
  (∑ j : Fin 128, max ((∑ i : Fin 128, X (ix2 r i) * W2 (ix2 i j)) + b2 (ix2 0 j)) 0 * W3 (ix2 k j)) + b3 (ix1 k)

/-- The number of rows, as the reference's constant. -/
def rn : EReal := Ideal.ofBits FTy.f32 1186988032#32

/-- One logit of the reference. -/
def refLogit (X : FVec Ideal S24576x128 .f32) (W2 : FVec Ideal S128x128 .f32) (b2 : FVec Ideal S1x128 .f32) (W3 : FVec Ideal S128x128 .f32) (b3 g be : FVec Ideal S128 .f32)
    (W4 : FVec Ideal S2x128 .f32) (b4 : FVec Ideal S2 .f32) (r : Fin 24576) (o : Fin 2) : EReal :=
  (∑ k : Fin 128, max (Ideal.div (g (ix1 k) * (rz X W2 b2 W3 b3 r k - Ideal.div (∑ r, rz X W2 b2 W3 b3 r k) rn))
      (Ideal.sqrt ((if 0 < rn - FloatOps.sitofp (F := Ideal) FTy.f32 0#32 then
          Ideal.div (∑ r, (rz X W2 b2 W3 b3 r k - Ideal.div (∑ r, rz X W2 b2 W3 b3 r k) rn) * (rz X W2 b2 W3 b3 r k - Ideal.div (∑ r, rz X W2 b2 W3 b3 r k) rn)) (rn - FloatOps.sitofp (F := Ideal) FTy.f32 0#32)
        else id (constant (F := Ideal) S_ FTy.f32 2143289344#32) ix0) + Ideal.ofBits FTy.f32 925353388#32)) + be (ix1 k)) 0 * W4 (ix2 o k)) + b4 (ix1 o)

variable (m : (ℓ : Loc nD τ sig) → Buf (Elt Ideal) ℓ)

set_option maxHeartbeats 2000000 in
/-- The reference's result at an index. -/
theorem res_apply (c : Dev nD) (b : Fin 4) (o : Fin 2) (n : Fin 6144) (h : b.val * 6144 + n.val < 24576) :
    res_main_v32 m c (ix3 b o n)
      = refLogit (m ((c : Thread nD τ).loc main_arg0)) (m ((c : Thread nD τ).loc main_arg1)) (m ((c : Thread nD τ).loc main_arg2)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10))
          ⟨b.val * 6144 + n.val, h⟩ o := by
  unfold res_main_v32
  clean_types
  pointwise
  rfl

end Cert.ReferenceIdeal.Hand

end
-- ==== Proof.OutPre.lean ====
module

public import proofs.«01_k».proof.Defs
public import proofs.«01_k».proof.Proof.Gen.Pre_out_pre
public import Idealize.ShloMosaic.Lib.ReduceAll
public import Idealize.ShloMosaic.Lib.Pointwise

@[expose] public section

set_option maxRecDepth 16384

noncomputable section

/-! What the precondition of the third call says: six arguments are finite, and the two statistics are the sum and
the Gram matrix of the hidden rows. -/

namespace Cert.OutPre

open Cert.Pre_out_pre Cert.Pre_out_pre.Facts Idealize.ShloMosaic

/-- The infinite word. -/
theorem ofBits_inf : Ideal.ofBits .f32 0x7F800000#32 = (⊤ : EReal) := by
  simp [Ideal.ofBits, Ideal.ieee]

/-- A value below the infinity in magnitude is a real number. -/
theorem real_of_abs_lt {x : EReal} (h : max x (-x) < ⊤) : ∃ r : ℝ, x = (r : EReal) := by
  induction x using EReal.rec with
  | bot => simp at h
  | coe r => exact ⟨r, rfl⟩
  | top => simp at h

theorem bit_lt {a b : EReal} (h : (FloatOps.cmpf (F := Ideal) (φ := .f32) .olt a b) = 1#1) : a < b := by
  by_contra hn
  simp [FloatOps.cmpf, Ideal.cmp, hn] at h

theorem bit_eq {a b : EReal} (h : (FloatOps.cmpf (F := Ideal) (φ := .f32) .oeq a b) = 1#1) : a = b := by
  by_contra hn
  simp [FloatOps.cmpf, Ideal.cmp, hn] at h

instance : Subsingleton S_.Idx := ⟨fun a b => funext fun k => k.elim0⟩

/-- The hidden row entry `r, j`. -/
def hidden (X : FVec Ideal S24576x128 .f32) (W : FVec Ideal S128x128 .f32) (b : FVec Ideal S1x128 .f32) (r : Fin 24576) (j : Fin 128) : EReal :=
  max ((∑ k : Fin 128, X (ix2 r k) * W (ix2 k j)) + b (ix2 0 j)) 0

variable [Cert.Pre_out_pre.Facts]

/-- `isfinite` holding everywhere of an array makes each entry a real number. -/
theorem real_of_all {s : Shape} {axes : List (Fin s.rank)} (x : FVec Ideal s .f32) (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu ix0 = 1#1) (i : s.Idx) :
    ∃ r : ℝ, x i = (r : EReal) := by
  have h := Host.reduce_andi_all _ _ _ _ _ e i
  have h' : max (x i) (-(x i)) < Ideal.ofBits .f32 0x7F800000#32 := bit_lt h
  rw [ofBits_inf] at h'
  exact real_of_abs_lt h'

set_option maxHeartbeats 1000000 in
/-- The precondition, spelled out. -/
theorem facts_of_pre {X : FVec Ideal S24576x128 .f32} {W2 : FVec Ideal S128x128 .f32} {b2 mu : FVec Ideal S1x128 .f32} {S W3 : FVec Ideal S128x128 .f32} {b g be : FVec Ideal S128 .f32}
    {W4 : FVec Ideal S2x128 .f32} {b4 : FVec Ideal S2 .f32} (h : Cert.Pre_out_pre.fn (F := Ideal) X W2 b2 mu S W3 b g be W4 b4 = fun _ => 1#1) :
    (∀ i, ∃ r : ℝ, X i = (r : EReal)) ∧ (∀ i, ∃ r : ℝ, W2 i = (r : EReal)) ∧ (∀ i, ∃ r : ℝ, b2 i = (r : EReal))
      ∧ (∀ i, ∃ r : ℝ, W3 i = (r : EReal)) ∧ (∀ i, ∃ r : ℝ, b i = (r : EReal)) ∧ (∀ i, ∃ r : ℝ, g i = (r : EReal))
      ∧ (∀ j, mu (ix2 0 j) = ∑ r : Fin 24576, hidden X W2 b2 r j)
      ∧ (∀ i j, S (ix2 i j) = ∑ r : Fin 24576, hidden X W2 b2 r i * hidden X W2 b2 r j) := by
  have h0 := congrFun h ix0
  unfold Cert.Pre_out_pre.fn Cert.Pre_out_pre.fn_part1 Cert.Pre_out_pre.fn_part2 at h0
  obtain ⟨h0, hS⟩ := IntOp.andi_eq_one.1 h0
  obtain ⟨h0, hmu⟩ := IntOp.andi_eq_one.1 h0
  obtain ⟨h0, hg⟩ := IntOp.andi_eq_one.1 h0
  obtain ⟨h0, hb⟩ := IntOp.andi_eq_one.1 h0
  obtain ⟨h0, hW3⟩ := IntOp.andi_eq_one.1 h0
  obtain ⟨h0, hb2⟩ := IntOp.andi_eq_one.1 h0
  obtain ⟨hX, hW2⟩ := IntOp.andi_eq_one.1 h0
  refine ⟨real_of_all _ _ _ _ hX, real_of_all _ _ _ _ hW2, real_of_all _ _ _ _ hb2, real_of_all _ _ _ _ hW3, real_of_all _ _ _ _ hb, real_of_all _ _ _ _ hg, fun j => ?_, fun i j => ?_⟩
  · have e := bit_eq (Host.reduce_andi_all _ _ _ _ _ hmu (ix2 0 j))
    rw [e]
    pointwise [fn_relu]
    rfl
  · have e := bit_eq (Host.reduce_andi_all _ _ _ _ _ hS (ix2 i j))
    rw [e]
    pointwise [fn_relu]
    rfl

end Cert.OutPre

end
-- ==== Proof.Consts.lean ====
module

public import Idealize.ShloMosaic.PureOps
public import proofs.«01_k».proof.Proof.Algebra

@[expose] public section

noncomputable section

/-! The float words of the programs, as real numbers. -/

namespace Cert.Consts

open Idealize.ShloMosaic

/-- The small number added to a variance: the float nearest `1e-5`. -/
def eps : ℝ := 10995116 / 2 ^ 40

theorem eps_pos : 0 < eps := by unfold eps; positivity

theorem eps_word : Ideal.ofBits FTy.f32 925353388#32 = (eps : EReal) := by
  simp [Ideal.ofBits, Ideal.ieee, eps, -EReal.coe_mul]
  norm_num

theorem rows_word : Ideal.ofBits FTy.f32 1186988032#32 = ((24576 : ℝ) : EReal) := by
  simp [Ideal.ofBits, Ideal.ieee, -EReal.coe_mul]
  norm_num

theorem rows_inv : Ideal.div 1 (Ideal.ofBits FTy.f32 0x46C00000#32) = ((1 / 24576 : ℝ) : EReal) := by
  rw [show Ideal.ofBits FTy.f32 0x46C00000#32 = ((24576 : ℝ) : EReal) from rows_word, ← EReal.coe_one, Bn.div_real _ (by norm_num)]

theorem rows_sub : Ideal.ofBits FTy.f32 1186988032#32 - FloatOps.sitofp (F := Ideal) FTy.f32 0#32 = ((24576 : ℝ) : EReal) := by
  rw [rows_word, show FloatOps.sitofp (F := Ideal) FTy.f32 0#32 = ((0 : ℝ) : EReal) by simp [FloatOps.sitofp], ← EReal.coe_sub, sub_zero]

theorem rows_pos : (0 : EReal) < Ideal.ofBits FTy.f32 1186988032#32 - FloatOps.sitofp (F := Ideal) FTy.f32 0#32 := by
  rw [rows_sub]
  exact_mod_cast (by norm_num : (0 : ℝ) < 24576)

end Cert.Consts

end
-- ==== Proof.OutEq.lean ====
module

public import proofs.«01_k».proof.Proof.OutFold
public import proofs.«01_k».proof.Proof.OutRef
public import proofs.«01_k».proof.Proof.OutPre
public import proofs.«01_k».proof.Proof.Consts

@[expose] public section

set_option maxRecDepth 16384

noncomputable section

namespace Cert.OutEq

open Idealize.ShloMosaic Idealize.ShloMosaic.TcCoe Cert.KernelIdeal.Hand Cert.ReferenceIdeal.Hand
open Cert.KernelIdeal (S24576x128 S128x128 S1x128 S128 S2x128 S2)

/-! Under the precondition, a logit of the kernel is the reference's. -/

/-- The hidden rows are real. -/
theorem hidden_real {X : FVec Ideal S24576x128 .f32} {W2 : FVec Ideal S128x128 .f32} {b2 : FVec Ideal S1x128 .f32} (hX : ∀ i, ∃ r : ℝ, X i = (r : EReal)) (hW : ∀ i, ∃ r : ℝ, W2 i = (r : EReal))
    (hb : ∀ i, ∃ r : ℝ, b2 i = (r : EReal)) : ∃ y : Fin 24576 → Fin 128 → ℝ, ∀ r j, Cert.OutPre.hidden X W2 b2 r j = (y r j : EReal) := by
  choose x hx using hX
  choose w hw using hW
  choose b hb using hb
  refine ⟨fun r j => max ((∑ k : Fin 128, x (ix2 r k) * w (ix2 k j)) + b (ix2 0 j)) 0, fun r j => ?_⟩
  unfold Cert.OutPre.hidden
  simp only [hx, hw, hb, Cert.Bn.coe_max, EReal.coe_add, Cert.Bn.coe_sum, EReal.coe_mul, EReal.coe_zero]

variable [Cert.Pre_out_pre.Facts]

theorem logit_eq {X : FVec Ideal S24576x128 .f32} {W2 : FVec Ideal S128x128 .f32} {b2 mu : FVec Ideal S1x128 .f32} {S W3 : FVec Ideal S128x128 .f32} {b g be : FVec Ideal S128 .f32}
    {W4 : FVec Ideal S2x128 .f32} {b4 : FVec Ideal S2 .f32} (h : Cert.Pre_out_pre.fn (F := Ideal) X W2 b2 mu S W3 b g be W4 b4 = fun _ => 1#1) (w3 : FVec Ideal S128x128 .f32) (b3 : FVec Ideal S1x128 .f32)
    (hw3 : ∀ j k, w3 (ix2 j k) = wEntry mu S W3 g j k) (hb3 : ∀ k, b3 (ix2 0 k) = bEntry mu S W3 b g be k) (r : Fin 24576) (o : Fin 2) :
    logit X W2 b2 w3 b3 W4 b4 r o = refLogit X W2 b2 W3 b g be W4 b4 r o := by
  obtain ⟨hX, hW2, hb2, hW3, hb, hg, hmu, hS⟩ := Cert.OutPre.facts_of_pre h
  obtain ⟨y, hy⟩ := hidden_real hX hW2 hb2
  choose w hw using hW3
  choose c hc using hb
  choose q hq using hg
  have hz : ∀ r k, rz X W2 b2 W3 b r k = (∑ j, (y r j : EReal) * (w (ix2 k j) : EReal)) + (c (ix1 k) : EReal) := by
    intro r k
    unfold rz
    rw [hc]
    congr 1
    refine Finset.sum_congr rfl fun j _ => ?_
    rw [← hy r j, ← hw]
    rfl
  unfold logit refLogit
  congr 1
  refine Finset.sum_congr rfl fun k _ => ?_
  rw [mul_comm]
  congr 1
  unfold hid
  congr 1
  have hM : ((24576 : ℕ) : ℝ) = 24576 := by norm_num
  have hn : (0 : ℝ) < 24576 := by norm_num
  have hs : scaleOf mu S W3 g k = ((q (ix1 k) / Real.sqrt (Cert.Bn.var 24576 (Cert.Bn.aff y (fun j => w (ix2 k j)) (c (ix1 k))) + Cert.Consts.eps) : ℝ) : EReal) := by
    rw [← Cert.Bn.scale_eq hn hM Cert.Consts.eps_pos y (fun j => w (ix2 k j)) (c (ix1 k)) (q (ix1 k))]
    unfold scaleOf
    simp only [hw, hq, hmu, hS, hy, Cert.Consts.rows_inv, Cert.Consts.eps_word]
  rw [hb3]
  simp only [hw3]
  unfold wEntry bEntry
  have hpos : (0 : EReal) < rn - FloatOps.sitofp (F := Ideal) FTy.f32 0#32 := Cert.Consts.rows_pos
  rw [if_pos hpos]
  rw [show rn - FloatOps.sitofp (F := Ideal) FTy.f32 0#32 = ((24576 : ℝ) : EReal) from Cert.Consts.rows_sub, show rn = ((24576 : ℝ) : EReal) from Cert.Consts.rows_word]
  simp only [hz]
  have e := Cert.Bn.fold_eq hn hM Cert.Consts.eps_pos y (fun j => w (ix2 k j)) (c (ix1 k)) (q (ix1 k)) (be (ix1 k)) r _ hs
  rw [Cert.Consts.eps_word, hq]
  refine Eq.trans ?_ e
  rw [hc]
  simp only [hw, hmu, Cert.Consts.rows_inv, ← hy]
  rfl

end Cert.OutEq

end
-- ==== Proof.MidVals.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.VecWindow
public import Idealize.ShloMosaic.Lib.WholeRead
public import Idealize.ShloMosaic.Lib.Tactic
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! What the kernel body of the second call stores, as functions of the blocks it reads. -/

/-- A load of part of a buffer that a store has just filled whole reads that part of what was stored. -/
theorem readAt_after_full {sig : RefSig} {κ : Kind} {sp : Space} {s : Shape} {e : EltTy} {Val : EltTy → Type} (v : View sig κ sp s e) (f : v.ty.Contents Val)
    {off : Fin s.rank → ℕ} (inb : ∀ a, off a + s.size a ≤ s.size a) (w : (Rect.unit off s.size inb).shape.Idx → Val e) (L : List (View.Piece Val s e)) (B : LoadRect s) :
    v.readAt Val B (v.writes Val f (⟨Rect.unit off s.size inb, w⟩ :: L)) = fun x => w (B.idx x) := by
  funext x
  exact congrFun (View.read_writes_full v f inb w L) (B.idx x)

/-- The same with the contents before the store forgotten. -/
theorem readCov_after_full {sig : RefSig} {κ : Kind} {sp : Space} {s : Shape} {e : EltTy} {Val : EltTy → Type} [∀ e, Nonempty (Val e)] (v : View sig κ sp s e)
    {off : Fin s.rank → ℕ} (inb : ∀ a, off a + s.size a ≤ s.size a) (w : (Rect.unit off s.size inb).shape.Idx → Val e) (L : List (View.Piece Val s e)) (B : LoadRect s) :
    v.readCov (⟨Rect.unit off s.size inb, w⟩ :: L) B = fun x => w (B.idx x) :=
  readAt_after_full v v.junk inb w L B

/-- A load of part of a whole buffer holding `X` reads that part of `X`. -/
theorem readAt_of_whole {sig : RefSig} {κ : Kind} {sp : Space} {s : Shape} {e : EltTy} {Val : EltTy → Type} {m : Memref sig κ sp s e} (h : m.IsWhole) (X : s.Idx → Val e) (B : LoadRect s) :
    View.readAt Val m.view B (h.unread X) = fun x => X (B.idx x) :=
  funext fun x => h.readAt_unread X B x

/-- The first point of the grid. -/
abbrev first0 (i : grid0.Coords) : Prop := k0_cond1 i = 1#1
/-- The folded weights of the second relation layer. -/
def midW2 (mu : Vec F S1x128 .f32) (S : Vec F S128x128 .f32) (w : Vec F S128x128 .f32) (g : Vec F S1x128 .f32) (minv : Vec F S1x1 .f32) : FVec F S128x128 .f32 :=
  k0_pay17 (k0_pay11 w) (k0_pay14 (k0_pay4 minv mu S) w g)
/-- The folded bias of the second relation layer. -/
def midB2 (mu : Vec F S1x128 .f32) (S : Vec F S128x128 .f32) (w : Vec F S128x128 .f32) (b g be : Vec F S1x128 .f32) (minv : Vec F S1x1 .f32) : FVec F S1x128 .f32 :=
  k0_pay18 (k0_pay12 (k0_pay4 minv mu S) w g) (k0_pay13 (k0_pay3 minv mu) (k0_pay4 minv mu S) w b g be) b
/-- The folded weights of the second relation layer as handed on. -/
def midW2o (mu : Vec F S1x128 .f32) (S : Vec F S128x128 .f32) (w : Vec F S128x128 .f32) (g : Vec F S1x128 .f32) (minv : Vec F S1x1 .f32) : FVec F S128x128 .f32 :=
  k0_pay15 (k0_pay11 w) (k0_pay14 (k0_pay4 minv mu S) w g)
/-- The folded bias of the second relation layer as handed on. -/
def midB2o (mu : Vec F S1x128 .f32) (S : Vec F S128x128 .f32) (w : Vec F S128x128 .f32) (b g be : Vec F S1x128 .f32) (minv : Vec F S1x1 .f32) : FVec F S1x128 .f32 :=
  k0_pay16 (k0_pay12 (k0_pay4 minv mu S) w g) (k0_pay13 (k0_pay3 minv mu) (k0_pay4 minv mu S) w b g be) b
/-- The folded weights of the first two layers of the feature branch. -/
def midWeff (mu : Vec F S1x128 .f32) (S : Vec F S128x128 .f32) (gw : Vec F S128x256 .f32) (gg : Vec F S1x256 .f32) (rw : Vec F S256x128 .f32) (minv : Vec F S1x1 .f32) : FVec F S128x128 .f32 :=
  k0_pay9 (k0_pay8 minv mu S gw gg rw)
/-- The folded bias of the first two layers of the feature branch. -/
def midBeff (mu : Vec F S1x128 .f32) (S : Vec F S128x128 .f32) (gw : Vec F S128x256 .f32) (gb gg gbe : Vec F S1x256 .f32) (rw : Vec F S256x128 .f32) (rb : Vec F S1x128 .f32) (minv : Vec F S1x1 .f32) : FVec F S128x1 .f32 :=
  k0_pay10 (k0_pay6 minv mu S gw gg) (k0_pay7 minv mu S gw gb gg gbe) gb rw rb
/-- The block of the feature result. -/
def midRnf (X : Vec F S6144x128 .f32) (weff : Vec F S128x128 .f32) (beff : Vec F S128x1 .f32) : FVec F S1x128x2048 .f32 :=
  k0_pay1 weff (k0_pay24 X) k0_pay25 beff

end Cert.Kernel2Ideal.Hand

end
-- ==== Proof.MidRunFirstP.lean ====
module

public import proofs.«01_k».proof.Proof.MidVals

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The body at the first point: the folded weights are computed into the four scratch buffers and handed on, and the first blocks from them. The pieces each buffer is left with come with the run. -/
noncomputable def mid_firstP (c : Dev nD) (i : grid0.Coords)
    (arg1 : Memref sig .tc .vmem S6144x128 .f32) (harg1 : arg1.IsWhole)
    (arg2 : Memref sig .tc .vmem S1x128 .f32) (harg2 : arg2.IsWhole)
    (arg3 : Memref sig .tc .vmem S128x128 .f32) (harg3 : arg3.IsWhole)
    (arg4 : Memref sig .tc .vmem S128x256 .f32) (harg4 : arg4.IsWhole)
    (arg5 : Memref sig .tc .vmem S1x256 .f32) (harg5 : arg5.IsWhole)
    (arg6 : Memref sig .tc .vmem S1x256 .f32) (harg6 : arg6.IsWhole)
    (arg7 : Memref sig .tc .vmem S1x256 .f32) (harg7 : arg7.IsWhole)
    (arg8 : Memref sig .tc .vmem S256x128 .f32) (harg8 : arg8.IsWhole)
    (arg9 : Memref sig .tc .vmem S1x128 .f32) (harg9 : arg9.IsWhole)
    (arg10 : Memref sig .tc .vmem S128x128 .f32) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S1x1 .f32) (harg14 : arg14.IsWhole)
    (arg15 : Memref sig .tc .vmem S1x128 .f32) (harg15 : arg15.IsWhole)
    (arg16 : Memref sig .tc .vmem S128x128 .f32) (harg16 : arg16.IsWhole)
    (arg17 : Memref sig .tc .vmem S1x128x2048 .f32) (harg17 : arg17.IsWhole)
    (arg18 : Memref sig .tc .vmem S128x128 .f32) (harg18 : arg18.IsWhole)
    (arg19 : Memref sig .tc .vmem S1x128 .f32) (harg19 : arg19.IsWhole)
    (arg20 : Memref sig .tc .vmem S128x128 .f32) (harg20 : arg20.IsWhole)
    (arg21 : Memref sig .tc .vmem S1x128 .f32) (harg21 : arg21.IsWhole)
    (arg22 : Memref sig .tc .vmem S128x128 .f32) (harg22 : arg22.IsWhole)
    (arg23 : Memref sig .tc .vmem S128x1 .f32) (harg23 : arg23.IsWhole)
    (hc0 : first0 i)
    (x0 : Vec F S6144x128 .f32)    (x1 : Vec F S1x128 .f32)    (x2 : Vec F S128x128 .f32)    (x3 : Vec F S128x256 .f32)    (x4 : Vec F S1x256 .f32)    (x5 : Vec F S1x256 .f32)    (x6 : Vec F S1x256 .f32)    (x7 : Vec F S256x128 .f32)    (x8 : Vec F S1x128 .f32)    (x9 : Vec F S128x128 .f32)    (x10 : Vec F S1x128 .f32)    (x11 : Vec F S1x128 .f32)    (x12 : Vec F S1x128 .f32)    (x13 : Vec F S1x1 .f32)
    :
    Σ' (L14 : List (View.Piece (Elt F) S1x128 .f32)), Σ' (L15 : List (View.Piece (Elt F) S128x128 .f32)), Σ' (L16 : List (View.Piece (Elt F) S1x128x2048 .f32)), Σ' (L17 : List (View.Piece (Elt F) S128x128 .f32)), Σ' (L18 : List (View.Piece (Elt F) S1x128 .f32)), Σ' (L19 : List (View.Piece (Elt F) S128x128 .f32)), Σ' (L20 : List (View.Piece (Elt F) S1x128 .f32)), Σ' (L21 : List (View.Piece (Elt F) S128x128 .f32)), { L22 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22)) -∗ K ⟨⟩))
        ⊢ wp frame (wpE (defs₀ (F := F)) Variants.none c none) E (cc0__mid_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0__mid_kernel_eq_skeleton]; unfold cc0__mid_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    isplitl [H21]
    · iexists _; iexact H21
    iexists _; iexact H22

end Cert.Kernel2Ideal.Hand

end
-- ==== Proof.MidFold.lean ====
module

public import proofs.«01_k».proof.Proof.MidRunFirstP

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The value `v42` of the run at the first point. -/
theorem first_v42 (c : Dev nD) (arg14 : Memref sig .tc .vmem S1x1 .f32) (harg14 : arg14.IsWhole) (x13 : Vec F S1x1 .f32) :
    mid_firstP.sl.v42 (F := F) c arg14 harg14 x13 = k0_pay2 x13 := by
  unfold mid_firstP.sl.v42
  simp (config := { index := false }) only [View.readAt_full, Memref.IsWhole.read_unread]
  rfl

/-- The value `v45` of the run at the first point. -/
theorem first_v45 (c : Dev nD) (arg2 : Memref sig .tc .vmem S1x128 .f32) (harg2 : arg2.IsWhole) (arg14 : Memref sig .tc .vmem S1x1 .f32) (harg14 : arg14.IsWhole) (x1 : Vec F S1x128 .f32) (x13 : Vec F S1x1 .f32) :
    mid_firstP.sl.v45 (F := F) c arg2 harg2 arg14 harg14 x1 x13 = k0_pay3 x13 x1 := by
  unfold mid_firstP.sl.v45
  simp (config := { index := false }) only [mid_firstP.sl.v44, first_v42, View.readAt_full, Memref.IsWhole.read_unread]
  rfl

/-- The value `v50` of the run at the first point. -/
theorem first_v50 (c : Dev nD) (arg2 : Memref sig .tc .vmem S1x128 .f32) (harg2 : arg2.IsWhole) (arg3 : Memref sig .tc .vmem S128x128 .f32) (harg3 : arg3.IsWhole) (arg14 : Memref sig .tc .vmem S1x1 .f32) (harg14 : arg14.IsWhole) (x1 : Vec F S1x128 .f32) (x2 : Vec F S128x128 .f32) (x13 : Vec F S1x1 .f32) :
    mid_firstP.sl.v50 (F := F) c arg2 harg2 arg3 harg3 arg14 harg14 x1 x2 x13 = k0_pay4 x13 x1 x2 := by
  unfold mid_firstP.sl.v50
  simp (config := { index := false }) only [mid_firstP.sl.v48, mid_firstP.sl.v49, mid_firstP.sl.cst_32, mid_firstP.sl.v47, first_v42, first_v45, View.readAt_full, Memref.IsWhole.read_unread]
  rfl

/-- The value `v52` of the run at the first point. -/
theorem first_v52 (c : Dev nD) (arg4 : Memref sig .tc .vmem S128x256 .f32) (harg4 : arg4.IsWhole) (x3 : Vec F S128x256 .f32) :
    mid_firstP.sl.v52 (F := F) c arg4 harg4 x3 = k0_pay5 x3 := by
  unfold mid_firstP.sl.v52
  simp (config := { index := false }) only [first_v42, first_v45, first_v50, View.readAt_full, Memref.IsWhole.read_unread]
  rfl

/-- The value `v66` of the run at the first point. -/
theorem first_v66 (c : Dev nD) (arg2 : Memref sig .tc .vmem S1x128 .f32) (harg2 : arg2.IsWhole) (arg3 : Memref sig .tc .vmem S128x128 .f32) (harg3 : arg3.IsWhole) (arg4 : Memref sig .tc .vmem S128x256 .f32) (harg4 : arg4.IsWhole) (arg6 : Memref sig .tc .vmem S1x256 .f32) (harg6 : arg6.IsWhole) (arg14 : Memref sig .tc .vmem S1x1 .f32) (harg14 : arg14.IsWhole) (x1 : Vec F S1x128 .f32) (x2 : Vec F S128x128 .f32) (x3 : Vec F S128x256 .f32) (x5 : Vec F S1x256 .f32) (x13 : Vec F S1x1 .f32) :
    mid_firstP.sl.v66 (F := F) c arg2 harg2 arg3 harg3 arg4 harg4 arg6 harg6 arg14 harg14 x1 x2 x3 x5 x13 = k0_pay6 x13 x1 x2 x3 x5 := by
  unfold mid_firstP.sl.v66
  simp (config := { index := false }) only [mid_firstP.sl.v62, mid_firstP.sl.v65, mid_firstP.sl.v64, mid_firstP.sl.v56, mid_firstP.sl.v63, mid_firstP.sl.cst_42, mid_firstP.sl.v55, mid_firstP.sl.v54, mid_firstP.sl.v53, mid_firstP.sl.cst_35, first_v42, first_v45, first_v50, first_v52, View.readAt_full, Memref.IsWhole.read_unread]
  rfl

/-- The value `v70` of the run at the first point. -/
theorem first_v70 (c : Dev nD) (arg2 : Memref sig .tc .vmem S1x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg14 : Memref sig .tc .vmem S1x1 .f32) (harg14 : arg14.IsWhole) (x1 : Vec F S1x128 .f32) (x2 : Vec F S128x128 .f32) (x3 : Vec F S128x256 .f32) (x4 : Vec F S1x256 .f32) (x5 : Vec F S1x256 .f32) (x6 : Vec F S1x256 .f32) (x13 : Vec F S1x1 .f32) :
    mid_firstP.sl.v70 (F := F) c arg2 harg2 arg3 harg3 arg4 harg4 arg5 harg5 arg6 harg6 arg7 harg7 arg14 harg14 x1 x2 x3 x4 x5 x6 x13 = k0_pay7 x13 x1 x2 x3 x4 x5 x6 := by
  unfold mid_firstP.sl.v70
  simp (config := { index := false }) only [mid_firstP.sl.v68, mid_firstP.sl.v69, mid_firstP.sl.v60, mid_firstP.sl.v57, mid_firstP.sl.v59, mid_firstP.sl.cst_37, first_v42, first_v45, first_v50, first_v52, first_v66, View.readAt_full, Memref.IsWhole.read_unread]
  rfl

/-- The value `v75` of the run at the first point. -/
theorem first_v75 (c : Dev nD) (arg2 : Memref sig .tc .vmem S1x128 .f32) (harg2 : arg2.IsWhole) (arg3 : Memref sig .tc .vmem S128x128 .f32) (harg3 : arg3.IsWhole) (arg4 : Memref sig .tc .vmem S128x256 .f32) (harg4 : arg4.IsWhole) (arg6 : Memref sig .tc .vmem S1x256 .f32) (harg6 : arg6.IsWhole) (arg8 : Memref sig .tc .vmem S256x128 .f32) (harg8 : arg8.IsWhole) (arg14 : Memref sig .tc .vmem S1x1 .f32) (harg14 : arg14.IsWhole) (x1 : Vec F S1x128 .f32) (x2 : Vec F S128x128 .f32) (x3 : Vec F S128x256 .f32) (x5 : Vec F S1x256 .f32) (x7 : Vec F S256x128 .f32) (x13 : Vec F S1x1 .f32) :
    mid_firstP.sl.v75 (F := F) c arg2 harg2 arg3 harg3 arg4 harg4 arg6 harg6 arg8 harg8 arg14 harg14 x1 x2 x3 x5 x7 x13 = k0_pay8 x13 x1 x2 x3 x5 x7 := by
  unfold mid_firstP.sl.v75
  simp (config := { index := false }) only [mid_firstP.sl.v72, mid_firstP.sl.v74, mid_firstP.sl.cst_32, mid_firstP.sl.v71, first_v42, first_v45, first_v50, first_v52, first_v66, first_v70, View.readAt_full, Memref.IsWhole.read_unread]
  rfl

/-- The value `v78` of the run at the first point. -/
theorem first_v78 (c : Dev nD) (arg2 : Memref sig .tc .vmem S1x128 .f32) (harg2 : arg2.IsWhole) (arg3 : Memref sig .tc .vmem S128x128 .f32) (harg3 : arg3.IsWhole) (arg4 : Memref sig .tc .vmem S128x256 .f32) (harg4 : arg4.IsWhole) (arg6 : Memref sig .tc .vmem S1x256 .f32) (harg6 : arg6.IsWhole) (arg8 : Memref sig .tc .vmem S256x128 .f32) (harg8 : arg8.IsWhole) (arg14 : Memref sig .tc .vmem S1x1 .f32) (harg14 : arg14.IsWhole) (x1 : Vec F S1x128 .f32) (x2 : Vec F S128x128 .f32) (x3 : Vec F S128x256 .f32) (x5 : Vec F S1x256 .f32) (x7 : Vec F S256x128 .f32) (x13 : Vec F S1x1 .f32) :
    mid_firstP.sl.v78 (F := F) c arg2 harg2 arg3 harg3 arg4 harg4 arg6 harg6 arg8 harg8 arg14 harg14 x1 x2 x3 x5 x7 x13 = midWeff x1 x2 x3 x5 x7 x13 := by
  unfold mid_firstP.sl.v78
  simp (config := { index := false }) only [first_v42, first_v45, first_v50, first_v52, first_v66, first_v70, first_v75, View.readAt_full, Memref.IsWhole.read_unread]
  rfl

/-- The value `v92` of the run at the first point. -/
theorem first_v92 (c : Dev nD) (arg2 : Memref sig .tc .vmem S1x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg14 : Memref sig .tc .vmem S1x1 .f32) (harg14 : arg14.IsWhole) (x1 : Vec F S1x128 .f32) (x2 : Vec F S128x128 .f32) (x3 : Vec F S128x256 .f32) (x4 : Vec F S1x256 .f32) (x5 : Vec F S1x256 .f32) (x6 : Vec F S1x256 .f32) (x7 : Vec F S256x128 .f32) (x8 : Vec F S1x128 .f32) (x13 : Vec F S1x1 .f32) :
    mid_firstP.sl.v92 (F := F) c arg2 harg2 arg3 harg3 arg4 harg4 arg5 harg5 arg6 harg6 arg7 harg7 arg8 harg8 arg9 harg9 arg14 harg14 x1 x2 x3 x4 x5 x6 x7 x8 x13 = midBeff x1 x2 x3 x4 x5 x6 x7 x8 x13 := by
  unfold mid_firstP.sl.v92
  simp (config := { index := false }) only [mid_firstP.sl.v89, mid_firstP.sl.v88, mid_firstP.sl.v85, mid_firstP.sl.v87, mid_firstP.sl.v82, mid_firstP.sl.v74, mid_firstP.sl.cst_54, mid_firstP.sl.v81, mid_firstP.sl.v59, first_v42, first_v45, first_v50, first_v52, first_v66, first_v70, first_v75, first_v78, View.readAt_full, Memref.IsWhole.read_unread]
  rfl

/-- The value `v94` of the run at the first point. -/
theorem first_v94 (c : Dev nD) (arg10 : Memref sig .tc .vmem S128x128 .f32) (harg10 : arg10.IsWhole) (x9 : Vec F S128x128 .f32) :
    mid_firstP.sl.v94 (F := F) c arg10 harg10 x9 = k0_pay11 x9 := by
  unfold mid_firstP.sl.v94
  simp (config := { index := false }) only [first_v42, first_v45, first_v50, first_v52, first_v66, first_v70, first_v75, first_v78, first_v92, View.readAt_full, Memref.IsWhole.read_unread]
  rfl

/-- The value `v108` of the run at the first point. -/
theorem first_v108 (c : Dev nD) (arg2 : Memref sig .tc .vmem S1x128 .f32) (harg2 : arg2.IsWhole) (arg3 : Memref sig .tc .vmem S128x128 .f32) (harg3 : arg3.IsWhole) (arg10 : Memref sig .tc .vmem S128x128 .f32) (harg10 : arg10.IsWhole) (arg12 : Memref sig .tc .vmem S1x128 .f32) (harg12 : arg12.IsWhole) (arg14 : Memref sig .tc .vmem S1x1 .f32) (harg14 : arg14.IsWhole) (x1 : Vec F S1x128 .f32) (x2 : Vec F S128x128 .f32) (x9 : Vec F S128x128 .f32) (x11 : Vec F S1x128 .f32) (x13 : Vec F S1x1 .f32) :
    mid_firstP.sl.v108 (F := F) c arg2 harg2 arg3 harg3 arg10 harg10 arg12 harg12 arg14 harg14 x1 x2 x9 x11 x13 = k0_pay12 (k0_pay4 x13 x1 x2) x9 x11 := by
  unfold mid_firstP.sl.v108
  simp (config := { index := false }) only [mid_firstP.sl.v104, mid_firstP.sl.v107, mid_firstP.sl.v106, mid_firstP.sl.v98, mid_firstP.sl.v105, mid_firstP.sl.cst_42, mid_firstP.sl.v97, mid_firstP.sl.v96, mid_firstP.sl.v95, mid_firstP.sl.cst_32, first_v42, first_v45, first_v50, first_v52, first_v66, first_v70, first_v75, first_v78, first_v92, first_v94, View.readAt_full, Memref.IsWhole.read_unread]
  rfl

/-- The value `v112` of the run at the first point. -/
theorem first_v112 (c : Dev nD) (arg2 : Memref sig .tc .vmem S1x128 .f32) (harg2 : arg2.IsWhole) (arg3 : Memref sig .tc .vmem S128x128 .f32) (harg3 : arg3.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x1 .f32) (harg14 : arg14.IsWhole) (x1 : Vec F S1x128 .f32) (x2 : Vec F S128x128 .f32) (x9 : Vec F S128x128 .f32) (x10 : Vec F S1x128 .f32) (x11 : Vec F S1x128 .f32) (x12 : Vec F S1x128 .f32) (x13 : Vec F S1x1 .f32) :
    mid_firstP.sl.v112 (F := F) c arg2 harg2 arg3 harg3 arg10 harg10 arg11 harg11 arg12 harg12 arg13 harg13 arg14 harg14 x1 x2 x9 x10 x11 x12 x13 = k0_pay13 (k0_pay3 x13 x1) (k0_pay4 x13 x1 x2) x9 x10 x11 x12 := by
  unfold mid_firstP.sl.v112
  simp (config := { index := false }) only [mid_firstP.sl.v110, mid_firstP.sl.v111, mid_firstP.sl.v102, mid_firstP.sl.v99, mid_firstP.sl.v101, mid_firstP.sl.cst_54, first_v42, first_v45, first_v50, first_v52, first_v66, first_v70, first_v75, first_v78, first_v92, first_v94, first_v108, View.readAt_full, Memref.IsWhole.read_unread]
  rfl

/-- The value `v113` of the run at the first point. -/
theorem first_v113 (c : Dev nD) (arg2 : Memref sig .tc .vmem S1x128 .f32) (harg2 : arg2.IsWhole) (arg3 : Memref sig .tc .vmem S128x128 .f32) (harg3 : arg3.IsWhole) (arg10 : Memref sig .tc .vmem S128x128 .f32) (harg10 : arg10.IsWhole) (arg12 : Memref sig .tc .vmem S1x128 .f32) (harg12 : arg12.IsWhole) (arg14 : Memref sig .tc .vmem S1x1 .f32) (harg14 : arg14.IsWhole) (x1 : Vec F S1x128 .f32) (x2 : Vec F S128x128 .f32) (x9 : Vec F S128x128 .f32) (x11 : Vec F S1x128 .f32) (x13 : Vec F S1x1 .f32) :
    mid_firstP.sl.v113 (F := F) c arg2 harg2 arg3 harg3 arg10 harg10 arg12 harg12 arg14 harg14 x1 x2 x9 x11 x13 = k0_pay14 (k0_pay4 x13 x1 x2) x9 x11 := by
  unfold mid_firstP.sl.v113
  simp (config := { index := false }) only [first_v42, first_v45, first_v50, first_v52, first_v66, first_v70, first_v75, first_v78, first_v92, first_v94, first_v108, first_v112, View.readAt_full, Memref.IsWhole.read_unread]
  rfl

/-- The value `r_1` of the run at the first point. -/
theorem first_r_1 (c : Dev nD) (arg1 : Memref sig .tc .vmem S6144x128 .f32) (harg1 : arg1.IsWhole) (x0 : Vec F S6144x128 .f32) :
    mid_firstP.sl.r_1 (F := F) c arg1 harg1 x0 = k0_pay24 x0 := by
  unfold mid_firstP.sl.r_1
  rw [View.readAt_full, Memref.IsWhole.read_unread]

/-- The value `v4` of the run at the first point. -/
theorem first_v4 (c : Dev nD) (arg2 : Memref sig .tc .vmem S1x128 .f32) (harg2 : arg2.IsWhole) (arg3 : Memref sig .tc .vmem S128x128 .f32) (harg3 : arg3.IsWhole) (arg10 : Memref sig .tc .vmem S128x128 .f32) (harg10 : arg10.IsWhole) (arg12 : Memref sig .tc .vmem S1x128 .f32) (harg12 : arg12.IsWhole) (arg14 : Memref sig .tc .vmem S1x1 .f32) (harg14 : arg14.IsWhole) (arg20 : Memref sig .tc .vmem S128x128 .f32) (x1 : Vec F S1x128 .f32) (x2 : Vec F S128x128 .f32) (x9 : Vec F S128x128 .f32) (x11 : Vec F S1x128 .f32) (x13 : Vec F S1x1 .f32) :
    mid_firstP.sl.v4 (F := F) c arg2 harg2 arg3 harg3 arg10 harg10 arg12 harg12 arg14 harg14 arg20 x1 x2 x9 x11 x13 = midW2 x1 x2 x9 x11 x13 := by
  unfold mid_firstP.sl.v4 mid_firstP.sl.H19_1
  refine (View.readCov_full _ _ _ _ _).trans ?_
  rw [first_v94, first_v113]; rfl

/-- The value `v6` of the run at the first point. -/
theorem first_v6 (c : Dev nD) (arg2 : Memref sig .tc .vmem S1x128 .f32) (harg2 : arg2.IsWhole) (arg3 : Memref sig .tc .vmem S128x128 .f32) (harg3 : arg3.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x1 .f32) (harg14 : arg14.IsWhole) (arg21 : Memref sig .tc .vmem S1x128 .f32) (x1 : Vec F S1x128 .f32) (x2 : Vec F S128x128 .f32) (x9 : Vec F S128x128 .f32) (x10 : Vec F S1x128 .f32) (x11 : Vec F S1x128 .f32) (x12 : Vec F S1x128 .f32) (x13 : Vec F S1x1 .f32) :
    mid_firstP.sl.v6 (F := F) c arg2 harg2 arg3 harg3 arg10 harg10 arg11 harg11 arg12 harg12 arg13 harg13 arg14 harg14 arg21 x1 x2 x9 x10 x11 x12 x13 = midB2 x1 x2 x9 x10 x11 x12 x13 := by
  unfold mid_firstP.sl.v6 mid_firstP.sl.H20_1
  refine (View.readCov_full _ _ _ _ _).trans ?_
  rw [first_v108, first_v112, View.readAt_full, Memref.IsWhole.read_unread]; rfl

/-- The value `v22` of the run at the first point. -/
theorem first_v22 (c : Dev nD) (arg2 : Memref sig .tc .vmem S1x128 .f32) (harg2 : arg2.IsWhole) (arg3 : Memref sig .tc .vmem S128x128 .f32) (harg3 : arg3.IsWhole) (arg4 : Memref sig .tc .vmem S128x256 .f32) (harg4 : arg4.IsWhole) (arg6 : Memref sig .tc .vmem S1x256 .f32) (harg6 : arg6.IsWhole) (arg8 : Memref sig .tc .vmem S256x128 .f32) (harg8 : arg8.IsWhole) (arg14 : Memref sig .tc .vmem S1x1 .f32) (harg14 : arg14.IsWhole) (arg22 : Memref sig .tc .vmem S128x128 .f32) (x1 : Vec F S1x128 .f32) (x2 : Vec F S128x128 .f32) (x3 : Vec F S128x256 .f32) (x5 : Vec F S1x256 .f32) (x7 : Vec F S256x128 .f32) (x13 : Vec F S1x1 .f32) :
    mid_firstP.sl.v22 (F := F) c arg2 harg2 arg3 harg3 arg4 harg4 arg6 harg6 arg8 harg8 arg14 harg14 arg22 x1 x2 x3 x5 x7 x13 = midWeff x1 x2 x3 x5 x7 x13 := by
  unfold mid_firstP.sl.v22 mid_firstP.sl.H21_1
  exact (View.readCov_full _ _ _ _ _).trans (first_v78 ..)

/-- The value `v35` of the run at the first point. -/
theorem first_v35 (c : Dev nD) (arg2 : Memref sig .tc .vmem S1x128 .f32) (harg2 : arg2.IsWhole) (arg3 : Memref sig .tc .vmem S128x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg14 : Memref sig .tc .vmem S1x1 .f32) (harg14 : arg14.IsWhole) (arg23 : Memref sig .tc .vmem S128x1 .f32) (x1 : Vec F S1x128 .f32) (x2 : Vec F S128x128 .f32) (x3 : Vec F S128x256 .f32) (x4 : Vec F S1x256 .f32) (x5 : Vec F S1x256 .f32) (x6 : Vec F S1x256 .f32) (x7 : Vec F S256x128 .f32) (x8 : Vec F S1x128 .f32) (x13 : Vec F S1x1 .f32) :
    mid_firstP.sl.v35 (F := F) c arg2 harg2 arg3 harg3 arg4 harg4 arg5 harg5 arg6 harg6 arg7 harg7 arg8 harg8 arg9 harg9 arg14 harg14 arg23 x1 x2 x3 x4 x5 x6 x7 x8 x13 = midBeff x1 x2 x3 x4 x5 x6 x7 x8 x13 := by
  unfold mid_firstP.sl.v35 mid_firstP.sl.H22_1
  exact (View.readCov_full _ _ _ _ _).trans (first_v92 ..)

/-- The value `v11` of the run at the first point. -/
theorem first_v11 (c : Dev nD) (arg15 : Memref sig .tc .vmem S1x128 .f32) :
    mid_firstP.sl.v11 (F := F) c arg15 = k0_pay19 (F := F) := by
  unfold mid_firstP.sl.v11 mid_firstP.sl.H14_1
  exact View.readCov_full _ _ _ _ _

/-- The value `v17` of the run at the first point. -/
theorem first_v17 (c : Dev nD) (arg16 : Memref sig .tc .vmem S128x128 .f32) :
    mid_firstP.sl.v17 (F := F) c arg16 = k0_pay20 (F := F) := by
  unfold mid_firstP.sl.v17 mid_firstP.sl.H15_1
  exact View.readCov_full _ _ _ _ _

end Cert.Kernel2Ideal.Hand
-- ==== Proof.MidRunFirst.lean ====
module

public import proofs.«01_k».proof.Proof.MidFold

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The body at the first point: the folded weights are computed into the four scratch buffers and handed on, and the first blocks from them. -/
theorem mid_first (c : Dev nD) (i : grid0.Coords)
    (arg1 : Memref sig .tc .vmem S6144x128 .f32) (harg1 : arg1.IsWhole)
    (arg2 : Memref sig .tc .vmem S1x128 .f32) (harg2 : arg2.IsWhole)
    (arg3 : Memref sig .tc .vmem S128x128 .f32) (harg3 : arg3.IsWhole)
    (arg4 : Memref sig .tc .vmem S128x256 .f32) (harg4 : arg4.IsWhole)
    (arg5 : Memref sig .tc .vmem S1x256 .f32) (harg5 : arg5.IsWhole)
    (arg6 : Memref sig .tc .vmem S1x256 .f32) (harg6 : arg6.IsWhole)
    (arg7 : Memref sig .tc .vmem S1x256 .f32) (harg7 : arg7.IsWhole)
    (arg8 : Memref sig .tc .vmem S256x128 .f32) (harg8 : arg8.IsWhole)
    (arg9 : Memref sig .tc .vmem S1x128 .f32) (harg9 : arg9.IsWhole)
    (arg10 : Memref sig .tc .vmem S128x128 .f32) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S1x1 .f32) (harg14 : arg14.IsWhole)
    (arg15 : Memref sig .tc .vmem S1x128 .f32) (harg15 : arg15.IsWhole)
    (arg16 : Memref sig .tc .vmem S128x128 .f32) (harg16 : arg16.IsWhole)
    (arg17 : Memref sig .tc .vmem S1x128x2048 .f32) (harg17 : arg17.IsWhole)
    (arg18 : Memref sig .tc .vmem S128x128 .f32) (harg18 : arg18.IsWhole)
    (arg19 : Memref sig .tc .vmem S1x128 .f32) (harg19 : arg19.IsWhole)
    (arg20 : Memref sig .tc .vmem S128x128 .f32) (harg20 : arg20.IsWhole)
    (arg21 : Memref sig .tc .vmem S1x128 .f32) (harg21 : arg21.IsWhole)
    (arg22 : Memref sig .tc .vmem S128x128 .f32) (harg22 : arg22.IsWhole)
    (arg23 : Memref sig .tc .vmem S128x1 .f32) (harg23 : arg23.IsWhole)
    (hc0 : first0 i)
    (x0 : Vec F S6144x128 .f32)    (x1 : Vec F S1x128 .f32)    (x2 : Vec F S128x128 .f32)    (x3 : Vec F S128x256 .f32)    (x4 : Vec F S1x256 .f32)    (x5 : Vec F S1x256 .f32)    (x6 : Vec F S1x256 .f32)    (x7 : Vec F S256x128 .f32)    (x8 : Vec F S1x128 .f32)    (x9 : Vec F S128x128 .f32)    (x10 : Vec F S1x128 .f32)    (x11 : Vec F S1x128 .f32)    (x12 : Vec F S1x128 .f32)    (x13 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (k0_pay22 x0 (midW2 x1 x2 x9 x11 x13) (midB2 x1 x2 x9 x10 x11 x12 x13) (k0_pay19 (F := F))) ∗ owns (c : Thread nD τ) arg16 fullShare (k0_pay23 x0 (midW2 x1 x2 x9 x11 x13) (midB2 x1 x2 x9 x10 x11 x12 x13) (k0_pay20 (F := F))) ∗ owns (c : Thread nD τ) arg17 fullShare (midRnf x0 (midWeff x1 x2 x3 x5 x7 x13) (midBeff x1 x2 x3 x4 x5 x6 x7 x8 x13)) ∗ owns (c : Thread nD τ) arg18 fullShare (midW2o x1 x2 x9 x11 x13) ∗ owns (c : Thread nD τ) arg19 fullShare (midB2o x1 x2 x9 x10 x11 x12 x13) ∗ owns (c : Thread nD τ) arg20 fullShare (midW2 x1 x2 x9 x11 x13) ∗ owns (c : Thread nD τ) arg21 fullShare (midB2 x1 x2 x9 x10 x11 x12 x13) ∗ owns (c : Thread nD τ) arg22 fullShare (midWeff x1 x2 x3 x5 x7 x13) ∗ owns (c : Thread nD τ) arg23 fullShare (midBeff x1 x2 x3 x4 x5 x6 x7 x8 x13)) -∗ K ⟨⟩))
      ⊢ wp frame (wpE (defs₀ (F := F)) Variants.none c none) E (cc0__mid_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  iintro ⟨G0, G1, G2, G3, G4, G5, G6, G7, G8, G9, G10, G11, G12, G13, G14, G15, G16, G17, G18, G19, G20, G21, G22, Hk⟩
  iapply ((mid_firstP c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13).2.2.2.2.2.2.2.2.2 E K)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  isplitl [G19]; · iexact G19
  isplitl [G20]; · iexact G20
  isplitl [G21]; · iexact G21
  isplitl [G22]; · iexact G22
  iintro ⟨G0, G1, G2, G3, G4, G5, G6, G7, G8, G9, G10, G11, G12, G13, ⟨%f14, G14⟩, ⟨%f15, G15⟩, ⟨%f16, G16⟩, ⟨%f17, G17⟩, ⟨%f18, G18⟩, ⟨%f19, G19⟩, ⟨%f20, G20⟩, ⟨%f21, G21⟩, ⟨%f22, G22⟩⟩
  iapply Hk
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]
  · unfold owns; iexists _; isplitr
    swap; · iexact G14
    ipureintro
    delta mid_firstP
    simp (config := { index := false }) only [mid_firstP.sl.H14_1, mid_firstP.sl.H15_1, mid_firstP.sl.H19_1, mid_firstP.sl.H20_1, mid_firstP.sl.H21_1, mid_firstP.sl.H22_1, first_v42, first_v45, first_v50, first_v52, first_v66, first_v70, first_v75, first_v78, first_v92, first_v94, first_v108, first_v112, first_v113, first_r_1, first_v4, first_v6, first_v22, first_v35, first_v11, first_v17, View.readAt_full, Memref.IsWhole.read_unread, View.read_writes_full]
  isplitl [G15]
  · unfold owns; iexists _; isplitr
    swap; · iexact G15
    ipureintro
    delta mid_firstP
    simp (config := { index := false }) only [mid_firstP.sl.H14_1, mid_firstP.sl.H15_1, mid_firstP.sl.H19_1, mid_firstP.sl.H20_1, mid_firstP.sl.H21_1, mid_firstP.sl.H22_1, first_v42, first_v45, first_v50, first_v52, first_v66, first_v70, first_v75, first_v78, first_v92, first_v94, first_v108, first_v112, first_v113, first_r_1, first_v4, first_v6, first_v22, first_v35, first_v11, first_v17, View.readAt_full, Memref.IsWhole.read_unread, View.read_writes_full]
  isplitl [G16]
  · unfold owns; iexists _; isplitr
    swap; · iexact G16
    ipureintro
    delta mid_firstP
    simp (config := { index := false }) only [mid_firstP.sl.H14_1, mid_firstP.sl.H15_1, mid_firstP.sl.H19_1, mid_firstP.sl.H20_1, mid_firstP.sl.H21_1, mid_firstP.sl.H22_1, first_v42, first_v45, first_v50, first_v52, first_v66, first_v70, first_v75, first_v78, first_v92, first_v94, first_v108, first_v112, first_v113, first_r_1, first_v4, first_v6, first_v22, first_v35, first_v11, first_v17, View.readAt_full, Memref.IsWhole.read_unread, View.read_writes_full]
    all_goals rfl
  isplitl [G17]
  · unfold owns; iexists _; isplitr
    swap; · iexact G17
    ipureintro
    delta mid_firstP
    simp (config := { index := false }) only [mid_firstP.sl.H14_1, mid_firstP.sl.H15_1, mid_firstP.sl.H19_1, mid_firstP.sl.H20_1, mid_firstP.sl.H21_1, mid_firstP.sl.H22_1, first_v42, first_v45, first_v50, first_v52, first_v66, first_v70, first_v75, first_v78, first_v92, first_v94, first_v108, first_v112, first_v113, first_r_1, first_v4, first_v6, first_v22, first_v35, first_v11, first_v17, View.readAt_full, Memref.IsWhole.read_unread, View.read_writes_full]
    all_goals rfl
  isplitl [G18]
  · unfold owns; iexists _; isplitr
    swap; · iexact G18
    ipureintro
    delta mid_firstP
    simp (config := { index := false }) only [mid_firstP.sl.H14_1, mid_firstP.sl.H15_1, mid_firstP.sl.H19_1, mid_firstP.sl.H20_1, mid_firstP.sl.H21_1, mid_firstP.sl.H22_1, first_v42, first_v45, first_v50, first_v52, first_v66, first_v70, first_v75, first_v78, first_v92, first_v94, first_v108, first_v112, first_v113, first_r_1, first_v4, first_v6, first_v22, first_v35, first_v11, first_v17, View.readAt_full, Memref.IsWhole.read_unread, View.read_writes_full]
    all_goals rfl
  isplitl [G19]
  · unfold owns; iexists _; isplitr
    swap; · iexact G19
    ipureintro
    delta mid_firstP
    simp (config := { index := false }) only [mid_firstP.sl.H14_1, mid_firstP.sl.H15_1, mid_firstP.sl.H19_1, mid_firstP.sl.H20_1, mid_firstP.sl.H21_1, mid_firstP.sl.H22_1, first_v42, first_v45, first_v50, first_v52, first_v66, first_v70, first_v75, first_v78, first_v92, first_v94, first_v108, first_v112, first_v113, first_r_1, first_v4, first_v6, first_v22, first_v35, first_v11, first_v17, View.readAt_full, Memref.IsWhole.read_unread, View.read_writes_full]
    all_goals rfl
  isplitl [G20]
  · unfold owns; iexists _; isplitr
    swap; · iexact G20
    ipureintro
    delta mid_firstP
    simp (config := { index := false }) only [mid_firstP.sl.H14_1, mid_firstP.sl.H15_1, mid_firstP.sl.H19_1, mid_firstP.sl.H20_1, mid_firstP.sl.H21_1, mid_firstP.sl.H22_1, first_v42, first_v45, first_v50, first_v52, first_v66, first_v70, first_v75, first_v78, first_v92, first_v94, first_v108, first_v112, first_v113, first_r_1, first_v4, first_v6, first_v22, first_v35, first_v11, first_v17, View.readAt_full, Memref.IsWhole.read_unread, View.read_writes_full]
    all_goals rfl
  isplitl [G21]
  · unfold owns; iexists _; isplitr
    swap; · iexact G21
    ipureintro
    delta mid_firstP
    simp (config := { index := false }) only [mid_firstP.sl.H14_1, mid_firstP.sl.H15_1, mid_firstP.sl.H19_1, mid_firstP.sl.H20_1, mid_firstP.sl.H21_1, mid_firstP.sl.H22_1, first_v42, first_v45, first_v50, first_v52, first_v66, first_v70, first_v75, first_v78, first_v92, first_v94, first_v108, first_v112, first_v113, first_r_1, first_v4, first_v6, first_v22, first_v35, first_v11, first_v17, View.readAt_full, Memref.IsWhole.read_unread, View.read_writes_full]
  unfold owns; iexists _; isplitr
  swap; · iexact G22
  ipureintro
  delta mid_firstP
  simp (config := { index := false }) only [mid_firstP.sl.r, mid_firstP.sl.r_1, mid_firstP.sl.v113, mid_firstP.sl.v112, mid_firstP.sl.v111, mid_firstP.sl.v110, mid_firstP.sl.v108, mid_firstP.sl.v107, mid_firstP.sl.v106, mid_firstP.sl.v105, mid_firstP.sl.v104, mid_firstP.sl.v102, mid_firstP.sl.v101, mid_firstP.sl.v99, mid_firstP.sl.v98, mid_firstP.sl.v97, mid_firstP.sl.v96, mid_firstP.sl.v95, mid_firstP.sl.v94, mid_firstP.sl.v92, mid_firstP.sl.v91, mid_firstP.sl.v89, mid_firstP.sl.v88, mid_firstP.sl.v87, mid_firstP.sl.v85, mid_firstP.sl.v82, mid_firstP.sl.v81, mid_firstP.sl.v78, mid_firstP.sl.v77, mid_firstP.sl.v75, mid_firstP.sl.v74, mid_firstP.sl.v72, mid_firstP.sl.v71, mid_firstP.sl.v70, mid_firstP.sl.v69, mid_firstP.sl.v68, mid_firstP.sl.v66, mid_firstP.sl.v65, mid_firstP.sl.v64, mid_firstP.sl.v63, mid_firstP.sl.v62, mid_firstP.sl.v60, mid_firstP.sl.v59, mid_firstP.sl.v57, mid_firstP.sl.v56, mid_firstP.sl.v55, mid_firstP.sl.v54, mid_firstP.sl.v53, mid_firstP.sl.v52, mid_firstP.sl.v50, mid_firstP.sl.v49, mid_firstP.sl.v48, mid_firstP.sl.v47, mid_firstP.sl.v45, mid_firstP.sl.v44, mid_firstP.sl.v42, mid_firstP.sl.v35, mid_firstP.sl.v22, mid_firstP.sl.v17, mid_firstP.sl.v11, mid_firstP.sl.v6, mid_firstP.sl.v4, mid_firstP.sl.H14_1, mid_firstP.sl.H15_1, mid_firstP.sl.H19_1, mid_firstP.sl.H20_1, mid_firstP.sl.H21_1, mid_firstP.sl.H22_1, mid_firstP.sl.cst_32, mid_firstP.sl.cst_35, mid_firstP.sl.cst_36, mid_firstP.sl.cst_37, mid_firstP.sl.cst_42, mid_firstP.sl.cst_54, mid_firstP.sl.cst_62, View.read_writes_full, View.readCov_full, View.readAt_full, Memref.IsWhole.read_unread, readAt_after_full, readAt_of_whole, readCov_after_full, midW2, midB2, midW2o, midB2o, midWeff, midBeff, midRnf, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay24, Scalar.ofBits]

end Cert.Kernel2Ideal.Hand

end
-- ==== Proof.MidRunLater.lean ====
module

public import proofs.«01_k».proof.Proof.MidVals

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- The body at a later point: the two sums are added to, and the block of the feature result computed from the weights kept in the scratch buffers. The pieces each buffer is left with come with the run. -/
noncomputable def mid_laterP (c : Dev nD) (i : grid0.Coords)
    (arg1 : Memref sig .tc .vmem S6144x128 .f32) (harg1 : arg1.IsWhole)
    (arg2 : Memref sig .tc .vmem S1x128 .f32) (harg2 : arg2.IsWhole)
    (arg3 : Memref sig .tc .vmem S128x128 .f32) (harg3 : arg3.IsWhole)
    (arg4 : Memref sig .tc .vmem S128x256 .f32) (harg4 : arg4.IsWhole)
    (arg5 : Memref sig .tc .vmem S1x256 .f32) (harg5 : arg5.IsWhole)
    (arg6 : Memref sig .tc .vmem S1x256 .f32) (harg6 : arg6.IsWhole)
    (arg7 : Memref sig .tc .vmem S1x256 .f32) (harg7 : arg7.IsWhole)
    (arg8 : Memref sig .tc .vmem S256x128 .f32) (harg8 : arg8.IsWhole)
    (arg9 : Memref sig .tc .vmem S1x128 .f32) (harg9 : arg9.IsWhole)
    (arg10 : Memref sig .tc .vmem S128x128 .f32) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S1x1 .f32) (harg14 : arg14.IsWhole)
    (arg15 : Memref sig .tc .vmem S1x128 .f32) (harg15 : arg15.IsWhole)
    (arg16 : Memref sig .tc .vmem S128x128 .f32) (harg16 : arg16.IsWhole)
    (arg17 : Memref sig .tc .vmem S1x128x2048 .f32) (harg17 : arg17.IsWhole)
    (arg18 : Memref sig .tc .vmem S128x128 .f32) (harg18 : arg18.IsWhole)
    (arg19 : Memref sig .tc .vmem S1x128 .f32) (harg19 : arg19.IsWhole)
    (arg20 : Memref sig .tc .vmem S128x128 .f32) (harg20 : arg20.IsWhole)
    (arg21 : Memref sig .tc .vmem S1x128 .f32) (harg21 : arg21.IsWhole)
    (arg22 : Memref sig .tc .vmem S128x128 .f32) (harg22 : arg22.IsWhole)
    (arg23 : Memref sig .tc .vmem S128x1 .f32) (harg23 : arg23.IsWhole)
    (hc0 : ¬ first0 i)
    (x0 : Vec F S6144x128 .f32)    (x1 : Vec F S1x128 .f32)    (x2 : Vec F S128x128 .f32)    (x3 : Vec F S128x256 .f32)    (x4 : Vec F S1x256 .f32)    (x5 : Vec F S1x256 .f32)    (x6 : Vec F S1x256 .f32)    (x7 : Vec F S256x128 .f32)    (x8 : Vec F S1x128 .f32)    (x9 : Vec F S128x128 .f32)    (x10 : Vec F S1x128 .f32)    (x11 : Vec F S1x128 .f32)    (x12 : Vec F S1x128 .f32)    (x13 : Vec F S1x1 .f32)    (y0 : Vec F S1x128 .f32)    (y1 : Vec F S128x128 .f32)    (y3 : Vec F S128x128 .f32)    (y4 : Vec F S1x128 .f32)    (z0 : Vec F S128x128 .f32)    (z1 : Vec F S1x128 .f32)    (z2 : Vec F S128x128 .f32)    (z3 : Vec F S128x1 .f32)
    :
    Σ' (L14 : List (View.Piece (Elt F) S1x128 .f32)), Σ' (L15 : List (View.Piece (Elt F) S128x128 .f32)), { L16 : List (View.Piece (Elt F) S1x128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare y0 ∗ owns (c : Thread nD τ) arg16 fullShare y1 ∗ (∃ d, owns (c : Thread nD τ) arg17 fullShare d) ∗ owns (c : Thread nD τ) arg18 fullShare y3 ∗ owns (c : Thread nD τ) arg19 fullShare y4 ∗ owns (c : Thread nD τ) arg20 fullShare z0 ∗ owns (c : Thread nD τ) arg21 fullShare z1 ∗ owns (c : Thread nD τ) arg22 fullShare z2 ∗ owns (c : Thread nD τ) arg23 fullShare z3
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare y3 ∗ owns (c : Thread nD τ) arg19 fullShare y4 ∗ owns (c : Thread nD τ) arg20 fullShare z0 ∗ owns (c : Thread nD τ) arg21 fullShare z1 ∗ owns (c : Thread nD τ) arg22 fullShare z2 ∗ owns (c : Thread nD τ) arg23 fullShare z3) -∗ K ⟨⟩))
        ⊢ wp frame (wpE (defs₀ (F := F)) Variants.none c none) E (cc0__mid_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    simp only [cc0__mid_kernel_eq_skeleton]; unfold cc0__mid_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; iexact H14
    isplitl [H15]
    · iexists _; iexact H15
    isplitl [H16]
    · iexists _; iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    iexists _; isplitr; · ipureintro; exact harg23.read_unread _
    iexact H22

set_option maxHeartbeats 1600000 in
/-- The body at a later point: the two sums are added to, and the block of the feature result computed from the weights kept in the scratch buffers. -/
theorem mid_later (c : Dev nD) (i : grid0.Coords)
    (arg1 : Memref sig .tc .vmem S6144x128 .f32) (harg1 : arg1.IsWhole)
    (arg2 : Memref sig .tc .vmem S1x128 .f32) (harg2 : arg2.IsWhole)
    (arg3 : Memref sig .tc .vmem S128x128 .f32) (harg3 : arg3.IsWhole)
    (arg4 : Memref sig .tc .vmem S128x256 .f32) (harg4 : arg4.IsWhole)
    (arg5 : Memref sig .tc .vmem S1x256 .f32) (harg5 : arg5.IsWhole)
    (arg6 : Memref sig .tc .vmem S1x256 .f32) (harg6 : arg6.IsWhole)
    (arg7 : Memref sig .tc .vmem S1x256 .f32) (harg7 : arg7.IsWhole)
    (arg8 : Memref sig .tc .vmem S256x128 .f32) (harg8 : arg8.IsWhole)
    (arg9 : Memref sig .tc .vmem S1x128 .f32) (harg9 : arg9.IsWhole)
    (arg10 : Memref sig .tc .vmem S128x128 .f32) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S1x1 .f32) (harg14 : arg14.IsWhole)
    (arg15 : Memref sig .tc .vmem S1x128 .f32) (harg15 : arg15.IsWhole)
    (arg16 : Memref sig .tc .vmem S128x128 .f32) (harg16 : arg16.IsWhole)
    (arg17 : Memref sig .tc .vmem S1x128x2048 .f32) (harg17 : arg17.IsWhole)
    (arg18 : Memref sig .tc .vmem S128x128 .f32) (harg18 : arg18.IsWhole)
    (arg19 : Memref sig .tc .vmem S1x128 .f32) (harg19 : arg19.IsWhole)
    (arg20 : Memref sig .tc .vmem S128x128 .f32) (harg20 : arg20.IsWhole)
    (arg21 : Memref sig .tc .vmem S1x128 .f32) (harg21 : arg21.IsWhole)
    (arg22 : Memref sig .tc .vmem S128x128 .f32) (harg22 : arg22.IsWhole)
    (arg23 : Memref sig .tc .vmem S128x1 .f32) (harg23 : arg23.IsWhole)
    (hc0 : ¬ first0 i)
    (x0 : Vec F S6144x128 .f32)    (x1 : Vec F S1x128 .f32)    (x2 : Vec F S128x128 .f32)    (x3 : Vec F S128x256 .f32)    (x4 : Vec F S1x256 .f32)    (x5 : Vec F S1x256 .f32)    (x6 : Vec F S1x256 .f32)    (x7 : Vec F S256x128 .f32)    (x8 : Vec F S1x128 .f32)    (x9 : Vec F S128x128 .f32)    (x10 : Vec F S1x128 .f32)    (x11 : Vec F S1x128 .f32)    (x12 : Vec F S1x128 .f32)    (x13 : Vec F S1x1 .f32)    (y0 : Vec F S1x128 .f32)    (y1 : Vec F S128x128 .f32)    (y3 : Vec F S128x128 .f32)    (y4 : Vec F S1x128 .f32)    (z0 : Vec F S128x128 .f32)    (z1 : Vec F S1x128 .f32)    (z2 : Vec F S128x128 .f32)    (z3 : Vec F S128x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare y0 ∗ owns (c : Thread nD τ) arg16 fullShare y1 ∗ (∃ d, owns (c : Thread nD τ) arg17 fullShare d) ∗ owns (c : Thread nD τ) arg18 fullShare y3 ∗ owns (c : Thread nD τ) arg19 fullShare y4 ∗ owns (c : Thread nD τ) arg20 fullShare z0 ∗ owns (c : Thread nD τ) arg21 fullShare z1 ∗ owns (c : Thread nD τ) arg22 fullShare z2 ∗ owns (c : Thread nD τ) arg23 fullShare z3
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (k0_pay22 x0 z0 z1 y0) ∗ owns (c : Thread nD τ) arg16 fullShare (k0_pay23 x0 z0 z1 y1) ∗ owns (c : Thread nD τ) arg17 fullShare (midRnf x0 z2 z3) ∗ owns (c : Thread nD τ) arg18 fullShare y3 ∗ owns (c : Thread nD τ) arg19 fullShare y4 ∗ owns (c : Thread nD τ) arg20 fullShare z0 ∗ owns (c : Thread nD τ) arg21 fullShare z1 ∗ owns (c : Thread nD τ) arg22 fullShare z2 ∗ owns (c : Thread nD τ) arg23 fullShare z3) -∗ K ⟨⟩))
      ⊢ wp frame (wpE (defs₀ (F := F)) Variants.none c none) E (cc0__mid_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  iintro ⟨G0, G1, G2, G3, G4, G5, G6, G7, G8, G9, G10, G11, G12, G13, G14, G15, G16, G17, G18, G19, G20, G21, G22, Hk⟩
  iapply ((mid_laterP c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 y0 y1 y3 y4 z0 z1 z2 z3).2.2.2 E K)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]; · iexact G14
  isplitl [G15]; · iexact G15
  isplitl [G16]; · iexact G16
  isplitl [G17]; · iexact G17
  isplitl [G18]; · iexact G18
  isplitl [G19]; · iexact G19
  isplitl [G20]; · iexact G20
  isplitl [G21]; · iexact G21
  isplitl [G22]; · iexact G22
  iintro ⟨G0, G1, G2, G3, G4, G5, G6, G7, G8, G9, G10, G11, G12, G13, ⟨%f14, G14⟩, ⟨%f15, G15⟩, ⟨%f16, G16⟩, G17, G18, G19, G20, G21, G22⟩
  iapply Hk
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  isplitl [G13]; · iexact G13
  isplitl [G14]
  · unfold owns; iexists _; isplitr
    swap; · iexact G14
    ipureintro
    delta mid_laterP
    try delta mid_laterP.sl.r_15
    try delta mid_laterP.sl.r_14
    try delta mid_laterP.sl.r_13
    try delta mid_laterP.sl.r_12
    try delta mid_laterP.sl.r_11
    try delta mid_laterP.sl.r_10
    try delta mid_laterP.sl.r_9
    try delta mid_laterP.sl.r_8
    try delta mid_laterP.sl.r_7
    try delta mid_laterP.sl.r_6
    try delta mid_laterP.sl.r_5
    try delta mid_laterP.sl.r_4
    try delta mid_laterP.sl.r_3
    try delta mid_laterP.sl.r_2
    try delta mid_laterP.sl.r_1
    try delta mid_laterP.sl.r
    try delta mid_laterP.sl.v134
    try delta mid_laterP.sl.v123
    try delta mid_laterP.sl.v95
    try delta mid_laterP.sl.v92
    try delta mid_laterP.sl.v81
    try delta mid_laterP.sl.v78
    try delta mid_laterP.sl.v39
    try delta mid_laterP.sl.v38
    try delta mid_laterP.sl.v37
    try delta mid_laterP.sl.v34
    try delta mid_laterP.sl.v16
    try delta mid_laterP.sl.v14
    try delta mid_laterP.sl.cst_19
    try delta mid_laterP.sl.H0_1
    try delta mid_laterP.sl.H1_1
    try delta mid_laterP.sl.H2_1
    try delta mid_laterP.sl.H3_1
    try delta mid_laterP.sl.H4_1
    try delta mid_laterP.sl.H5_1
    try delta mid_laterP.sl.H6_1
    try delta mid_laterP.sl.H7_1
    try delta mid_laterP.sl.H8_1
    try delta mid_laterP.sl.H9_1
    try delta mid_laterP.sl.H10_1
    try delta mid_laterP.sl.H11_1
    try delta mid_laterP.sl.H12_1
    try delta mid_laterP.sl.H13_1
    try delta mid_laterP.sl.H14_1
    try delta mid_laterP.sl.H15_1
    try delta mid_laterP.sl.H16_1
    try delta mid_laterP.sl.H17_1
    try delta mid_laterP.sl.H18_1
    try delta mid_laterP.sl.H19_1
    try delta mid_laterP.sl.H20_1
    try delta mid_laterP.sl.H21_1
    try delta mid_laterP.sl.H22_1
    try delta mid_laterP.sl.H23_1
    try delta mid_laterP.sl.r_15
    try delta mid_laterP.sl.r_14
    try delta mid_laterP.sl.r_13
    try delta mid_laterP.sl.r_12
    try delta mid_laterP.sl.r_11
    try delta mid_laterP.sl.r_10
    try delta mid_laterP.sl.r_9
    try delta mid_laterP.sl.r_8
    try delta mid_laterP.sl.r_7
    try delta mid_laterP.sl.r_6
    try delta mid_laterP.sl.r_5
    try delta mid_laterP.sl.r_4
    try delta mid_laterP.sl.r_3
    try delta mid_laterP.sl.r_2
    try delta mid_laterP.sl.r_1
    try delta mid_laterP.sl.r
    simp (config := { index := false }) only [View.read_writes_full, View.readCov_full, View.readAt_full, Memref.IsWhole.read_unread, readAt_after_full, readAt_of_whole, midW2, midB2, midW2o, midB2o, midWeff, midBeff, midRnf]
  isplitl [G15]
  · unfold owns; iexists _; isplitr
    swap; · iexact G15
    ipureintro
    delta mid_laterP
    try delta mid_laterP.sl.r_15
    try delta mid_laterP.sl.r_14
    try delta mid_laterP.sl.r_13
    try delta mid_laterP.sl.r_12
    try delta mid_laterP.sl.r_11
    try delta mid_laterP.sl.r_10
    try delta mid_laterP.sl.r_9
    try delta mid_laterP.sl.r_8
    try delta mid_laterP.sl.r_7
    try delta mid_laterP.sl.r_6
    try delta mid_laterP.sl.r_5
    try delta mid_laterP.sl.r_4
    try delta mid_laterP.sl.r_3
    try delta mid_laterP.sl.r_2
    try delta mid_laterP.sl.r_1
    try delta mid_laterP.sl.r
    try delta mid_laterP.sl.v134
    try delta mid_laterP.sl.v123
    try delta mid_laterP.sl.v95
    try delta mid_laterP.sl.v92
    try delta mid_laterP.sl.v81
    try delta mid_laterP.sl.v78
    try delta mid_laterP.sl.v39
    try delta mid_laterP.sl.v38
    try delta mid_laterP.sl.v37
    try delta mid_laterP.sl.v34
    try delta mid_laterP.sl.v16
    try delta mid_laterP.sl.v14
    try delta mid_laterP.sl.cst_19
    try delta mid_laterP.sl.H0_1
    try delta mid_laterP.sl.H1_1
    try delta mid_laterP.sl.H2_1
    try delta mid_laterP.sl.H3_1
    try delta mid_laterP.sl.H4_1
    try delta mid_laterP.sl.H5_1
    try delta mid_laterP.sl.H6_1
    try delta mid_laterP.sl.H7_1
    try delta mid_laterP.sl.H8_1
    try delta mid_laterP.sl.H9_1
    try delta mid_laterP.sl.H10_1
    try delta mid_laterP.sl.H11_1
    try delta mid_laterP.sl.H12_1
    try delta mid_laterP.sl.H13_1
    try delta mid_laterP.sl.H14_1
    try delta mid_laterP.sl.H15_1
    try delta mid_laterP.sl.H16_1
    try delta mid_laterP.sl.H17_1
    try delta mid_laterP.sl.H18_1
    try delta mid_laterP.sl.H19_1
    try delta mid_laterP.sl.H20_1
    try delta mid_laterP.sl.H21_1
    try delta mid_laterP.sl.H22_1
    try delta mid_laterP.sl.H23_1
    try delta mid_laterP.sl.r_15
    try delta mid_laterP.sl.r_14
    try delta mid_laterP.sl.r_13
    try delta mid_laterP.sl.r_12
    try delta mid_laterP.sl.r_11
    try delta mid_laterP.sl.r_10
    try delta mid_laterP.sl.r_9
    try delta mid_laterP.sl.r_8
    try delta mid_laterP.sl.r_7
    try delta mid_laterP.sl.r_6
    try delta mid_laterP.sl.r_5
    try delta mid_laterP.sl.r_4
    try delta mid_laterP.sl.r_3
    try delta mid_laterP.sl.r_2
    try delta mid_laterP.sl.r_1
    try delta mid_laterP.sl.r
    simp (config := { index := false }) only [View.read_writes_full, View.readCov_full, View.readAt_full, Memref.IsWhole.read_unread, readAt_after_full, readAt_of_whole, midW2, midB2, midW2o, midB2o, midWeff, midBeff, midRnf]
  isplitl [G16]
  · unfold owns; iexists _; isplitr
    swap; · iexact G16
    ipureintro
    delta mid_laterP
    try delta mid_laterP.sl.r_15
    try delta mid_laterP.sl.r_14
    try delta mid_laterP.sl.r_13
    try delta mid_laterP.sl.r_12
    try delta mid_laterP.sl.r_11
    try delta mid_laterP.sl.r_10
    try delta mid_laterP.sl.r_9
    try delta mid_laterP.sl.r_8
    try delta mid_laterP.sl.r_7
    try delta mid_laterP.sl.r_6
    try delta mid_laterP.sl.r_5
    try delta mid_laterP.sl.r_4
    try delta mid_laterP.sl.r_3
    try delta mid_laterP.sl.r_2
    try delta mid_laterP.sl.r_1
    try delta mid_laterP.sl.r
    try delta mid_laterP.sl.v134
    try delta mid_laterP.sl.v123
    try delta mid_laterP.sl.v95
    try delta mid_laterP.sl.v92
    try delta mid_laterP.sl.v81
    try delta mid_laterP.sl.v78
    try delta mid_laterP.sl.v39
    try delta mid_laterP.sl.v38
    try delta mid_laterP.sl.v37
    try delta mid_laterP.sl.v34
    try delta mid_laterP.sl.v16
    try delta mid_laterP.sl.v14
    try delta mid_laterP.sl.cst_19
    try delta mid_laterP.sl.H0_1
    try delta mid_laterP.sl.H1_1
    try delta mid_laterP.sl.H2_1
    try delta mid_laterP.sl.H3_1
    try delta mid_laterP.sl.H4_1
    try delta mid_laterP.sl.H5_1
    try delta mid_laterP.sl.H6_1
    try delta mid_laterP.sl.H7_1
    try delta mid_laterP.sl.H8_1
    try delta mid_laterP.sl.H9_1
    try delta mid_laterP.sl.H10_1
    try delta mid_laterP.sl.H11_1
    try delta mid_laterP.sl.H12_1
    try delta mid_laterP.sl.H13_1
    try delta mid_laterP.sl.H14_1
    try delta mid_laterP.sl.H15_1
    try delta mid_laterP.sl.H16_1
    try delta mid_laterP.sl.H17_1
    try delta mid_laterP.sl.H18_1
    try delta mid_laterP.sl.H19_1
    try delta mid_laterP.sl.H20_1
    try delta mid_laterP.sl.H21_1
    try delta mid_laterP.sl.H22_1
    try delta mid_laterP.sl.H23_1
    try delta mid_laterP.sl.r_15
    try delta mid_laterP.sl.r_14
    try delta mid_laterP.sl.r_13
    try delta mid_laterP.sl.r_12
    try delta mid_laterP.sl.r_11
    try delta mid_laterP.sl.r_10
    try delta mid_laterP.sl.r_9
    try delta mid_laterP.sl.r_8
    try delta mid_laterP.sl.r_7
    try delta mid_laterP.sl.r_6
    try delta mid_laterP.sl.r_5
    try delta mid_laterP.sl.r_4
    try delta mid_laterP.sl.r_3
    try delta mid_laterP.sl.r_2
    try delta mid_laterP.sl.r_1
    try delta mid_laterP.sl.r
    simp (config := { index := false }) only [View.read_writes_full, View.readCov_full, View.readAt_full, Memref.IsWhole.read_unread, readAt_after_full, readAt_of_whole, midW2, midB2, midW2o, midB2o, midWeff, midBeff, midRnf]
  isplitl [G17]; · iexact G17
  isplitl [G18]; · iexact G18
  isplitl [G19]; · iexact G19
  isplitl [G20]; · iexact G20
  isplitl [G21]; · iexact G21
  iexact G22

end Cert.Kernel2Ideal.Hand

end
-- ==== Proof.MidFrame.lean ====
module

public import proofs.«01_k».proof.Proof.Gen.Kernel2Ideal.Frame
public import proofs.«01_k».proof.Proof.MidRunFirst
public import proofs.«01_k».proof.Proof.MidRunLater
public import Idealize.ShloMosaic.Lib.Claim
public import Idealize.ShloMosaic.Lib.Pipeline.TableIdle

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The pipeline of the second call: what every buffer holds after each of the four points, the body's triple, the launch and the frame. -/

/-! ## Staging buffers and scratch -/

/-- Window 0's staging buffer at a point, -/
abbrev ms0_0 (t : Fin cfg0.N) : Memref sig .tc .vmem S6144x128 .f32 := win0_0.stage (cfg0.slots t 0)
/-- which is a whole buffer. -/
abbrev hs0_0 (t : Fin cfg0.N) : (ms0_0 t).IsWhole := hstage0_0 ((cfg0.slots t 0).cast nbuf0_0)
/-- Window 1's staging buffer at a point, -/
abbrev ms0_1 (t : Fin cfg0.N) : Memref sig .tc .vmem S1x128 .f32 := win0_1.stage (cfg0.slots t 1)
/-- which is a whole buffer. -/
abbrev hs0_1 (t : Fin cfg0.N) : (ms0_1 t).IsWhole := hstage0_1 ((cfg0.slots t 1).cast nbuf0_1)
/-- Window 2's staging buffer at a point, -/
abbrev ms0_2 (t : Fin cfg0.N) : Memref sig .tc .vmem S128x128 .f32 := win0_2.stage (cfg0.slots t 2)
/-- which is a whole buffer. -/
abbrev hs0_2 (t : Fin cfg0.N) : (ms0_2 t).IsWhole := hstage0_2 ((cfg0.slots t 2).cast nbuf0_2)
/-- Window 3's staging buffer at a point, -/
abbrev ms0_3 (t : Fin cfg0.N) : Memref sig .tc .vmem S128x256 .f32 := win0_3.stage (cfg0.slots t 3)
/-- which is a whole buffer. -/
abbrev hs0_3 (t : Fin cfg0.N) : (ms0_3 t).IsWhole := hstage0_3 ((cfg0.slots t 3).cast nbuf0_3)
/-- Window 4's staging buffer at a point, -/
abbrev ms0_4 (t : Fin cfg0.N) : Memref sig .tc .vmem S1x256 .f32 := win0_4.stage (cfg0.slots t 4)
/-- which is a whole buffer. -/
abbrev hs0_4 (t : Fin cfg0.N) : (ms0_4 t).IsWhole := hstage0_4 ((cfg0.slots t 4).cast nbuf0_4)
/-- Window 5's staging buffer at a point, -/
abbrev ms0_5 (t : Fin cfg0.N) : Memref sig .tc .vmem S1x256 .f32 := win0_5.stage (cfg0.slots t 5)
/-- which is a whole buffer. -/
abbrev hs0_5 (t : Fin cfg0.N) : (ms0_5 t).IsWhole := hstage0_5 ((cfg0.slots t 5).cast nbuf0_5)
/-- Window 6's staging buffer at a point, -/
abbrev ms0_6 (t : Fin cfg0.N) : Memref sig .tc .vmem S1x256 .f32 := win0_6.stage (cfg0.slots t 6)
/-- which is a whole buffer. -/
abbrev hs0_6 (t : Fin cfg0.N) : (ms0_6 t).IsWhole := hstage0_6 ((cfg0.slots t 6).cast nbuf0_6)
/-- Window 7's staging buffer at a point, -/
abbrev ms0_7 (t : Fin cfg0.N) : Memref sig .tc .vmem S256x128 .f32 := win0_7.stage (cfg0.slots t 7)
/-- which is a whole buffer. -/
abbrev hs0_7 (t : Fin cfg0.N) : (ms0_7 t).IsWhole := hstage0_7 ((cfg0.slots t 7).cast nbuf0_7)
/-- Window 8's staging buffer at a point, -/
abbrev ms0_8 (t : Fin cfg0.N) : Memref sig .tc .vmem S1x128 .f32 := win0_8.stage (cfg0.slots t 8)
/-- which is a whole buffer. -/
abbrev hs0_8 (t : Fin cfg0.N) : (ms0_8 t).IsWhole := hstage0_8 ((cfg0.slots t 8).cast nbuf0_8)
/-- Window 9's staging buffer at a point, -/
abbrev ms0_9 (t : Fin cfg0.N) : Memref sig .tc .vmem S128x128 .f32 := win0_9.stage (cfg0.slots t 9)
/-- which is a whole buffer. -/
abbrev hs0_9 (t : Fin cfg0.N) : (ms0_9 t).IsWhole := hstage0_9 ((cfg0.slots t 9).cast nbuf0_9)
/-- Window 10's staging buffer at a point, -/
abbrev ms0_10 (t : Fin cfg0.N) : Memref sig .tc .vmem S1x128 .f32 := win0_10.stage (cfg0.slots t 10)
/-- which is a whole buffer. -/
abbrev hs0_10 (t : Fin cfg0.N) : (ms0_10 t).IsWhole := hstage0_10 ((cfg0.slots t 10).cast nbuf0_10)
/-- Window 11's staging buffer at a point, -/
abbrev ms0_11 (t : Fin cfg0.N) : Memref sig .tc .vmem S1x128 .f32 := win0_11.stage (cfg0.slots t 11)
/-- which is a whole buffer. -/
abbrev hs0_11 (t : Fin cfg0.N) : (ms0_11 t).IsWhole := hstage0_11 ((cfg0.slots t 11).cast nbuf0_11)
/-- Window 12's staging buffer at a point, -/
abbrev ms0_12 (t : Fin cfg0.N) : Memref sig .tc .vmem S1x128 .f32 := win0_12.stage (cfg0.slots t 12)
/-- which is a whole buffer. -/
abbrev hs0_12 (t : Fin cfg0.N) : (ms0_12 t).IsWhole := hstage0_12 ((cfg0.slots t 12).cast nbuf0_12)
/-- Window 13's staging buffer at a point, -/
abbrev ms0_13 (t : Fin cfg0.N) : Memref sig .tc .vmem S1x1 .f32 := win0_13.stage (cfg0.slots t 13)
/-- which is a whole buffer. -/
abbrev hs0_13 (t : Fin cfg0.N) : (ms0_13 t).IsWhole := hstage0_13 ((cfg0.slots t 13).cast nbuf0_13)
/-- Window 14's staging buffer at a point, -/
abbrev ms0_14 (t : Fin cfg0.N) : Memref sig .tc .vmem S1x128 .f32 := win0_14.stage (cfg0.slots t 14)
/-- which is a whole buffer. -/
abbrev hs0_14 (t : Fin cfg0.N) : (ms0_14 t).IsWhole := hstage0_14 ((cfg0.slots t 14).cast nbuf0_14)
/-- Window 15's staging buffer at a point, -/
abbrev ms0_15 (t : Fin cfg0.N) : Memref sig .tc .vmem S128x128 .f32 := win0_15.stage (cfg0.slots t 15)
/-- which is a whole buffer. -/
abbrev hs0_15 (t : Fin cfg0.N) : (ms0_15 t).IsWhole := hstage0_15 ((cfg0.slots t 15).cast nbuf0_15)
/-- Window 16's staging buffer at a point, -/
abbrev ms0_16 (t : Fin cfg0.N) : Memref sig .tc .vmem S1x128x2048 .f32 := win0_16.stage (cfg0.slots t 16)
/-- which is a whole buffer. -/
abbrev hs0_16 (t : Fin cfg0.N) : (ms0_16 t).IsWhole := hstage0_16 ((cfg0.slots t 16).cast nbuf0_16)
/-- Window 17's staging buffer at a point, -/
abbrev ms0_17 (t : Fin cfg0.N) : Memref sig .tc .vmem S128x128 .f32 := win0_17.stage (cfg0.slots t 17)
/-- which is a whole buffer. -/
abbrev hs0_17 (t : Fin cfg0.N) : (ms0_17 t).IsWhole := hstage0_17 ((cfg0.slots t 17).cast nbuf0_17)
/-- Window 18's staging buffer at a point, -/
abbrev ms0_18 (t : Fin cfg0.N) : Memref sig .tc .vmem S1x128 .f32 := win0_18.stage (cfg0.slots t 18)
/-- which is a whole buffer. -/
abbrev hs0_18 (t : Fin cfg0.N) : (ms0_18 t).IsWhole := hstage0_18 ((cfg0.slots t 18).cast nbuf0_18)
/-- Scratch buffer 0. -/
abbrev scM0_0 : Memref sig .tc .vmem S128x128 .f32 := Memref.whole cc0_scratch0
/-- Scratch buffer 1. -/
abbrev scM0_1 : Memref sig .tc .vmem S1x128 .f32 := Memref.whole cc0_scratch1
/-- Scratch buffer 2. -/
abbrev scM0_2 : Memref sig .tc .vmem S128x128 .f32 := Memref.whole cc0_scratch2
/-- Scratch buffer 3. -/
abbrev scM0_3 : Memref sig .tc .vmem S128x1 .f32 := Memref.whole cc0_scratch3

/-- What the launch hands over besides the windows: the scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The branch is taken at the first point only. -/
theorem first_iff : ∀ t : Fin cfg0.N, first0 (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    have key : first0 (grid0.coords t) ↔ t.val % 4 = 0 := by
      simp only [first0, k0_cond1, e0]
      word_cmp
    rw [key]; omega
   : ∀ t : Fin grid0.N, first0 (grid0.coords t) ↔ t.val = 0)

/-! ## What the buffers hold -/

/-- The first point. -/
def p0 : Fin cfg0.N := ⟨0, lt_of_lt_of_eq (by decide : 0 < 4) (show (4 : ℕ) = cfg0.N from N_0.symm)⟩

/-- The folded weights of the second relation layer, kept in scratch. -/
def w2At (c : Dev nD) : Vec F S128x128 .f32 := midW2 (iblk m c 1 p0) (iblk m c 2 p0) (iblk m c 9 p0) (iblk m c 11 p0) (iblk m c 13 p0)
/-- The folded bias of the second relation layer, kept in scratch. -/
def b2At (c : Dev nD) : Vec F S1x128 .f32 := midB2 (iblk m c 1 p0) (iblk m c 2 p0) (iblk m c 9 p0) (iblk m c 10 p0) (iblk m c 11 p0) (iblk m c 12 p0) (iblk m c 13 p0)
/-- The folded weights of the second relation layer, handed on. -/
def w2oAt (c : Dev nD) : Vec F S128x128 .f32 := midW2o (iblk m c 1 p0) (iblk m c 2 p0) (iblk m c 9 p0) (iblk m c 11 p0) (iblk m c 13 p0)
/-- The folded bias of the second relation layer, handed on. -/
def b2oAt (c : Dev nD) : Vec F S1x128 .f32 := midB2o (iblk m c 1 p0) (iblk m c 2 p0) (iblk m c 9 p0) (iblk m c 10 p0) (iblk m c 11 p0) (iblk m c 12 p0) (iblk m c 13 p0)
/-- The folded weights of the feature branch, kept in scratch. -/
def weffAt (c : Dev nD) : Vec F S128x128 .f32 := midWeff (iblk m c 1 p0) (iblk m c 2 p0) (iblk m c 3 p0) (iblk m c 5 p0) (iblk m c 7 p0) (iblk m c 13 p0)
/-- The folded bias of the feature branch, kept in scratch. -/
def beffAt (c : Dev nD) : Vec F S128x1 .f32 := midBeff (iblk m c 1 p0) (iblk m c 2 p0) (iblk m c 3 p0) (iblk m c 4 p0) (iblk m c 5 p0) (iblk m c 6 p0) (iblk m c 7 p0) (iblk m c 8 p0) (iblk m c 13 p0)

/-- The running column sums after a point. -/
def muAt (c : Dev nD) : (n : ℕ) → n < cfg0.N → Vec F S1x128 .f32
  | 0, hn => k0_pay22 (iblk m c 0 ⟨0, hn⟩) (w2At m c) (b2At m c) (k0_pay19 (F := F))
  | n + 1, hn => k0_pay22 (iblk m c 0 ⟨n + 1, hn⟩) (w2At m c) (b2At m c) (muAt c n (Nat.lt_of_succ_lt hn))
/-- The running Gram matrix after a point. -/
def gramAt (c : Dev nD) : (n : ℕ) → n < cfg0.N → Vec F S128x128 .f32
  | 0, hn => k0_pay23 (iblk m c 0 ⟨0, hn⟩) (w2At m c) (b2At m c) (k0_pay20 (F := F))
  | n + 1, hn => k0_pay23 (iblk m c 0 ⟨n + 1, hn⟩) (w2At m c) (b2At m c) (gramAt c n (Nat.lt_of_succ_lt hn))

theorem muAt_later (c : Dev nD) (t : Fin cfg0.N) (hz : t.val ≠ 0) :
    muAt m c t.val t.isLt = k0_pay22 (iblk m c 0 t) (w2At m c) (b2At m c) (muAt m c (t.val - 1) (Nat.lt_of_le_of_lt (Nat.sub_le _ _) t.isLt)) := by
  obtain ⟨n, hn⟩ := t
  cases n with
  | zero => exact absurd rfl hz
  | succ n => rfl

theorem gramAt_later (c : Dev nD) (t : Fin cfg0.N) (hz : t.val ≠ 0) :
    gramAt m c t.val t.isLt = k0_pay23 (iblk m c 0 t) (w2At m c) (b2At m c) (gramAt m c (t.val - 1) (Nat.lt_of_le_of_lt (Nat.sub_le _ _) t.isLt)) := by
  obtain ⟨n, hn⟩ := t
  cases n with
  | zero => exact absurd rfl hz
  | succ n => rfl

/-- The scratch buffers filled at the first point, and the generator register. -/
def Phi1 (c : Dev nD) : sProp 𝕄 :=
  iprop(iprop(owns (c : Thread nD τ) scM0_0 fullShare (w2At m c) ∗ owns (c : Thread nD τ) scM0_1 fullShare (b2At m c) ∗ owns (c : Thread nD τ) scM0_2 fullShare (weffAt m c) ∗ owns (c : Thread nD τ) scM0_3 fullShare (beffAt m c)) ∗ (∃ r, prngReg c r))

/-- The invariant between points: anything in the scratch before the first, the folded weights and biases afterwards. -/
def PhiS (c : Dev nD) : (n : ℕ) → n ≤ cfg0.N → sProp 𝕄
  | 0, _ => Pipeline.ΦA spec0 c
  | _ + 1, _ => Phi1 m c

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = Phi1 m c := rfl

theorem PhiS_pos (c : Dev nD) (n : ℕ) (h : n ≤ cfg0.N) (hz : n ≠ 0) : PhiS m c n h = Phi1 m c := by
  cases n with
  | zero => exact absurd rfl hz
  | succ n => rfl

/-- The proof data of the pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => muAt m c t.val t.isLt
    | ⟨15, _⟩ => gramAt m c t.val t.isLt
    | ⟨16, _⟩ => midRnf (iblk m c 0 t) (weffAt m c) (beffAt m c)
    | ⟨17, _⟩ => w2oAt m c
    | ⟨18, _⟩ => b2oAt m c
    | ⟨_ + 19, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = muAt m c t.val t.isLt := by dsimp only [dats]
theorem after0_15 (c : Dev nD) (t : Fin cfg0.N) : (dats m 0 c).after 15 t = gramAt m c t.val t.isLt := by dsimp only [dats]
theorem after0_16 (c : Dev nD) (t : Fin cfg0.N) : (dats m 0 c).after 16 t = midRnf (iblk m c 0 t) (weffAt m c) (beffAt m c) := by dsimp only [dats]
theorem after0_17 (c : Dev nD) (t : Fin cfg0.N) : (dats m 0 c).after 17 t = w2oAt m c := by dsimp only [dats]
theorem after0_18 (c : Dev nD) (t : Fin cfg0.N) : (dats m 0 c).after 18 t = b2oAt m c := by dsimp only [dats]

/-! What the body finds: every input its block, and an output kept between points what the point before left. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14_later (c : Dev nD) (t : Fin cfg0.N) (hz : t.val ≠ 0) (d) :
    (dats m 0 c).before 14 t d = muAt m c (t.val - 1) (Nat.lt_of_le_of_lt (Nat.sub_le _ _) t.isLt) := by
  have hN : t.val < 4 := lt_of_lt_of_eq t.isLt (show cfg0.N = 4 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_15_later (c : Dev nD) (t : Fin cfg0.N) (hz : t.val ≠ 0) (d) :
    (dats m 0 c).before 15 t d = gramAt m c (t.val - 1) (Nat.lt_of_le_of_lt (Nat.sub_le _ _) t.isLt) := by
  have hN : t.val < 4 := lt_of_lt_of_eq t.isLt (show cfg0.N = 4 from N_0)
  rw [Dat.before_out_kept _ 15 rfl t (by omega) (Bool.eq_false_iff.mpr fun h => by have := (flush0_15 _).mp h; dsimp only at this; omega)
    (fun _ => rfl) (fun _ _ => rfl)]
  dsimp only [dats]
/-- The folded weights are handed on at the first point only. -/
theorem idle0_17 (t : Fin cfg0.N) : cfg0.idle 17 (grid0.coords t) = true ↔ t.val ≠ 0 := by
  show (!(k0_cond1 (grid0.coords t) == 1#1)) = true ↔ _
  rw [Bool.not_eq_true', beq_eq_false_iff_ne, ne_eq]
  exact not_congr (first_iff t)
/-- So is the folded bias. -/
theorem idle0_18 (t : Fin cfg0.N) : cfg0.idle 18 (grid0.coords t) = true ↔ t.val ≠ 0 := by
  show (!(k0_cond1 (grid0.coords t) == 1#1)) = true ↔ _
  rw [Bool.not_eq_true', beq_eq_false_iff_ne, ne_eq]
  exact not_congr (first_iff t)

/-- A window stored at the first point only, and written back at the last, holds what the first point left. -/
theorem kept_from_first (c : Dev nD) (w : Fin cfg0.W) (hw : (cfg0.win w).isOut = true)
    (hidle : ∀ t : Fin cfg0.N, cfg0.idle w (grid0.coords t) = true ↔ t.val ≠ 0)
    (hfl : ∀ t : Fin cfg0.N, (cfg0.win w).flush t = true → t.val = 3)
    (hclip : ∀ (i : cfg0.grid.Coords) a, (cfg0.win w).clip i a = none) (t : Fin cfg0.N) (hz : t.val ≠ 0) (d) :
    (dats m 0 c).before w t d = (dats m 0 c).after w p0 := by
  have hN : t.val < 4 := lt_of_lt_of_eq t.isLt (show cfg0.N = 4 from N_0)
  have nf : ∀ j : Fin cfg0.N, j.val < 3 → (cfg0.win w).flush j = false := fun j hj =>
    Bool.eq_false_iff.mpr fun h => by have := hfl j h; omega
  rw [(dats m 0 c).before_idle_run w (fun t => (cfg0.win w).fetch_out hw t) d (t.val - 1) t (Nat.sub_le _ _)
    (fun j h₁ h₂ => ⟨(hidle j).mpr (by omega), nf j (by omega)⟩)]
  rw [(dats m 0 c).before_of_pos w _ (by dsimp only; omega) ((cfg0.win w).fetch_out hw _), nf _ (by dsimp only; omega), if_neg Bool.false_ne_true]
  have e : (⟨t.val - (t.val - 1) - 1, by have := t.isLt; omega⟩ : Fin cfg0.N) = p0 := Fin.ext (by show t.val - (t.val - 1) - 1 = 0; omega)
  have hl : cfg0.idle w (cfg0.grid.coords p0) = false := Bool.eq_false_iff.mpr fun h => (hidle p0).mp h rfl
  show (dats m 0 c).left w ⟨t.val - (t.val - 1) - 1, _⟩ d = _
  rw [e]
  unfold Dat.left; rw [hl]
  dsimp only
  unfold Dat.kept
  rw [Pipeline.fill_of_clip_none w _ (hclip _) d ((dats m 0 c).after w p0), Pipeline.Window.fill_cut]

theorem before0_17_later (c : Dev nD) (t : Fin cfg0.N) (hz : t.val ≠ 0) (d) :
    (dats m 0 c).before 17 t d = w2oAt m c := by
  rw [kept_from_first m c 17 rfl idle0_17 (fun t h => by have hN : t.val < 4 := lt_of_lt_of_eq t.isLt (show cfg0.N = 4 from N_0); have := (flush0_17 t).mp h; omega) (fun _ _ => rfl) t hz]
  dsimp only [dats]
theorem before0_18_later (c : Dev nD) (t : Fin cfg0.N) (hz : t.val ≠ 0) (d) :
    (dats m 0 c).before 18 t d = b2oAt m c := by
  rw [kept_from_first m c 18 rfl idle0_18 (fun t h => by have hN : t.val < 4 := lt_of_lt_of_eq t.isLt (show cfg0.N = 4 from N_0); have := (flush0_18 t).mp h; omega) (fun _ _ => rfl) t hz]
  dsimp only [dats]

/-- What is owed of a window not stored at a point follows from its holding what it should. -/
theorem owed_of_after (c : Dev nD) (t : Fin cfg0.N) (w : Fin cfg0.W)
    (h : cfg0.idle w (cfg0.grid.coords t) = true → ∀ d, (dats m 0 c).before w t d = (dats m 0 c).after w t) :
    (owns (c : Thread nD τ) ((cfg0.win w).stage (cfg0.slots t w)) fullShare ((dats m 0 c).after w t) : sProp 𝕄)
      ⊢ (match cfg0.idle w (cfg0.grid.coords t) with
        | true =>
          match (cfg0.win w).flush t with
          | false => iprop(∃ d, owns (c : Thread nD τ) ((cfg0.win w).stage (cfg0.slots t w)) fullShare ((dats m 0 c).before w t d))
          | true => owns (c : Thread nD τ) ((cfg0.win w).stage (cfg0.slots t w)) fullShare ((dats m 0 c).after w t)
        | false => owns (c : Thread nD τ) ((cfg0.win w).stage (cfg0.slots t w)) fullShare ((dats m 0 c).after w t)) := by
  cases hi : cfg0.idle w (cfg0.grid.coords t) with
  | false => exact Idealize.SL.BI.Entails.refl _
  | true =>
    cases hf : (cfg0.win w).flush t with
    | true => exact Idealize.SL.BI.Entails.refl _
    | false =>
      dsimp only
      iintro H
      iexists (dats m 0 c).after w t
      rw [h hi]
      iexact H

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 9600000 in
/-- The body's triple at a point: at the first the branch fills the scratch, at the others the scratch holds what it was filled with. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  by_cases hz : t.val = 0
  · rw [PhiS_castSucc m c t, PhiS_zero m c _ _ hz, PhiA0_eq]
    obtain rfl : t = p0 := Fin.ext hz
    unfold Phi1
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (mid_first c (grid0.coords p0) _ _ _ _ _ _ _ _ _ _ _ _ _ _ _ _ _ _ _ _ _ _ _ _ _ _ _ _ _ _ _ _ _ _ _ _ _ _ _ _ _ _ _ _ _ _ ((first_iff p0).mpr rfl) (iblk m c 0 p0) (iblk m c 1 p0) (iblk m c 2 p0) (iblk m c 3 p0) (iblk m c 4 p0) (iblk m c 5 p0) (iblk m c 6 p0) (iblk m c 7 p0) (iblk m c 8 p0) (iblk m c 9 p0) (iblk m c 10 p0) (iblk m c 11 p0) (iblk m c 12 p0) (iblk m c 13 p0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · rw [PhiS_castSucc m c t, PhiS_pos m c _ _ hz]
    simp only [before0_14_later m c t hz, before0_15_later m c t hz, before0_17_later m c t hz, before0_18_later m c t hz, muAt_later m c t hz, gramAt_later m c t hz]
    unfold Phi1
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (mid_later c (grid0.coords t) _ _ _ _ _ _ _ _ _ _ _ _ _ _ _ _ _ _ _ _ _ _ _ _ _ _ _ _ _ _ _ _ _ _ _ _ _ _ _ _ _ _ _ _ _ _ (fun h => hz ((first_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexact H17
    isplitl [H18]; · iexact H18
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- The row of the body table at a point is the body as spelt above. -/
theorem defs₀_row (t : Fin cfg0.N) :
    defs₀ (F := F) .tc cfg0.body (cfg0.bodyArgs t (cfg0.slots t)) = bodyAt0 t := by
  unfold defs₀; rw [Defs.onTc_tc]

/-- The library's obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HP, HO, H0, H1, H2, H3, H4, H5, H6, H7, H8, H9, H10, H11, H12, H13, H14, H15, H16, H17, H18⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · iapply (owed_of_after m c t 17 (fun hi d => by rw [before0_17_later m c t ((idle0_17 t).mp hi), after0_17])); iexact H17
  · iapply (owed_of_after m c t 18 (fun hi d => by rw [before0_18_later m c t ((idle0_18 t).mp hi), after0_18])); iexact H18

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), PhiA0_eq]
  unfold Phi1
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The run and the frame -/

set_option backward.isDefEq.respectTransparency.types false in
/-- The launch: every array ends at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.Kernel2Ideal.Hand

end
-- ==== Proof.MidBlk.lean ====
module

public import proofs.«01_k».proof.Proof.MidFrame
public import Idealize.ShloMosaic.Lib.Pipeline.Value
public import Idealize.ShloMosaic.Lib.Pipeline.ValueKit
public import Idealize.ShloMosaic.Lib.Pipeline.ValueKit.Point
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe
open Idealize.ShloMosaic.Pipeline (Dat Cfg Window)

variable {F : FTy → Type} [FloatOps F] [Named F]
variable (m : (ℓ : Loc nD τ sig) → Buf (Elt F) ℓ)

/-! The blocks the points of the second call's grid read and write, in terms of the arrays. -/

/-- The first input's window and the feature output's move with the point; every other window stays on its one block. -/

theorem idx_const : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val, 0, 0] ∧ win0_17.index t = ![0, 0] ∧ win0_18.index t = ![0, 0] :=
  (by decide +kernel : ∀ t : Fin grid0.N, _)

theorem blk_1 (c : Dev nD) (t : Fin cfg0.N) : (iblk m c 1 t : Vec F S1x128 .f32) = m ((c : Thread nD τ).loc main_arg1) := by
  have e := idx_const t
  funext y
  blk_ext! [iblk, V, e]

theorem blk_2 (c : Dev nD) (t : Fin cfg0.N) : (iblk m c 2 t : Vec F S128x128 .f32) = m ((c : Thread nD τ).loc main_arg2) := by
  have e := idx_const t
  funext y
  blk_ext! [iblk, V, e]

theorem V_main_v3 (c : Dev nD) : V m c main_v3 = transpose S128x256 [1, 0] (m ((c : Thread nD τ).loc main_arg3)) transposes_S256x128_S128x256_1_0 := by
  entry_read
  rfl

theorem blk_3 (c : Dev nD) (t : Fin cfg0.N) : (iblk m c 3 t : Vec F S128x256 .f32) = V m c main_v3 := by
  have e := idx_const t
  funext y
  blk_ext! [iblk, e]

theorem V_main_v4 (c : Dev nD) : V m c main_v4 = shapeCast S1x256 (m ((c : Thread nD τ).loc main_arg4)) shapeCasts_S256_S1x256 := by
  entry_read
  rfl

theorem blk_4 (c : Dev nD) (t : Fin cfg0.N) : (iblk m c 4 t : Vec F S1x256 .f32) = V m c main_v4 := by
  have e := idx_const t
  funext y
  blk_ext! [iblk, e]

theorem V_main_v5 (c : Dev nD) : V m c main_v5 = shapeCast S1x256 (m ((c : Thread nD τ).loc main_arg5)) shapeCasts_S256_S1x256 := by
  entry_read
  rfl

theorem blk_5 (c : Dev nD) (t : Fin cfg0.N) : (iblk m c 5 t : Vec F S1x256 .f32) = V m c main_v5 := by
  have e := idx_const t
  funext y
  blk_ext! [iblk, e]

theorem V_main_v6 (c : Dev nD) : V m c main_v6 = shapeCast S1x256 (m ((c : Thread nD τ).loc main_arg6)) shapeCasts_S256_S1x256 := by
  entry_read
  rfl

theorem blk_6 (c : Dev nD) (t : Fin cfg0.N) : (iblk m c 6 t : Vec F S1x256 .f32) = V m c main_v6 := by
  have e := idx_const t
  funext y
  blk_ext! [iblk, e]

theorem V_main_v7 (c : Dev nD) : V m c main_v7 = transpose S256x128 [1, 0] (m ((c : Thread nD τ).loc main_arg7)) transposes_S128x256_S256x128_1_0 := by
  entry_read
  rfl

theorem blk_7 (c : Dev nD) (t : Fin cfg0.N) : (iblk m c 7 t : Vec F S256x128 .f32) = V m c main_v7 := by
  have e := idx_const t
  funext y
  blk_ext! [iblk, e]

theorem V_main_v8 (c : Dev nD) : V m c main_v8 = shapeCast S1x128 (m ((c : Thread nD τ).loc main_arg8)) shapeCasts_S128_S1x128 := by
  entry_read
  rfl

theorem blk_8 (c : Dev nD) (t : Fin cfg0.N) : (iblk m c 8 t : Vec F S1x128 .f32) = V m c main_v8 := by
  have e := idx_const t
  funext y
  blk_ext! [iblk, e]

theorem V_main_v9 (c : Dev nD) : V m c main_v9 = transpose S128x128 [1, 0] (m ((c : Thread nD τ).loc main_arg9)) transposes_S128x128_S128x128_1_0 := by
  entry_read
  rfl

theorem blk_9 (c : Dev nD) (t : Fin cfg0.N) : (iblk m c 9 t : Vec F S128x128 .f32) = V m c main_v9 := by
  have e := idx_const t
  funext y
  blk_ext! [iblk, e]

theorem V_main_v10 (c : Dev nD) : V m c main_v10 = shapeCast S1x128 (m ((c : Thread nD τ).loc main_arg10)) shapeCasts_S128_S1x128 := by
  entry_read
  rfl

theorem blk_10 (c : Dev nD) (t : Fin cfg0.N) : (iblk m c 10 t : Vec F S1x128 .f32) = V m c main_v10 := by
  have e := idx_const t
  funext y
  blk_ext! [iblk, e]

theorem V_main_v11 (c : Dev nD) : V m c main_v11 = shapeCast S1x128 (m ((c : Thread nD τ).loc main_arg11)) shapeCasts_S128_S1x128 := by
  entry_read
  rfl

theorem blk_11 (c : Dev nD) (t : Fin cfg0.N) : (iblk m c 11 t : Vec F S1x128 .f32) = V m c main_v11 := by
  have e := idx_const t
  funext y
  blk_ext! [iblk, e]

theorem V_main_v12 (c : Dev nD) : V m c main_v12 = shapeCast S1x128 (m ((c : Thread nD τ).loc main_arg12)) shapeCasts_S128_S1x128 := by
  entry_read
  rfl

theorem blk_12 (c : Dev nD) (t : Fin cfg0.N) : (iblk m c 12 t : Vec F S1x128 .f32) = V m c main_v12 := by
  have e := idx_const t
  funext y
  blk_ext! [iblk, e]

theorem V_main_v2 (c : Dev nD) : V m c main_v2 = Host.divf (broadcastInDim S1x1 ![] bcast_S_S1x1 (constant S_ .f32 0x3F800000#32)) (broadcastInDim S1x1 ![] bcast_S_S1x1 (constant S_ .f32 0x46C00000#32)) := by
  entry_read
  rfl

theorem blk_13 (c : Dev nD) (t : Fin cfg0.N) : (iblk m c 13 t : Vec F S1x1 .f32) = V m c main_v2 := by
  have e := idx_const t
  funext y
  blk_ext! [iblk, e]

theorem blk_0 (c : Dev nD) (t : Fin cfg0.N) (r : Fin 6144) (k : Fin 128) (h : t.val * 6144 + r.val < 24576) :
    (iblk m c 0 t : Vec F S6144x128 .f32) (ix2 r k) = m ((c : Thread nD τ).loc main_arg0) (ix2 ⟨t.val * 6144 + r.val, h⟩ k) := by
  have e := idx_const t
  blk_ext! [iblk, V, e]

/-- The last point of the grid. -/
def p3 : Fin cfg0.N := ⟨3, by decide⟩

/-- Window 14 is written back after the last point only. -/
theorem disjoint14 : ∀ t t' : Fin cfg0.N, (cfg0.win 14).flush t = true → (cfg0.win 14).flush t' = true → t ≠ t' →
    Disjoint ((cfg0.win 14).blk t).view.set ((cfg0.win 14).blk t').view.set := fun t t' h h' hne => by
  have e := (flush0_14 t).mp h
  have e' := (flush0_14 t').mp h'
  have ht : t.val < 4 := Nat.lt_of_lt_of_eq t.isLt N_0
  have ht' : t'.val < 4 := Nat.lt_of_lt_of_eq t'.isLt N_0
  exact absurd (Fin.ext (by omega)) hne

/-- The array of the sums ends holding what the last point left. -/
theorem arr_14 (c : Dev nD) : ((dats m 0 c).arrAt 14 cfg0.N : Vec F S1x128 .f32) = muAt m c 3 (by decide) := by
  have hf : (cfg0.win 14).flush p3 = true := (flush0_14 p3).mpr rfl
  have h := (dats m 0 c).read_blk_arrAt_eq_flushed 14 disjoint14 cfg0.N p3 p3.isLt hf
  have e : win0_14.index p3 = ![0, 0] := by have := idx_const p3; simp only [this]
  funext y
  have hy := congrFun h y
  have hi : ((cfg0.win 14).blk p3).view.emb y = y := by
    funext a; apply Fin.ext
    have e0 := congrFun e a
    match a with
    | ⟨0, _⟩ => show win0_14.index p3 (0 : Fin 2) * 1 + 1 * (y 0).val = (y 0).val; rw [e]; show 0 * 1 + 1 * (y 0).val = (y 0).val; omega
    | ⟨1, _⟩ => show win0_14.index p3 (1 : Fin 2) * 128 + 1 * (y 1).val = (y 1).val; rw [e]; show 0 * 128 + 1 * (y 1).val = (y 1).val; omega
  have hr : ((cfg0.win 14).blk p3).view.read (Elt F) ((dats m 0 c).arrAt 14 cfg0.N) y = (dats m 0 c).arrAt 14 cfg0.N y := congrArg ((dats m 0 c).arrAt 14 cfg0.N) hi
  refine hr.symm.trans (hy.trans ?_)
  show (dats m 0 c).after 14 p3 ((cfg0.win 14).xinj (grid0.coords p3) y) = _
  rw [after0_14]
  rfl

/-- Window 15 is written back after the last point only. -/
theorem disjoint15 : ∀ t t' : Fin cfg0.N, (cfg0.win 15).flush t = true → (cfg0.win 15).flush t' = true → t ≠ t' →
    Disjoint ((cfg0.win 15).blk t).view.set ((cfg0.win 15).blk t').view.set := fun t t' h h' hne => by
  have e := (flush0_15 t).mp h
  have e' := (flush0_15 t').mp h'
  have ht : t.val < 4 := Nat.lt_of_lt_of_eq t.isLt N_0
  have ht' : t'.val < 4 := Nat.lt_of_lt_of_eq t'.isLt N_0
  exact absurd (Fin.ext (by omega)) hne

/-- The array of the second-moment matrix ends holding what the last point left. -/
theorem arr_15 (c : Dev nD) : ((dats m 0 c).arrAt 15 cfg0.N : Vec F S128x128 .f32) = gramAt m c 3 (by decide) := by
  have hf : (cfg0.win 15).flush p3 = true := (flush0_15 p3).mpr rfl
  have h := (dats m 0 c).read_blk_arrAt_eq_flushed 15 disjoint15 cfg0.N p3 p3.isLt hf
  have e : win0_15.index p3 = ![0, 0] := by have := idx_const p3; simp only [this]
  funext y
  have hy := congrFun h y
  have hi : ((cfg0.win 15).blk p3).view.emb y = y := by
    funext a; apply Fin.ext
    have e0 := congrFun e a
    match a with
    | ⟨0, _⟩ => show win0_15.index p3 (0 : Fin 2) * 128 + 1 * (y 0).val = (y 0).val; rw [e]; show 0 * 128 + 1 * (y 0).val = (y 0).val; omega
    | ⟨1, _⟩ => show win0_15.index p3 (1 : Fin 2) * 128 + 1 * (y 1).val = (y 1).val; rw [e]; show 0 * 128 + 1 * (y 1).val = (y 1).val; omega
  have hr : ((cfg0.win 15).blk p3).view.read (Elt F) ((dats m 0 c).arrAt 15 cfg0.N) y = (dats m 0 c).arrAt 15 cfg0.N y := congrArg ((dats m 0 c).arrAt 15 cfg0.N) hi
  refine hr.symm.trans (hy.trans ?_)
  show (dats m 0 c).after 15 p3 ((cfg0.win 15).xinj (grid0.coords p3) y) = _
  rw [after0_15]
  rfl

/-- Window 17 is written back after the last point only. -/
theorem disjoint17 : ∀ t t' : Fin cfg0.N, (cfg0.win 17).flush t = true → (cfg0.win 17).flush t' = true → t ≠ t' →
    Disjoint ((cfg0.win 17).blk t).view.set ((cfg0.win 17).blk t').view.set := fun t t' h h' hne => by
  have e := (flush0_17 t).mp h
  have e' := (flush0_17 t').mp h'
  have ht : t.val < 4 := Nat.lt_of_lt_of_eq t.isLt N_0
  have ht' : t'.val < 4 := Nat.lt_of_lt_of_eq t'.isLt N_0
  exact absurd (Fin.ext (by omega)) hne

/-- The array of the folded weights ends holding what the last point left. -/
theorem arr_17 (c : Dev nD) : ((dats m 0 c).arrAt 17 cfg0.N : Vec F S128x128 .f32) = w2oAt m c := by
  have hf : (cfg0.win 17).flush p3 = true := (flush0_17 p3).mpr rfl
  have h := (dats m 0 c).read_blk_arrAt_eq_flushed 17 disjoint17 cfg0.N p3 p3.isLt hf
  have e : win0_17.index p3 = ![0, 0] := by have := idx_const p3; simp only [this]
  funext y
  have hy := congrFun h y
  have hi : ((cfg0.win 17).blk p3).view.emb y = y := by
    funext a; apply Fin.ext
    have e0 := congrFun e a
    match a with
    | ⟨0, _⟩ => show win0_17.index p3 (0 : Fin 2) * 128 + 1 * (y 0).val = (y 0).val; rw [e]; show 0 * 128 + 1 * (y 0).val = (y 0).val; omega
    | ⟨1, _⟩ => show win0_17.index p3 (1 : Fin 2) * 128 + 1 * (y 1).val = (y 1).val; rw [e]; show 0 * 128 + 1 * (y 1).val = (y 1).val; omega
  have hr : ((cfg0.win 17).blk p3).view.read (Elt F) ((dats m 0 c).arrAt 17 cfg0.N) y = (dats m 0 c).arrAt 17 cfg0.N y := congrArg ((dats m 0 c).arrAt 17 cfg0.N) hi
  refine hr.symm.trans (hy.trans ?_)
  show (dats m 0 c).after 17 p3 ((cfg0.win 17).xinj (grid0.coords p3) y) = _
  rw [after0_17]
  rfl

/-- Window 18 is written back after the last point only. -/
theorem disjoint18 : ∀ t t' : Fin cfg0.N, (cfg0.win 18).flush t = true → (cfg0.win 18).flush t' = true → t ≠ t' →
    Disjoint ((cfg0.win 18).blk t).view.set ((cfg0.win 18).blk t').view.set := fun t t' h h' hne => by
  have e := (flush0_18 t).mp h
  have e' := (flush0_18 t').mp h'
  have ht : t.val < 4 := Nat.lt_of_lt_of_eq t.isLt N_0
  have ht' : t'.val < 4 := Nat.lt_of_lt_of_eq t'.isLt N_0
  exact absurd (Fin.ext (by omega)) hne

/-- The array of the folded bias ends holding what the last point left. -/
theorem arr_18 (c : Dev nD) : ((dats m 0 c).arrAt 18 cfg0.N : Vec F S1x128 .f32) = b2oAt m c := by
  have hf : (cfg0.win 18).flush p3 = true := (flush0_18 p3).mpr rfl
  have h := (dats m 0 c).read_blk_arrAt_eq_flushed 18 disjoint18 cfg0.N p3 p3.isLt hf
  have e : win0_18.index p3 = ![0, 0] := by have := idx_const p3; simp only [this]
  funext y
  have hy := congrFun h y
  have hi : ((cfg0.win 18).blk p3).view.emb y = y := by
    funext a; apply Fin.ext
    have e0 := congrFun e a
    match a with
    | ⟨0, _⟩ => show win0_18.index p3 (0 : Fin 2) * 1 + 1 * (y 0).val = (y 0).val; rw [e]; show 0 * 1 + 1 * (y 0).val = (y 0).val; omega
    | ⟨1, _⟩ => show win0_18.index p3 (1 : Fin 2) * 128 + 1 * (y 1).val = (y 1).val; rw [e]; show 0 * 128 + 1 * (y 1).val = (y 1).val; omega
  have hr : ((cfg0.win 18).blk p3).view.read (Elt F) ((dats m 0 c).arrAt 18 cfg0.N) y = (dats m 0 c).arrAt 18 cfg0.N y := congrArg ((dats m 0 c).arrAt 18 cfg0.N) hi
  refine hr.symm.trans (hy.trans ?_)
  show (dats m 0 c).after 18 p3 ((cfg0.win 18).xinj (grid0.coords p3) y) = _
  rw [after0_18]
  rfl

/-- Two points' blocks of the feature array share no index. -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (by
    have e : win0_16.index t = ![t.val, 0, 0] := by have := idx_const t; simp only [this]
    have e' : win0_16.index t' = ![t'.val, 0, 0] := by have := idx_const t'; simp only [this]
    have h0 : win0_16.index t 0 = win0_16.index t' 0 := congrFun h 0
    rw [e, e'] at h0
    exact Fin.ext h0)

/-- The feature array ends holding, batch by batch, what the points left. -/
theorem arr_16 (c : Dev nD) (t : Fin cfg0.N) (b : Fin 4) (hb : b.val = t.val) (o : Fin 128) (n : Fin 2048) :
    ((dats m 0 c).arrAt 16 cfg0.N : Vec F S4x128x2048 .f32) (ix3 b o n) = midRnf (iblk m c 0 t) (weffAt m c) (beffAt m c) (ix3 0 o n) := by
  have h := (dats m 0 c).read_blk_arrAt_eq_flushed 16 disjoint16 cfg0.N t t.isLt (flush0_16 t)
  have e : win0_16.index t = ![t.val, 0, 0] := by have := idx_const t; simp only [this]
  have hy := congrFun h (ix3 0 o n)
  have hi : ((cfg0.win 16).blk t).view.emb (ix3 0 o n) = ix3 b o n := by
    funext a; apply Fin.ext
    match a with
    | ⟨0, _⟩ => show win0_16.index t (0 : Fin 3) * 1 + 1 * 0 = b.val; rw [e]; show t.val * 1 + 1 * 0 = b.val; omega
    | ⟨1, _⟩ => show win0_16.index t (1 : Fin 3) * 128 + 1 * o.val = o.val; rw [e]; show 0 * 128 + 1 * o.val = o.val; omega
    | ⟨2, _⟩ => show win0_16.index t (2 : Fin 3) * 2048 + 1 * n.val = n.val; rw [e]; show 0 * 2048 + 1 * n.val = n.val; omega
  have hr : ((cfg0.win 16).blk t).view.read (Elt F) ((dats m 0 c).arrAt 16 cfg0.N) (ix3 0 o n) = (dats m 0 c).arrAt 16 cfg0.N (ix3 b o n) := congrArg ((dats m 0 c).arrAt 16 cfg0.N) hi
  refine hr.symm.trans (hy.trans ?_)
  show (dats m 0 c).after 16 t ((cfg0.win 16).xinj (grid0.coords t) (ix3 0 o n)) = _
  rw [after0_16]
  rfl

end Cert.Kernel2Ideal.Hand
-- ==== Proof.MidEnt.lean ====
module

public import proofs.«01_k».proof.Proof.MidBlk
public import proofs.«01_k».proof.Proof.Algebra
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe

/-! What the second call computes, entry by entry, over the extended reals. -/

/-- One over the number of rows. -/
def mI : EReal := Ideal.div 1 (Ideal.ofBits .f32 0x46C00000#32)
/-- The small number added to a variance. -/
def eI : EReal := Ideal.ofBits .f32 0x3727C5AC#32

/-- The scale of a unit of the relation layer. -/
def relScale (mu : FVec Ideal S1x128 .f32) (S W : FVec Ideal S128x128 .f32) (g : FVec Ideal S128 .f32) (k : Fin 128) : EReal :=
  Cert.Bn.scale (g (ix1 k)) (fun i => W (ix2 k i)) (fun i => mu (ix2 0 i)) (fun i j => S (ix2 i j)) mI eI
/-- The folded bias of a unit of the relation layer. -/
def relBias (mu : FVec Ideal S1x128 .f32) (S W : FVec Ideal S128x128 .f32) (b g be : FVec Ideal S128 .f32) (k : Fin 128) : EReal :=
  relScale mu S W g k * b (ix1 k) + (be (ix1 k) - relScale mu S W g k * ((∑ i : Fin 128, mu (ix2 0 i) * mI * W (ix2 k i)) + b (ix1 k)))
/-- The scale of a unit of the feature branch. -/
def guScale (mu : FVec Ideal S1x128 .f32) (S : FVec Ideal S128x128 .f32) (W : FVec Ideal S256x128 .f32) (g : FVec Ideal S256 .f32) (k : Fin 256) : EReal :=
  Cert.Bn.scale (g (ix1 k)) (fun i => W (ix2 k i)) (fun i => mu (ix2 0 i)) (fun i j => S (ix2 i j)) mI eI
/-- The folded bias of a unit of the feature branch. -/
def guBias (mu : FVec Ideal S1x128 .f32) (S : FVec Ideal S128x128 .f32) (W : FVec Ideal S256x128 .f32) (b g be : FVec Ideal S256 .f32) (k : Fin 256) : EReal :=
  guScale mu S W g k * b (ix1 k) + (be (ix1 k) - guScale mu S W g k * ((∑ i : Fin 128, mu (ix2 0 i) * mI * W (ix2 k i)) + b (ix1 k)))

variable (m : (ℓ : Loc nD τ sig) → Buf (Elt Ideal) ℓ)

set_option maxHeartbeats 1000000 in
theorem w2At_apply (c : Dev nD) (j k : Fin 128) : w2At m c (ix2 j k)
    = @id (FVec Ideal S128x128 .f32) (m ((c : Thread nD τ).loc main_arg9)) (ix2 k j) * relScale (m ((c : Thread nD τ).loc main_arg1)) (m ((c : Thread nD τ).loc main_arg2)) (m ((c : Thread nD τ).loc main_arg9)) (m ((c : Thread nD τ).loc main_arg11)) k := by
  unfold w2At midW2
  rw [blk_1, blk_2, blk_9, blk_11, blk_13, V_main_v9, V_main_v11, V_main_v2]
  pointwise [k0_pay17, k0_pay15, k0_pay14, k0_pay12, k0_pay11, k0_pay4, k0_pay3, k0_pay2]
  simp only [Fin.sum_univ_one]
  unfold relScale Cert.Bn.scale
  rfl

set_option maxHeartbeats 1000000 in
theorem w2oAt_eq (c : Dev nD) : w2oAt m c = w2At m c := by
  unfold w2At w2oAt midW2 midW2o
  funext x
  pointwise [k0_pay17, k0_pay15]

set_option maxHeartbeats 1000000 in
theorem b2At_apply (c : Dev nD) (k : Fin 128) : b2At m c (ix2 0 k)
    = relBias (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) k := by
  unfold b2At midB2
  rw [blk_1, blk_2, blk_9, blk_10, blk_11, blk_12, blk_13, V_main_v9, V_main_v10, V_main_v11, V_main_v12, V_main_v2]
  pointwise [k0_pay18, k0_pay16, k0_pay13, k0_pay12, k0_pay11, k0_pay4, k0_pay3, k0_pay2]
  simp only [Fin.sum_univ_one]
  unfold relBias relScale Cert.Bn.scale
  rfl

set_option maxHeartbeats 1000000 in
theorem b2oAt_eq (c : Dev nD) : b2oAt m c = b2At m c := by
  unfold b2At b2oAt midB2 midB2o
  funext x
  pointwise [k0_pay18, k0_pay16]

set_option maxHeartbeats 1000000 in
theorem weffAt_apply (c : Dev nD) (j o : Fin 128) : weffAt m c (ix2 j o)
    = ∑ k : Fin 256, @id (FVec Ideal S256x128 .f32) (m ((c : Thread nD τ).loc main_arg3)) (ix2 k j) * guScale (m ((c : Thread nD τ).loc main_arg1)) (m ((c : Thread nD τ).loc main_arg2)) (m ((c : Thread nD τ).loc main_arg3)) (m ((c : Thread nD τ).loc main_arg5)) k
        * @id (FVec Ideal S128x256 .f32) (m ((c : Thread nD τ).loc main_arg7)) (ix2 o k) := by
  unfold weffAt midWeff
  rw [blk_1, blk_2, blk_3, blk_5, blk_7, blk_13, V_main_v3, V_main_v5, V_main_v7, V_main_v2]
  pointwise [k0_pay9, k0_pay8, k0_pay6, k0_pay5, k0_pay4, k0_pay3, k0_pay2]
  simp only [Fin.sum_univ_one]
  unfold guScale Cert.Bn.scale
  rfl

set_option maxHeartbeats 1000000 in
theorem beffAt_apply (c : Dev nD) (o : Fin 128) : beffAt m c (ix2 o 0)
    = (∑ k : Fin 256, guBias (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k
        * @id (FVec Ideal S128x256 .f32) (m ((c : Thread nD τ).loc main_arg7)) (ix2 o k)) + @id (FVec Ideal S128 .f32) (m ((c : Thread nD τ).loc main_arg8)) (ix1 o) := by
  unfold beffAt midBeff
  rw [blk_1, blk_2, blk_3, blk_4, blk_5, blk_6, blk_7, blk_8, blk_13, V_main_v3, V_main_v4, V_main_v5, V_main_v6, V_main_v7, V_main_v8, V_main_v2]
  pointwise [k0_pay10, k0_pay7, k0_pay6, k0_pay5, k0_pay4, k0_pay3, k0_pay2]
  simp only [Fin.sum_univ_one]
  unfold guBias guScale Cert.Bn.scale
  rfl

/-- A hidden entry of a block's row, of the folded weights and bias. -/
def hidE (x : Fin 128 → EReal) (w : Fin 128 → EReal) (b : EReal) : EReal := max ((∑ i : Fin 128, x i * w i) + b) 0

set_option maxHeartbeats 1000000 in
/-- A point adds its block's sum of hidden rows. -/
theorem pay22_apply (x : FVec Ideal S6144x128 .f32) (w : FVec Ideal S128x128 .f32) (b acc : FVec Ideal S1x128 .f32) (j : Fin 128) :
    k0_pay22 x w b acc (ix2 0 j) = acc (ix2 0 j) + ∑ r : Fin 6144, hidE (fun i => x (ix2 r i)) (fun i => w (ix2 i j)) (b (ix2 0 j)) := by
  pointwise [k0_pay22, k0_pay21]
  rfl

set_option maxHeartbeats 1000000 in
/-- A point adds its block's second moments of hidden rows. -/
theorem pay23_apply (x : FVec Ideal S6144x128 .f32) (w : FVec Ideal S128x128 .f32) (b : FVec Ideal S1x128 .f32) (acc : FVec Ideal S128x128 .f32) (i j : Fin 128) :
    k0_pay23 x w b acc (ix2 i j) = acc (ix2 i j) + ∑ r : Fin 6144, hidE (fun k => x (ix2 r k)) (fun k => w (ix2 k i)) (b (ix2 0 i)) * hidE (fun k => x (ix2 r k)) (fun k => w (ix2 k j)) (b (ix2 0 j)) := by
  pointwise [k0_pay23, k0_pay21]
  rfl

theorem pay19_apply (j : Fin 128) : k0_pay19 (F := Ideal) (ix2 0 j) = 0 := by
  pointwise [k0_pay19]

theorem pay20_apply (i j : Fin 128) : k0_pay20 (F := Ideal) (ix2 i j) = 0 := by
  pointwise [k0_pay20]

set_option maxHeartbeats 1000000 in
/-- An entry of the feature block: the folded layers applied to the mean of three rows. -/
theorem rnf_apply (x : FVec Ideal S6144x128 .f32) (w : FVec Ideal S128x128 .f32) (b : FVec Ideal S128x1 .f32) (o : Fin 128) (n : Fin 2048) (h : ∀ p : Fin 3, n.val * 3 + p.val < 6144) :
    midRnf x w b (ix3 0 o n)
      = (∑ j : Fin 128, w (ix2 j o) * ((x (ix2 ⟨n.val * 3 + 0, h 0⟩ j) + x (ix2 ⟨n.val * 3 + 1, h 1⟩ j) + x (ix2 ⟨n.val * 3 + 2, h 2⟩ j)) * ((1 / 3 : ℝ) : EReal))) + b (ix2 o 0) := by
  unfold midRnf
  pointwise [k0_pay1, k0_pay24, k0_pay25]
  rfl

end Cert.Kernel2Ideal.Hand

end
-- ==== Proof.MidRef.lean ====
module

public import proofs.«01_k».proof.Proof.Gen.Reference2Ideal.Run
public import Idealize.ShloMosaic.Lib.Pointwise
public import Idealize.ShloMosaic.Lib.Tactic.CleanTypes

@[expose] public section

set_option maxRecDepth 16384

noncomputable section

/-! The results of the reference for the second call, at an index. -/

namespace Cert.Reference2Ideal.Hand

open Cert.Reference2Ideal Cert.Reference2Ideal.Gen Cert.Reference2Ideal.Value
open Idealize.ShloMosaic Idealize.ShloMosaic.TcCoe

/-- The number of rows, as the reference's constant. -/
def rn : EReal := Ideal.ofBits FTy.f32 1186988032#32
/-- The mean of a column. -/
def meanE (z : Fin 24576 → EReal) : EReal := Ideal.div (∑ r, z r) rn
/-- The variance of a column. -/
def varE (z : Fin 24576 → EReal) : EReal :=
  if 0 < rn - FloatOps.sitofp (F := Ideal) FTy.f32 0#32 then Ideal.div (∑ r, (z r - meanE z) * (z r - meanE z)) (rn - FloatOps.sitofp (F := Ideal) FTy.f32 0#32)
  else id (constant (F := Ideal) S_ FTy.f32 2143289344#32) ix0
/-- The factor of a column. -/
def facE (z : Fin 24576 → EReal) (g : EReal) : EReal := Ideal.div g (Ideal.sqrt (varE z + Ideal.ofBits FTy.f32 925353388#32))
/-- A normalised entry of a column. -/
def bnE (z : Fin 24576 → EReal) (g be : EReal) (r : Fin 24576) : EReal :=
  Ideal.div (g * (z r - meanE z)) (Ideal.sqrt (varE z + Ideal.ofBits FTy.f32 925353388#32)) + be

/-- Entry `r` of a column of the relation layer before its normalisation. -/
def zr (X : FVec Ideal S24576x128 .f32) (W : FVec Ideal S128x128 .f32) (b : FVec Ideal S128 .f32) (k : Fin 128) (r : Fin 24576) : EReal :=
  (∑ i : Fin 128, X (ix2 r i) * W (ix2 k i)) + b (ix1 k)
/-- Entry `r` of a column of the feature branch before its normalisation. -/
def zg (X : FVec Ideal S24576x128 .f32) (W : FVec Ideal S256x128 .f32) (b : FVec Ideal S256 .f32) (k : Fin 256) (r : Fin 24576) : EReal :=
  (∑ i : Fin 128, X (ix2 r i) * W (ix2 k i)) + b (ix1 k)
/-- A hidden row entry. -/
def yr (X : FVec Ideal S24576x128 .f32) (W : FVec Ideal S128x128 .f32) (b g be : FVec Ideal S128 .f32) (k : Fin 128) (r : Fin 24576) : EReal :=
  max (bnE (zr X W b k) (g (ix1 k)) (be (ix1 k)) r) 0

/-- One entry of the feature branch: the second layer of the mean of three consecutive rows. -/
def featE (X : FVec Ideal S24576x128 .f32) (W : FVec Ideal S256x128 .f32) (b g be : FVec Ideal S256 .f32) (W1 : FVec Ideal S128x256 .f32) (b1 : FVec Ideal S128 .f32) (o : Fin 128) (row : Fin 3 → Fin 24576) : EReal :=
  (∑ k : Fin 256, Ideal.div (∑ p : Fin 3, bnE (zg X W b k) (g (ix1 k)) (be (ix1 k)) (row p)) (Ideal.ofBits FTy.f32 0x40400000#32) * W1 (ix2 o k)) + b1 (ix1 o)
/-- A folded weight of the relation layer. -/
def foldW (X : FVec Ideal S24576x128 .f32) (W : FVec Ideal S128x128 .f32) (b g be : FVec Ideal S128 .f32) (i j : Fin 128) : EReal :=
  W (ix2 j i) * facE (zr X W b j) (g (ix1 j))
/-- A folded bias of the relation layer. -/
def foldB (X : FVec Ideal S24576x128 .f32) (W : FVec Ideal S128x128 .f32) (b g be : FVec Ideal S128 .f32) (j : Fin 128) : EReal :=
  facE (zr X W b j) (g (ix1 j)) * b (ix1 j) + (be (ix1 j) - facE (zr X W b j) (g (ix1 j)) * meanE (zr X W b j))

variable (m : (ℓ : Loc nD τ sig) → Buf (Elt Ideal) ℓ)

set_option maxHeartbeats 2000000 in
theorem sum_apply (c : Dev nD) (j : Fin 128) :
    res_out0 m c (ix2 0 j)
      = ∑ r : Fin 24576, yr (m ((c : Thread nD τ).loc main_arg0)) (m ((c : Thread nD τ).loc main_arg9)) (m ((c : Thread nD τ).loc main_arg10)) (m ((c : Thread nD τ).loc main_arg11)) (m ((c : Thread nD τ).loc main_arg12)) j r := by
  unfold res_out0 res_main_v65
  clean_types
  pointwise
  rfl

set_option maxHeartbeats 2000000 in
theorem gram_apply (c : Dev nD) (i j : Fin 128) :
    res_out1 m c (ix2 i j)
      = ∑ r : Fin 24576, yr (m ((c : Thread nD τ).loc main_arg0)) (m ((c : Thread nD τ).loc main_arg9)) (m ((c : Thread nD τ).loc main_arg10)) (m ((c : Thread nD τ).loc main_arg11)) (m ((c : Thread nD τ).loc main_arg12)) i r
        * yr (m ((c : Thread nD τ).loc main_arg0)) (m ((c : Thread nD τ).loc main_arg9)) (m ((c : Thread nD τ).loc main_arg10)) (m ((c : Thread nD τ).loc main_arg11)) (m ((c : Thread nD τ).loc main_arg12)) j r := by
  unfold res_out1 res_main_v66
  clean_types
  pointwise
  rfl

set_option maxHeartbeats 2000000 in
theorem feat_apply (c : Dev nD) (b : Fin 4) (o : Fin 128) (n : Fin 2048) (h : ∀ p : Fin 3, b.val * 6144 + n.val * 3 + p.val < 24576) :
    res_out2 m c (ix3 b o n)
      = featE (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) o (fun p => ⟨b.val * 6144 + n.val * 3 + p.val, h p⟩) := by
  unfold res_out2 res_main_v30
  clean_types
  pointwise
  rfl

set_option maxHeartbeats 2000000 in
theorem bias_apply (c : Dev nD) (j : Fin 128) :
    res_out4 m c (ix2 0 j)
      = foldB (m ((c : Thread nD τ).loc main_arg0)) (m ((c : Thread nD τ).loc main_arg9)) (m ((c : Thread nD τ).loc main_arg10)) (m ((c : Thread nD τ).loc main_arg11)) (m ((c : Thread nD τ).loc main_arg12)) j := by
  unfold res_out4 res_main_v73
  clean_types
  pointwise
  rfl

/-- The folded weights as the reference writes them. -/
def resW {F : FTy → Type} [FloatOps F] (m : (ℓ : Loc nD τ sig) → Buf (Elt F) ℓ) (c : Dev nD) : FVec F S128x128 .f32 :=
  mulf (transpose S128x128 [1, 0] (m ((c.tc : Thread nD τ).loc main_arg9)) transposes_S128x128_S128x128_1_0) (broadcastInDim S128x128 ![0, 1] bcast_S1x128_S128x128_0_1 (broadcastInDim S1x128 ![1] bcast_S128_S1x128_1 (Host.divf (m ((c.tc : Thread nD τ).loc main_arg11)) (Host.sqrt (addf (select (broadcastInDim S128 ![] bcast_S_S128 (cmpf .ogt (subf (constant S_ .f32 0x46C00000#32) (sitofp .f32 (constantI S_ 32 0#32)) : (⟨S_, .f32⟩ : BufTy).Contents (Elt F)) (constant S_ .f32 0x00000000#32))) (Host.divf (Host.reduceAdd (mulf (subf (addf (Host.dotGeneral dot_S24576x128_S128x128_S24576x128_1_1_0_0_n_n none (m ((c.tc : Thread nD τ).loc main_arg0)) (m ((c.tc : Thread nD τ).loc main_arg9))) (broadcastInDim S24576x128 ![0, 1] bcast_S1x128_S24576x128_0_1 (broadcastInDim S1x128 ![1] bcast_S128_S1x128_1 (m ((c.tc : Thread nD τ).loc main_arg10))))) (broadcastInDim S24576x128 ![0, 1] bcast_S1x128_S24576x128_0_1 (Host.divf (broadcastInDim S1x128 ![1] bcast_S128_S1x128_1 (Host.reduceAdd (addf (Host.dotGeneral dot_S24576x128_S128x128_S24576x128_1_1_0_0_n_n none (m ((c.tc : Thread nD τ).loc main_arg0)) (m ((c.tc : Thread nD τ).loc main_arg9))) (broadcastInDim S24576x128 ![0, 1] bcast_S1x128_S24576x128_0_1 (broadcastInDim S1x128 ![1] bcast_S128_S1x128_1 (m ((c.tc : Thread nD τ).loc main_arg10))))) (constant S_ .f32 0x00000000#32) reducesTo_S24576x128_S128_d0 h_S_)) (broadcastInDim S1x128 ![] bcast_S_S1x128 (constant S_ .f32 0x46C00000#32))))) (subf (addf (Host.dotGeneral dot_S24576x128_S128x128_S24576x128_1_1_0_0_n_n none (m ((c.tc : Thread nD τ).loc main_arg0)) (m ((c.tc : Thread nD τ).loc main_arg9))) (broadcastInDim S24576x128 ![0, 1] bcast_S1x128_S24576x128_0_1 (broadcastInDim S1x128 ![1] bcast_S128_S1x128_1 (m ((c.tc : Thread nD τ).loc main_arg10))))) (broadcastInDim S24576x128 ![0, 1] bcast_S1x128_S24576x128_0_1 (Host.divf (broadcastInDim S1x128 ![1] bcast_S128_S1x128_1 (Host.reduceAdd (addf (Host.dotGeneral dot_S24576x128_S128x128_S24576x128_1_1_0_0_n_n none (m ((c.tc : Thread nD τ).loc main_arg0)) (m ((c.tc : Thread nD τ).loc main_arg9))) (broadcastInDim S24576x128 ![0, 1] bcast_S1x128_S24576x128_0_1 (broadcastInDim S1x128 ![1] bcast_S128_S1x128_1 (m ((c.tc : Thread nD τ).loc main_arg10))))) (constant S_ .f32 0x00000000#32) reducesTo_S24576x128_S128_d0 h_S_)) (broadcastInDim S1x128 ![] bcast_S_S1x128 (constant S_ .f32 0x46C00000#32)))))) (constant S_ .f32 0x00000000#32) reducesTo_S24576x128_S128_d0 h_S_) (broadcastInDim S128 ![] bcast_S_S128 (subf (constant S_ .f32 0x46C00000#32) (sitofp .f32 (constantI S_ 32 0#32))))) (broadcastInDim S128 ![] bcast_S_S128 (id (constant S_ .f32 0x7FC00000#32)))) (broadcastInDim S128 ![] bcast_S_S128 (constant S_ .f32 0x3727C5AC#32)))))))

set_option maxHeartbeats 2000000 in
theorem weight_apply (c : Dev nD) (i j : Fin 128) :
    resW m c (ix2 i j)
      = foldW (m ((c : Thread nD τ).loc main_arg0)) (m ((c : Thread nD τ).loc main_arg9)) (m ((c : Thread nD τ).loc main_arg10)) (m ((c : Thread nD τ).loc main_arg11)) (m ((c : Thread nD τ).loc main_arg12)) i j := by
  unfold resW
  clean_types
  pointwise
  rfl

end Cert.Reference2Ideal.Hand

end
-- ==== Proof.MidAlg.lean ====
module

public import proofs.«01_k».proof.Proof.MidRef
public import proofs.«01_k».proof.Proof.Algebra
public import proofs.«01_k».proof.Proof.Consts

@[expose] public section

set_option maxRecDepth 16384

noncomputable section

namespace Cert.MidAlg

open Idealize.ShloMosaic Cert.Reference2Ideal.Hand

/-! The folded forms are the reference's normalised ones, for real rows. -/

theorem rows : ((24576 : ℕ) : ℝ) = 24576 := by norm_num
theorem rows_gt : (0 : ℝ) < 24576 := by norm_num

/-- The affine image of the rows, as extended reals. -/
def col (x : Fin 24576 → Fin 128 → ℝ) (w : Fin 128 → ℝ) (b : ℝ) (r : Fin 24576) : EReal := (∑ j, (x r j : EReal) * (w j : EReal)) + (b : EReal)

theorem col_real (x : Fin 24576 → Fin 128 → ℝ) (w : Fin 128 → ℝ) (b : ℝ) (r : Fin 24576) : col x w b r = (Cert.Bn.aff x w b r : EReal) := by
  unfold col Cert.Bn.aff
  simp only [← EReal.coe_mul, ← Cert.Bn.coe_sum, ← EReal.coe_add]

/-- The scale of a unit, as folded from the sum and the second moments of the rows. -/
def sc (x : Fin 24576 → Fin 128 → ℝ) (w : Fin 128 → ℝ) (q : ℝ) : EReal :=
  Cert.Bn.scale (q : EReal) (fun j => (w j : EReal)) (fun j => ∑ r, (x r j : EReal)) (fun i j => ∑ r, (x r i : EReal) * (x r j : EReal)) ((1 / 24576 : ℝ) : EReal) (Cert.Consts.eps : EReal)

theorem sc_real (x : Fin 24576 → Fin 128 → ℝ) (w : Fin 128 → ℝ) (b q : ℝ) : sc x w q = ((q / Real.sqrt (Cert.Bn.var 24576 (Cert.Bn.aff x w b) + Cert.Consts.eps) : ℝ) : EReal) :=
  Cert.Bn.scale_eq rows_gt rows Cert.Consts.eps_pos x w b q

theorem meanE_real (z : Fin 24576 → ℝ) : meanE (fun r => (z r : EReal)) = (Cert.Bn.mean 24576 z : EReal) := by
  unfold meanE Cert.Bn.mean
  rw [show rn = ((24576 : ℝ) : EReal) from Cert.Consts.rows_word, ← Cert.Bn.coe_sum, Cert.Bn.div_real _ rows_gt.ne']

theorem varE_real (z : Fin 24576 → ℝ) : varE (fun r => (z r : EReal)) = (Cert.Bn.var 24576 z : EReal) := by
  unfold varE Cert.Bn.var
  have hpos : (0 : EReal) < rn - FloatOps.sitofp (F := Ideal) FTy.f32 0#32 := Cert.Consts.rows_pos
  rw [if_pos hpos, show rn - FloatOps.sitofp (F := Ideal) FTy.f32 0#32 = ((24576 : ℝ) : EReal) from Cert.Consts.rows_sub, meanE_real]
  simp only [← EReal.coe_sub, ← EReal.coe_mul, ← Cert.Bn.coe_sum]
  rw [Cert.Bn.div_real _ rows_gt.ne']

theorem col_fun (x : Fin 24576 → Fin 128 → ℝ) (w : Fin 128 → ℝ) (b : ℝ) : col x w b = fun r => (Cert.Bn.aff x w b r : EReal) := funext (col_real x w b)

/-- The scale is the reference's factor. -/
theorem sc_fac (x : Fin 24576 → Fin 128 → ℝ) (w : Fin 128 → ℝ) (b q : ℝ) : facE (col x w b) (q : EReal) = sc x w q := by
  have hv := Cert.Bn.var_nonneg rows_gt (Cert.Bn.aff x w b)
  have hp := add_pos_of_nonneg_of_pos hv Cert.Consts.eps_pos
  rw [sc_real x w b q, col_fun]
  unfold facE
  rw [varE_real, Cert.Consts.eps_word, ← EReal.coe_add, Cert.Bn.sqrt_real hp.le, Cert.Bn.div_real _ (Real.sqrt_pos.mpr hp).ne']

/-- The mean of the affine image is the affine image of the mean. -/
theorem mean_col (x : Fin 24576 → Fin 128 → ℝ) (w : Fin 128 → ℝ) (b : ℝ) :
    meanE (col x w b) = (∑ i, (∑ r, (x r i : EReal)) * ((1 / 24576 : ℝ) : EReal) * (w i : EReal)) + (b : EReal) := by
  rw [col_fun, meanE_real, Cert.Bn.mean_aff rows_gt.ne' rows x w b]
  simp only [← EReal.coe_mul, ← Cert.Bn.coe_sum, ← EReal.coe_add]

/-- The folded bias of a unit. -/
def bi (x : Fin 24576 → Fin 128 → ℝ) (w : Fin 128 → ℝ) (b q : ℝ) (β : EReal) : EReal :=
  sc x w q * (b : EReal) + (β - sc x w q * ((∑ i, (∑ r, (x r i : EReal)) * ((1 / 24576 : ℝ) : EReal) * (w i : EReal)) + (b : EReal)))

/-- The scaled weights and the folded bias give the normalised row. -/
theorem bn_fold (x : Fin 24576 → Fin 128 → ℝ) (w : Fin 128 → ℝ) (b q : ℝ) (β : EReal) (r : Fin 24576) :
    (∑ j, (x r j : EReal) * ((w j : EReal) * sc x w q)) + bi x w b q β = bnE (col x w b) (q : EReal) β r := by
  have e := Cert.Bn.fold_eq rows_gt rows Cert.Consts.eps_pos x w b q β r _ (sc_real x w b q)
  unfold bi
  refine e.trans ?_
  unfold bnE varE meanE
  have hpos : (0 : EReal) < rn - FloatOps.sitofp (F := Ideal) FTy.f32 0#32 := Cert.Consts.rows_pos
  rw [if_pos hpos, show rn - FloatOps.sitofp (F := Ideal) FTy.f32 0#32 = ((24576 : ℝ) : EReal) from Cert.Consts.rows_sub, show rn = ((24576 : ℝ) : EReal) from Cert.Consts.rows_word, Cert.Consts.eps_word]
  rfl

/-- A real scale. -/
def scR (x : Fin 24576 → Fin 128 → ℝ) (w : Fin 128 → ℝ) (b q : ℝ) : ℝ := q / Real.sqrt (Cert.Bn.var 24576 (Cert.Bn.aff x w b) + Cert.Consts.eps)

/-- With a real shift the folded bias is real. -/
theorem bi_real (x : Fin 24576 → Fin 128 → ℝ) (w : Fin 128 → ℝ) (b q β : ℝ) : ∃ s : ℝ, bi x w b q (β : EReal) = (s : EReal) := by
  refine ⟨scR x w b q * b + (β - scR x w b q * ((∑ i, (∑ r, x r i) * (1 / 24576) * w i) + b)), ?_⟩
  unfold bi
  rw [sc_real x w b q]
  simp only [← EReal.coe_mul, ← Cert.Bn.coe_sum, ← EReal.coe_add, ← EReal.coe_sub]
  rfl

theorem three_word : Ideal.ofBits FTy.f32 0x40400000#32 = ((3 : ℝ) : EReal) := by
  simp [Ideal.ofBits, Ideal.ieee, -EReal.coe_mul]
  norm_num

/-- Both layers of the feature branch on the mean of three rows: folded weights and bias against normalised rows. -/
theorem feat_fold {K : ℕ} (x : Fin 24576 → Fin 128 → ℝ) (w : Fin K → Fin 128 → ℝ) (b q β v : Fin K → ℝ) (d : EReal) (row : Fin 3 → Fin 24576) :
    (∑ j : Fin 128, (∑ k, ((w k j : EReal) * sc x (w k) (q k)) * (v k : EReal)) * (((x (row 0) j : EReal) + (x (row 1) j : EReal) + (x (row 2) j : EReal)) * ((1 / 3 : ℝ) : EReal)))
        + ((∑ k, bi x (w k) (b k) (q k) (β k : EReal) * (v k : EReal)) + d)
      = (∑ k, Ideal.div (∑ p : Fin 3, bnE (col x (w k) (b k)) (q k : EReal) (β k : EReal) (row p)) (Ideal.ofBits FTy.f32 0x40400000#32) * (v k : EReal)) + d := by
  rw [three_word, ← add_assoc]
  congr 1
  have hs : ∀ k, ∃ s : ℝ, bi x (w k) (b k) (q k) (β k : EReal) = (s : EReal) := fun k => bi_real x (w k) (b k) (q k) (β k)
  choose s hs using hs
  simp only [← bn_fold, hs]
  have ha : ∀ k, sc x (w k) (q k) = (scR x (w k) (b k) (q k) : EReal) := fun k => sc_real x (w k) (b k) (q k)
  generalize scR x = a at ha
  simp only [ha, ← EReal.coe_mul, ← Cert.Bn.coe_sum, ← EReal.coe_add]
  simp only [Cert.Bn.div_real _ (three_ne_zero' ℝ), ← EReal.coe_mul, ← Cert.Bn.coe_sum]
  congr 1
  simp only [Fin.sum_univ_three]
  have h1 : ∀ k, ((∑ j, x (row 0) j * (w k j * a (w k) (b k) (q k)) + s k) + (∑ j, x (row 1) j * (w k j * a (w k) (b k) (q k)) + s k) + (∑ j, x (row 2) j * (w k j * a (w k) (b k) (q k)) + s k)) / 3 * v k
      = (∑ j, w k j * a (w k) (b k) (q k) * v k * ((x (row 0) j + x (row 1) j + x (row 2) j) * (1 / 3))) + s k * v k := by
    intro k
    have : ∀ j, w k j * a (w k) (b k) (q k) * v k * ((x (row 0) j + x (row 1) j + x (row 2) j) * (1 / 3))
        = (v k / 3) * (x (row 0) j * (w k j * a (w k) (b k) (q k))) + (v k / 3) * (x (row 1) j * (w k j * a (w k) (b k) (q k))) + (v k / 3) * (x (row 2) j * (w k j * a (w k) (b k) (q k))) := fun j => by ring
    simp only [this, Finset.sum_add_distrib, ← Finset.mul_sum]
    ring
  simp only [h1, Finset.sum_add_distrib, Finset.sum_mul]
  congr 1
  exact Finset.sum_comm

/-- A sum over all rows, block by block. -/
theorem sum_blocks {R : Type} [AddCommMonoid R] (f : Fin 24576 → R) :
    0 + (∑ r : Fin 6144, f ⟨0 * 6144 + r.val, by omega⟩) + (∑ r : Fin 6144, f ⟨1 * 6144 + r.val, by omega⟩) + (∑ r : Fin 6144, f ⟨2 * 6144 + r.val, by omega⟩) + (∑ r : Fin 6144, f ⟨3 * 6144 + r.val, by omega⟩)
      = ∑ r, f r := by
  rw [← Equiv.sum_comp (finProdFinEquiv (m := 4) (n := 6144)) f, Fintype.sum_prod_type, Fin.sum_univ_four, zero_add]
  have e : ∀ (t : Fin 4) (r : Fin 6144) (h : t.val * 6144 + r.val < 24576), f (finProdFinEquiv (t, r)) = f ⟨t.val * 6144 + r.val, h⟩ := fun t r h => by
    congr 1; apply Fin.ext; show r.val + 6144 * t.val = t.val * 6144 + r.val; omega
  have e0 : ∀ r : Fin 6144, f (finProdFinEquiv ((0 : Fin 4), r)) = f ⟨0 * 6144 + r.val, by omega⟩ := fun r => e 0 r _
  have e1 : ∀ r : Fin 6144, f (finProdFinEquiv ((1 : Fin 4), r)) = f ⟨1 * 6144 + r.val, by omega⟩ := fun r => e 1 r _
  have e2 : ∀ r : Fin 6144, f (finProdFinEquiv ((2 : Fin 4), r)) = f ⟨2 * 6144 + r.val, by omega⟩ := fun r => e 2 r _
  have e3 : ∀ r : Fin 6144, f (finProdFinEquiv ((3 : Fin 4), r)) = f ⟨3 * 6144 + r.val, by omega⟩ := fun r => e 3 r _
  simp only [e0, e1, e2, e3]

end Cert.MidAlg

end
-- ==== Proof.MidVal.lean ====
module

public import proofs.«01_k».proof.Proof.MidEnt
public import proofs.«01_k».proof.Proof.MidAlg

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem

/-! The result arrays of the second call. -/

section
variable {F : FTy → Type} [FloatOps F] [Named F]
variable (m : (ℓ : Loc nD τ sig) → Buf (Elt F) ℓ) (ρ : Dev nD → PrngReg)

/-- The array of the sums of hidden rows. -/
def resSum (c : Dev nD) : Vec F S1x128 .f32 := muAt m c 3 (by decide)
/-- The array of their second moments. -/
def resGram (c : Dev nD) : Vec F S128x128 .f32 := gramAt m c 3 (by decide)
/-- The feature array. -/
def resFeat (c : Dev nD) : Vec F S4x128x2048 .f32 := (dats m 0 c).arrAt 16 cfg0.N

/-- The run leaves these arrays and the folded weights and bias, and the arguments unchanged. -/
theorem run : θ_run defs (onTc (τ := τ) (main (F := F))) ⟨m, fun _ => 0, ρ⟩ fun r => ∀ c : Dev nD,
      r.2.mem ((c.tc : Thread nD τ).loc main_v13_0) = resSum m c
      ∧ r.2.mem ((c.tc : Thread nD τ).loc main_v13_1) = resGram m c
      ∧ r.2.mem ((c.tc : Thread nD τ).loc main_v13_2) = resFeat m c
      ∧ r.2.mem ((c.tc : Thread nD τ).loc main_v13_3) = w2oAt m c
      ∧ r.2.mem ((c.tc : Thread nD τ).loc main_v13_4) = b2oAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h.1 c).1 14).trans (arr_14 m c), ((h.1 c).1 15).trans (arr_15 m c), (h.1 c).1 16, ((h.1 c).1 17).trans (arr_17 m c), ((h.1 c).1 18).trans (arr_18 m c), h.2.1 c⟩)
    (θ_run_and (run_main m ρ) (frame m ρ))

end

/-- The blocks of the rows: block `t` holds rows `6144 t` onwards. -/
def Blocks (x : Fin 4 → FVec Ideal S6144x128 .f32) (X : FVec Ideal S24576x128 .f32) : Prop :=
  ∀ (t : Fin 4) (r : Fin 6144) (i : Fin 128) (h : t.val * 6144 + r.val < 24576), x t (ix2 r i) = X (ix2 ⟨t.val * 6144 + r.val, h⟩ i)

theorem hid_block {x : Fin 4 → FVec Ideal S6144x128 .f32} {X : FVec Ideal S24576x128 .f32} (hx : Blocks x X) (w : Fin 128 → EReal) (b : EReal) (t : Fin 4) (r : Fin 6144)
    (h : t.val * 6144 + r.val < 24576) : hidE (fun i => x t (ix2 r i)) w b = hidE (fun i => X (ix2 ⟨t.val * 6144 + r.val, h⟩ i)) w b :=
  congrArg (fun f => hidE f w b) (funext fun i => hx t r i h)

/-- Four points' sums make the sum over all rows. -/
theorem sum_points {x : Fin 4 → FVec Ideal S6144x128 .f32} {X : FVec Ideal S24576x128 .f32} (hx : Blocks x X) (w : FVec Ideal S128x128 .f32) (b : FVec Ideal S1x128 .f32) (j : Fin 128) :
    k0_pay22 (F := Ideal) (x 3) w b (k0_pay22 (F := Ideal) (x 2) w b (k0_pay22 (F := Ideal) (x 1) w b (k0_pay22 (F := Ideal) (x 0) w b (k0_pay19 (F := Ideal))))) (ix2 0 j)
      = ∑ r : Fin 24576, hidE (fun i => X (ix2 r i)) (fun i => w (ix2 i j)) (b (ix2 0 j)) := by
  rw [pay22_apply, pay22_apply, pay22_apply, pay22_apply, pay19_apply, ← Cert.MidAlg.sum_blocks]
  have hb := fun (t : Fin 4) (r : Fin 6144) (h : t.val * 6144 + r.val < 24576) => hid_block hx (fun i => w (ix2 i j)) (b (ix2 0 j)) t r h
  refine congrArg₂ (· + ·) (congrArg₂ (· + ·) (congrArg₂ (· + ·) (congrArg (0 + ·) ?_) ?_) ?_) ?_
  · exact Finset.sum_congr rfl fun r _ => hb 0 r _
  · exact Finset.sum_congr rfl fun r _ => hb 1 r _
  · exact Finset.sum_congr rfl fun r _ => hb 2 r _
  · exact Finset.sum_congr rfl fun r _ => hb 3 r _

/-- Four points' second moments make those over all rows. -/
theorem gram_points {x : Fin 4 → FVec Ideal S6144x128 .f32} {X : FVec Ideal S24576x128 .f32} (hx : Blocks x X) (w : FVec Ideal S128x128 .f32) (b : FVec Ideal S1x128 .f32) (i j : Fin 128) :
    k0_pay23 (F := Ideal) (x 3) w b (k0_pay23 (F := Ideal) (x 2) w b (k0_pay23 (F := Ideal) (x 1) w b (k0_pay23 (F := Ideal) (x 0) w b (k0_pay20 (F := Ideal))))) (ix2 i j)
      = ∑ r : Fin 24576, hidE (fun k => X (ix2 r k)) (fun k => w (ix2 k i)) (b (ix2 0 i)) * hidE (fun k => X (ix2 r k)) (fun k => w (ix2 k j)) (b (ix2 0 j)) := by
  rw [pay23_apply, pay23_apply, pay23_apply, pay23_apply, pay20_apply, ← Cert.MidAlg.sum_blocks]
  have hb := fun (j : Fin 128) (t : Fin 4) (r : Fin 6144) (h : t.val * 6144 + r.val < 24576) => hid_block hx (fun i => w (ix2 i j)) (b (ix2 0 j)) t r h
  refine congrArg₂ (· + ·) (congrArg₂ (· + ·) (congrArg₂ (· + ·) (congrArg (0 + ·) ?_) ?_) ?_) ?_
  · exact Finset.sum_congr rfl fun r _ => congrArg₂ (· * ·) (hb i 0 r _) (hb j 0 r _)
  · exact Finset.sum_congr rfl fun r _ => congrArg₂ (· * ·) (hb i 1 r _) (hb j 1 r _)
  · exact Finset.sum_congr rfl fun r _ => congrArg₂ (· * ·) (hb i 2 r _) (hb j 2 r _)
  · exact Finset.sum_congr rfl fun r _ => congrArg₂ (· * ·) (hb i 3 r _) (hb j 3 r _)

/-- An entry of the feature array: the folded layers applied to the mean of three rows of the argument. -/
def featAt (X : FVec Ideal S24576x128 .f32) (w : FVec Ideal S128x128 .f32) (b : FVec Ideal S128x1 .f32) (o : Fin 128) (row : Fin 3 → Fin 24576) : EReal :=
  (∑ j : Fin 128, w (ix2 j o) * ((X (ix2 (row 0) j) + X (ix2 (row 1) j) + X (ix2 (row 2) j)) * ((1 / 3 : ℝ) : EReal))) + b (ix2 o 0)

theorem feat_point {x : Fin 4 → FVec Ideal S6144x128 .f32} {X : FVec Ideal S24576x128 .f32} (hx : Blocks x X) (w : FVec Ideal S128x128 .f32) (bf : FVec Ideal S128x1 .f32)
    (b : Fin 4) (o : Fin 128) (n : Fin 2048) (h : ∀ p : Fin 3, b.val * 6144 + n.val * 3 + p.val < 24576) :
    midRnf (F := Ideal) (x b) w bf (ix3 0 o n) = featAt X w bf o (fun p => ⟨b.val * 6144 + n.val * 3 + p.val, h p⟩) := by
  have hn : ∀ p : Fin 3, n.val * 3 + p.val < 6144 := fun p => by omega
  rw [rnf_apply _ _ _ o n hn]
  unfold featAt
  have q : ∀ (p : Fin 3) (j : Fin 128), x b (ix2 ⟨n.val * 3 + p.val, hn p⟩ j) = X (ix2 ⟨b.val * 6144 + n.val * 3 + p.val, h p⟩ j) := fun p j => by
    have hp : b.val * 6144 + (n.val * 3 + p.val) < 24576 := Nat.add_assoc _ _ _ ▸ h p
    refine (hx b ⟨n.val * 3 + p.val, hn p⟩ j hp).trans ?_
    exact congrArg (fun r => X (ix2 r j)) (Fin.ext (Nat.add_assoc _ _ _).symm)
  refine congrArg (· + _) (Finset.sum_congr rfl fun j _ => congrArg (fun z => w (ix2 j o) * (z * ((1 / 3 : ℝ) : EReal))) ?_)
  exact congrArg₂ (· + ·) (congrArg₂ (· + ·) (q 0 j) (q 1 j)) (q 2 j)

variable (m : (ℓ : Loc nD τ sig) → Buf (Elt Ideal) ℓ)

/-- The four blocks the points read. -/
def blk (c : Dev nD) (t : Fin 4) : FVec Ideal S6144x128 .f32 := iblk m c 0 ⟨t.val, lt_of_lt_of_eq t.isLt N_0.symm⟩

theorem blk_blocks (c : Dev nD) : Blocks (blk m c) (m ((c : Thread nD τ).loc main_arg0)) :=
  fun t r i h => blk_0 m c ⟨t.val, lt_of_lt_of_eq t.isLt N_0.symm⟩ r i h

/-- The sums are over all rows. -/
theorem resSum_apply (c : Dev nD) (j : Fin 128) : resSum m c (ix2 0 j)
    = ∑ r : Fin 24576, hidE (fun i => @id (FVec Ideal S24576x128 .f32) (m ((c : Thread nD τ).loc main_arg0)) (ix2 r i)) (fun i => w2At m c (ix2 i j)) (b2At m c (ix2 0 j)) :=
  sum_points (blk_blocks m c) (w2At m c) (b2At m c) j

/-- The second moments are over all rows. -/
theorem resGram_apply (c : Dev nD) (i j : Fin 128) : resGram m c (ix2 i j)
    = ∑ r : Fin 24576, hidE (fun k => @id (FVec Ideal S24576x128 .f32) (m ((c : Thread nD τ).loc main_arg0)) (ix2 r k)) (fun k => w2At m c (ix2 k i)) (b2At m c (ix2 0 i))
      * hidE (fun k => @id (FVec Ideal S24576x128 .f32) (m ((c : Thread nD τ).loc main_arg0)) (ix2 r k)) (fun k => w2At m c (ix2 k j)) (b2At m c (ix2 0 j)) :=
  gram_points (blk_blocks m c) (w2At m c) (b2At m c) i j

theorem resFeat_apply (c : Dev nD) (b : Fin 4) (o : Fin 128) (n : Fin 2048) (h : ∀ p : Fin 3, b.val * 6144 + n.val * 3 + p.val < 24576) :
    resFeat m c (ix3 b o n) = featAt (m ((c : Thread nD τ).loc main_arg0)) (weffAt m c) (beffAt m c) o (fun p => ⟨b.val * 6144 + n.val * 3 + p.val, h p⟩) :=
  (arr_16 m c ⟨b.val, lt_of_lt_of_eq b.isLt N_0.symm⟩ b rfl o n).trans (feat_point (blk_blocks m c) (weffAt m c) (beffAt m c) b o n h)

end Cert.Kernel2Ideal.Hand

end
-- ==== Proof.MidPre.lean ====
module

public import proofs.«01_k».proof.Proof.OutPre
public import proofs.«01_k».proof.Proof.Gen.Pre_mid_pre

@[expose] public section

set_option maxRecDepth 16384

noncomputable section

/-! What the precondition of the second call says: nine arguments are finite, and the two statistics are the sum and
the Gram matrix of the rows. -/

namespace Cert.MidPre

open Cert.Pre_mid_pre Cert.Pre_mid_pre.Facts Idealize.ShloMosaic Cert.OutPre

variable [Cert.Pre_mid_pre.Facts]

/-- `isfinite` holding everywhere of an argument makes each of its entries a real number. -/
theorem real_of_all' {s : Shape} {axes : List (Fin s.rank)} (x : FVec Ideal s .f32) (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32))) (constantI S_ 1 1#1) hr hu ix0 = 1#1) (i : s.Idx) :
    ∃ r : ℝ, x i = (r : EReal) := by
  have h := Host.reduce_andi_all _ _ _ _ _ e i
  have h' : max (x i) (-(x i)) < Ideal.ofBits .f32 0x7F800000#32 := bit_lt h
  rw [ofBits_inf] at h'
  exact real_of_abs_lt h'

set_option maxHeartbeats 1000000 in
/-- The precondition, spelled out. -/
theorem facts_of_pre {X : FVec Ideal S24576x128 .f32} {mu : FVec Ideal S1x128 .f32} {S : FVec Ideal S128x128 .f32} {Wg : FVec Ideal S256x128 .f32} {bg gg beg : FVec Ideal S256 .f32}
    {W1 : FVec Ideal S128x256 .f32} {b1 : FVec Ideal S128 .f32} {W : FVec Ideal S128x128 .f32} {b g be : FVec Ideal S128 .f32}
    (h : Cert.Pre_mid_pre.fn (F := Ideal) X mu S Wg bg gg beg W1 b1 W b g be = fun _ => 1#1) :
    (∀ i, ∃ r : ℝ, X i = (r : EReal)) ∧ (∀ i, ∃ r : ℝ, Wg i = (r : EReal)) ∧ (∀ i, ∃ r : ℝ, bg i = (r : EReal)) ∧ (∀ i, ∃ r : ℝ, gg i = (r : EReal)) ∧ (∀ i, ∃ r : ℝ, beg i = (r : EReal))
      ∧ (∀ i, ∃ r : ℝ, W1 i = (r : EReal)) ∧ (∀ i, ∃ r : ℝ, W i = (r : EReal)) ∧ (∀ i, ∃ r : ℝ, b i = (r : EReal)) ∧ (∀ i, ∃ r : ℝ, g i = (r : EReal))
      ∧ (∀ j, mu (ix2 0 j) = ∑ r : Fin 24576, X (ix2 r j))
      ∧ (∀ i j, S (ix2 i j) = ∑ r : Fin 24576, X (ix2 r i) * X (ix2 r j)) := by
  have h0 := congrFun h ix0
  unfold Cert.Pre_mid_pre.fn Cert.Pre_mid_pre.fn_part1 Cert.Pre_mid_pre.fn_part2 at h0
  obtain ⟨h0, hS⟩ := IntOp.andi_eq_one.1 h0
  obtain ⟨h0, hmu⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  refine ⟨real_of_all' _ _ _ _ h1, real_of_all' _ _ _ _ h2, real_of_all' _ _ _ _ h3, real_of_all' _ _ _ _ h4, real_of_all' _ _ _ _ h5, real_of_all' _ _ _ _ h6,
    real_of_all' _ _ _ _ h7, real_of_all' _ _ _ _ h8, real_of_all' _ _ _ _ h9, fun j => ?_, fun i j => ?_⟩
  · have e := bit_eq (Host.reduce_andi_all _ _ _ _ _ hmu (ix2 0 j))
    rw [e]
    pointwise
  · have e := bit_eq (Host.reduce_andi_all _ _ _ _ _ hS (ix2 i j))
    rw [e]
    pointwise

end Cert.MidPre

end
-- ==== Proof.MidEq.lean ====
module

public import proofs.«01_k».proof.Proof.MidVal
public import proofs.«01_k».proof.Proof.MidPre

@[expose] public section

set_option maxRecDepth 16384

noncomputable section

namespace Cert.MidEq

open Idealize.ShloMosaic Idealize.ShloMosaic.TcCoe Cert.Kernel2Ideal.Hand Cert.Reference2Ideal.Hand Cert.MidAlg
open Cert.Kernel2Ideal (S24576x128 S128x128 S1x128 S128 S256x128 S256 S128x256 S128x1)

/-! Under the precondition, the results of the second call are the reference's. -/

theorem mI_real : mI = ((1 / 24576 : ℝ) : EReal) := Cert.Consts.rows_inv
theorem eI_real : eI = (Cert.Consts.eps : EReal) := Cert.Consts.eps_word

variable [Cert.Pre_mid_pre.Facts]
variable {X : FVec Ideal S24576x128 .f32} {mu : FVec Ideal S1x128 .f32} {S : FVec Ideal S128x128 .f32} {Wg : FVec Ideal S256x128 .f32} {bg gg beg : FVec Ideal S256 .f32}
  {W1 : FVec Ideal S128x256 .f32} {b1 : FVec Ideal S128 .f32} {W : FVec Ideal S128x128 .f32} {b g be : FVec Ideal S128 .f32}

/-- The relation layer's column, its scale and its folded bias in terms of real rows and weights. -/
theorem rel_real (h : Cert.Pre_mid_pre.fn (F := Ideal) X mu S Wg bg gg beg W1 b1 W b g be = fun _ => 1#1) :
    ∃ (x : Fin 24576 → Fin 128 → ℝ) (w : Fin 128 → Fin 128 → ℝ) (c q : Fin 128 → ℝ), (∀ r i, X (ix2 r i) = (x r i : EReal)) ∧ (∀ k i, W (ix2 k i) = (w k i : EReal))
      ∧ (∀ k, b (ix1 k) = (c k : EReal)) ∧ (∀ k, g (ix1 k) = (q k : EReal)) ∧ (∀ k, zr X W b k = col x (w k) (c k)) ∧ (∀ k, relScale mu S W g k = sc x (w k) (q k))
      ∧ (∀ k, relBias mu S W b g be k = bi x (w k) (c k) (q k) (be (ix1 k))) := by
  obtain ⟨hX, hWg, hbg, hgg, hbeg, hW1, hW, hb, hg, hmu, hS⟩ := Cert.MidPre.facts_of_pre h
  choose x hx using hX
  choose w hw using hW
  choose c hc using hb
  choose q hq using hg
  have hs : ∀ k, relScale mu S W g k = sc (fun r i => x (ix2 r i)) (fun i => w (ix2 k i)) (q (ix1 k)) := fun k => by
    unfold relScale sc
    simp only [hw, hq, hmu, hS, hx, mI_real, eI_real]
  refine ⟨fun r i => x (ix2 r i), fun k i => w (ix2 k i), fun k => c (ix1 k), fun k => q (ix1 k), fun r i => hx _, fun k i => hw _, fun k => hc _, fun k => hq _, fun k => ?_, hs, fun k => ?_⟩
  · funext r
    unfold zr col
    simp only [hx, hw, hc]
  · unfold relBias bi
    simp only [hs, hw, hc, hmu, hx, mI_real]

/-- The feature branch's column, its scale and its folded bias in terms of real rows and weights. -/
theorem gu_real (h : Cert.Pre_mid_pre.fn (F := Ideal) X mu S Wg bg gg beg W1 b1 W b g be = fun _ => 1#1) :
    ∃ (x : Fin 24576 → Fin 128 → ℝ) (w : Fin 256 → Fin 128 → ℝ) (c q β : Fin 256 → ℝ) (v : Fin 128 → Fin 256 → ℝ), (∀ r i, X (ix2 r i) = (x r i : EReal)) ∧ (∀ k i, Wg (ix2 k i) = (w k i : EReal))
      ∧ (∀ k, gg (ix1 k) = (q k : EReal)) ∧ (∀ k, beg (ix1 k) = (β k : EReal)) ∧ (∀ o k, W1 (ix2 o k) = (v o k : EReal))
      ∧ (∀ k, zg X Wg bg k = col x (w k) (c k)) ∧ (∀ k, guScale mu S Wg gg k = sc x (w k) (q k))
      ∧ (∀ k, guBias mu S Wg bg gg beg k = bi x (w k) (c k) (q k) (β k : EReal)) := by
  obtain ⟨hX, hWg, hbg, hgg, hbeg, hW1, hW, hb, hg, hmu, hS⟩ := Cert.MidPre.facts_of_pre h
  choose x hx using hX
  choose w hw using hWg
  choose c hc using hbg
  choose q hq using hgg
  choose β hβ using hbeg
  choose v hv using hW1
  have hs : ∀ k, guScale mu S Wg gg k = sc (fun r i => x (ix2 r i)) (fun i => w (ix2 k i)) (q (ix1 k)) := fun k => by
    unfold guScale sc
    simp only [hw, hq, hmu, hS, hx, mI_real, eI_real]
  refine ⟨fun r i => x (ix2 r i), fun k i => w (ix2 k i), fun k => c (ix1 k), fun k => q (ix1 k), fun k => β (ix1 k), fun o k => v (ix2 o k), fun r i => hx _, fun k i => hw _, fun k => hq _,
    fun k => hβ _, fun o k => hv _, fun k => ?_, hs, fun k => ?_⟩
  · funext r
    unfold zg col
    simp only [hx, hw, hc]
  · unfold guBias bi
    simp only [hs, hw, hc, hβ, hmu, hx, mI_real]

/-- A folded weight is the reference's. -/
theorem weight_eq (h : Cert.Pre_mid_pre.fn (F := Ideal) X mu S Wg bg gg beg W1 b1 W b g be = fun _ => 1#1) (j k : Fin 128) :
    W (ix2 k j) * relScale mu S W g k = foldW X W b g be j k := by
  obtain ⟨x, w, c, q, hx, hw, hc, hq, hz, hs, hb⟩ := rel_real h
  unfold foldW
  rw [hs, hz, hq, sc_fac]

/-- A folded bias is the reference's. -/
theorem bias_eq (h : Cert.Pre_mid_pre.fn (F := Ideal) X mu S Wg bg gg beg W1 b1 W b g be = fun _ => 1#1) (k : Fin 128) :
    relBias mu S W b g be k = foldB X W b g be k := by
  obtain ⟨x, w, c, q, hx, hw, hc, hq, hz, hs, hb⟩ := rel_real h
  unfold foldB
  rw [hb, hz, hq, hc, sc_fac, mean_col]
  rfl

/-- A hidden row entry is the reference's. -/
theorem hidden_eq (h : Cert.Pre_mid_pre.fn (F := Ideal) X mu S Wg bg gg beg W1 b1 W b g be = fun _ => 1#1) (w2 : FVec Ideal S128x128 .f32) (b2 : FVec Ideal S1x128 .f32)
    (hw2 : ∀ j k, w2 (ix2 j k) = W (ix2 k j) * relScale mu S W g k) (hb2 : ∀ k, b2 (ix2 0 k) = relBias mu S W b g be k) (k : Fin 128) (r : Fin 24576) :
    hidE (fun i => X (ix2 r i)) (fun i => w2 (ix2 i k)) (b2 (ix2 0 k)) = yr X W b g be k r := by
  obtain ⟨x, w, c, q, hx, hw, hc, hq, hz, hs, hb⟩ := rel_real h
  unfold hidE yr
  congr 1
  rw [hz, hq, ← bn_fold, hb2, hb]
  simp only [hw2, hs, hx, hw]

/-- A feature entry is the reference's. -/
theorem feat_eq (h : Cert.Pre_mid_pre.fn (F := Ideal) X mu S Wg bg gg beg W1 b1 W b g be = fun _ => 1#1) (we : FVec Ideal S128x128 .f32) (bf : FVec Ideal S128x1 .f32)
    (hwe : ∀ j o, we (ix2 j o) = ∑ k : Fin 256, Wg (ix2 k j) * guScale mu S Wg gg k * W1 (ix2 o k))
    (hbf : ∀ o, bf (ix2 o 0) = (∑ k : Fin 256, guBias mu S Wg bg gg beg k * W1 (ix2 o k)) + b1 (ix1 o)) (o : Fin 128) (row : Fin 3 → Fin 24576) :
    featAt X we bf o row = featE X Wg bg gg beg W1 b1 o row := by
  obtain ⟨x, w, c, q, β, v, hx, hw, hq, hβ, hv, hz, hs, hb⟩ := gu_real h
  unfold featAt featE
  rw [hbf]
  simp only [hwe, hs, hb, hw, hv, hx, hz, hq, hβ]
  exact feat_fold x w c q β (v o) (b1 (ix1 o)) row

end Cert.MidEq

end
-- ==== Proof.KnnRun.lean ====
module

public import proofs.«01_k».proof.Proof.Gen.Kernel3Ideal.Frame
public import Idealize.ShloMosaic.Lib.Pipeline.Value
public import Idealize.ShloMosaic.Lib.Pipeline.ValueKit
public import Idealize.ShloMosaic.Lib.Pipeline.ValueKit.Point
public import Idealize.ShloMosaic.Lib.VecWindow
public import Idealize.ShloMosaic.Lib.WholeRead

@[expose] public section

set_option maxRecDepth 16384

noncomputable section

/-! What a point of the first call's grid stores into the block of neighbour numbers. -/

namespace Cert.Kernel3Ideal.Hand

open Cert.Kernel3Ideal Cert.Kernel3Ideal.Gen
open Idealize.ShloMosaic Idealize.ShloMosaic.TcCoe Idealize.ShloMosaic.Tactic

variable {F : FTy → Type} [FloatOps F]

/-- The column numbers. -/
def cols : IVec S1024x2048 32 := iota .tc S1024x2048 32 [1] iota_S1024x2048_d1_w32

/-- The block of neighbour numbers, of the block of points and of all points. -/
def knnIdx (x0 : Vec F S1x1024x3 .f32) (x1 : Vec F S1x3x2048 .f32) : IVec S1x1024x8 32 :=
  k0_pay22 (F := F) cols (k0_pay11 (k0_pay10 x0 x1) cols) (k0_pay13 (k0_pay10 x0 x1) cols) (k0_pay15 (k0_pay10 x0 x1) cols) (k0_pay16 (k0_pay10 x0 x1) cols)

set_option maxHeartbeats 4000000 in
theorem out0_A_4_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : cond0_0 i) (hc1 : cond0_1 i)
    (x0 : Vec F S1x1024x3 .f32) (x1 : Vec F S1x3x2048 .f32) (x2 : Vec F S1x128x2048 .f32) :
    out0_A_4 c i arg2 harg2 arg3 harg3 arg4 harg4 arg5 harg5 arg6 harg6 arg7 harg7 arg8 harg8 arg9 harg9 arg10 harg10 arg11 harg11 hc0 hc1 x0 x1 x2 = knnIdx x0 x1 := by
  unfold out0_A_4
  delta kernelRun0_A
  dsimp only
  try delta kernelRun0_A.sl.r_14
  try delta kernelRun0_A.sl.r_13
  try delta kernelRun0_A.sl.r_12
  try delta kernelRun0_A.sl.r_11
  try delta kernelRun0_A.sl.r_10
  try delta kernelRun0_A.sl.r_9
  try delta kernelRun0_A.sl.r_8
  try delta kernelRun0_A.sl.r_7
  try delta kernelRun0_A.sl.r_6
  try delta kernelRun0_A.sl.r_5
  try delta kernelRun0_A.sl.r_4
  try delta kernelRun0_A.sl.r_3
  try delta kernelRun0_A.sl.r_2
  try delta kernelRun0_A.sl.r_1
  try delta kernelRun0_A.sl.r
  try delta kernelRun0_A.sl.v71
  try delta kernelRun0_A.sl.v58
  try delta kernelRun0_A.sl.v46
  try delta kernelRun0_A.sl.v34
  try delta kernelRun0_A.sl.v33
  try delta kernelRun0_A.sl.v34
  try delta kernelRun0_A.sl.v10
  try delta kernelRun0_A.sl.v9
  try delta kernelRun0_A.sl.v8
  try delta kernelRun0_A.sl.v7
  try delta kernelRun0_A.sl.v6
  try delta kernelRun0_A.sl.v5
  try delta kernelRun0_A.sl.v4
  try delta kernelRun0_A.sl.v3
  try delta kernelRun0_A.sl.v2
  try delta kernelRun0_A.sl.v1
  try delta kernelRun0_A.sl.v0
  try delta kernelRun0_A.sl.H0_1
  try delta kernelRun0_A.sl.H1_1
  try delta kernelRun0_A.sl.H2_1
  try delta kernelRun0_A.sl.HS0_1
  simp (config := { index := false }) only [View.read_writes_full, View.readCov_full, View.readAt_full, Memref.IsWhole.read_unread, knnIdx, cols]

set_option maxHeartbeats 4000000 in
theorem out0_B_4_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : ¬cond0_1 i)
    (x0 : Vec F S1x1024x3 .f32) (x1 : Vec F S1x3x2048 .f32) (x2 : Vec F S1x128x2048 .f32) (xo5 : Vec F S1x128 .f32) (xo6 : Vec F S128x128 .f32) (xs0 : Vec F S2048x128 .f32) (xs1 : Vec F S2048x128 .bf16) (xs2 : Vec F S2048x128 .bf16) :
    out0_B_4 c i arg2 harg2 arg3 harg3 arg4 harg4 arg5 harg5 arg6 harg6 arg7 harg7 arg8 harg8 arg9 harg9 arg10 harg10 arg11 harg11 hc0 hc1 x0 x1 x2 xo5 xo6 xs0 xs1 xs2 = knnIdx x0 x1 := by
  unfold out0_B_4
  delta kernelRun0_B
  dsimp only
  try delta kernelRun0_B.sl.r_14
  try delta kernelRun0_B.sl.r_13
  try delta kernelRun0_B.sl.r_12
  try delta kernelRun0_B.sl.r_11
  try delta kernelRun0_B.sl.r_10
  try delta kernelRun0_B.sl.r_9
  try delta kernelRun0_B.sl.r_8
  try delta kernelRun0_B.sl.r_7
  try delta kernelRun0_B.sl.r_6
  try delta kernelRun0_B.sl.r_5
  try delta kernelRun0_B.sl.r_4
  try delta kernelRun0_B.sl.r_3
  try delta kernelRun0_B.sl.r_2
  try delta kernelRun0_B.sl.r_1
  try delta kernelRun0_B.sl.r
  try delta kernelRun0_B.sl.v71
  try delta kernelRun0_B.sl.v58
  try delta kernelRun0_B.sl.v46
  try delta kernelRun0_B.sl.v34
  try delta kernelRun0_B.sl.v33
  try delta kernelRun0_B.sl.v34
  try delta kernelRun0_B.sl.v10
  try delta kernelRun0_B.sl.v9
  try delta kernelRun0_B.sl.v8
  try delta kernelRun0_B.sl.v7
  try delta kernelRun0_B.sl.v6
  try delta kernelRun0_B.sl.v5
  try delta kernelRun0_B.sl.v4
  try delta kernelRun0_B.sl.v3
  try delta kernelRun0_B.sl.v2
  try delta kernelRun0_B.sl.v1
  try delta kernelRun0_B.sl.v0
  try delta kernelRun0_B.sl.H0_1
  try delta kernelRun0_B.sl.H1_1
  try delta kernelRun0_B.sl.H2_1
  try delta kernelRun0_B.sl.HS0_1
  simp (config := { index := false }) only [View.read_writes_full, View.readCov_full, View.readAt_full, Memref.IsWhole.read_unread, knnIdx, cols]

set_option maxHeartbeats 4000000 in
theorem out0_C_4_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : cond0_1 i)
    (x0 : Vec F S1x1024x3 .f32) (x1 : Vec F S1x3x2048 .f32) (x2 : Vec F S1x128x2048 .f32) (xo5 : Vec F S1x128 .f32) (xo6 : Vec F S128x128 .f32) :
    out0_C_4 c i arg2 harg2 arg3 harg3 arg4 harg4 arg5 harg5 arg6 harg6 arg7 harg7 arg8 harg8 arg9 harg9 arg10 harg10 arg11 harg11 hc0 hc1 x0 x1 x2 xo5 xo6 = knnIdx x0 x1 := by
  unfold out0_C_4
  delta kernelRun0_C
  dsimp only
  try delta kernelRun0_C.sl.r_14
  try delta kernelRun0_C.sl.r_13
  try delta kernelRun0_C.sl.r_12
  try delta kernelRun0_C.sl.r_11
  try delta kernelRun0_C.sl.r_10
  try delta kernelRun0_C.sl.r_9
  try delta kernelRun0_C.sl.r_8
  try delta kernelRun0_C.sl.r_7
  try delta kernelRun0_C.sl.r_6
  try delta kernelRun0_C.sl.r_5
  try delta kernelRun0_C.sl.r_4
  try delta kernelRun0_C.sl.r_3
  try delta kernelRun0_C.sl.r_2
  try delta kernelRun0_C.sl.r_1
  try delta kernelRun0_C.sl.r
  try delta kernelRun0_C.sl.v71
  try delta kernelRun0_C.sl.v58
  try delta kernelRun0_C.sl.v46
  try delta kernelRun0_C.sl.v34
  try delta kernelRun0_C.sl.v33
  try delta kernelRun0_C.sl.v34
  try delta kernelRun0_C.sl.v10
  try delta kernelRun0_C.sl.v9
  try delta kernelRun0_C.sl.v8
  try delta kernelRun0_C.sl.v7
  try delta kernelRun0_C.sl.v6
  try delta kernelRun0_C.sl.v5
  try delta kernelRun0_C.sl.v4
  try delta kernelRun0_C.sl.v3
  try delta kernelRun0_C.sl.v2
  try delta kernelRun0_C.sl.v1
  try delta kernelRun0_C.sl.v0
  try delta kernelRun0_C.sl.H0_1
  try delta kernelRun0_C.sl.H1_1
  try delta kernelRun0_C.sl.H2_1
  try delta kernelRun0_C.sl.HS0_1
  simp (config := { index := false }) only [View.read_writes_full, View.readCov_full, View.readAt_full, Memref.IsWhole.read_unread, knnIdx, cols]

end Cert.Kernel3Ideal.Hand

end
-- ==== Proof.KnnBlk.lean ====
module

public import proofs.«01_k».proof.Proof.KnnRun
public import Idealize.ShloMosaic.Lib.Pointwise

@[expose] public section

set_option maxRecDepth 16384

noncomputable section

/-! The array of neighbour numbers after the run of the first call. -/

namespace Cert.Kernel3Ideal.Hand

open Cert.Kernel3Ideal Cert.Kernel3Ideal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem idx_pts : ∀ t : Fin cfg0.N, win0_0.index t = ![t.val / 2, t.val % 2, 0] ∧ win0_1.index t = ![t.val / 2, 0, 0] ∧ win0_4.index t = ![t.val / 2, t.val % 2, 0] :=
  (by decide +kernel : ∀ t : Fin grid0.N, _)

/-- What a point leaves in the block of neighbour numbers. -/
theorem after_4 (c : Dev nD) (t : Fin cfg0.N) : (outsAt0 m c t.val t.isLt).2.1 = knnIdx (iblk m c 0 t) (iblk m c 1 t) := by
  by_cases h0 : t.val % 8 = 0
  · have h1 : t.val % 2 = 0 := by omega
    rw [outsAt0_A m c t h0 h1]
    dsimp only
    rw [out0_A_4_eq]
  · by_cases h1 : t.val % 2 = 0
    · rw [outsAt0_C m c t h0 h1]
      dsimp only
      rw [out0_C_4_eq]
    · rw [outsAt0_B m c t h0 h1]
      dsimp only
      rw [out0_B_4_eq]

theorem V_main_v0 (c : Dev nD) : V m c main_v0 = transpose S4x3x2048 [0, 2, 1] (m ((c : Thread nD τ).loc main_arg1)) transposes_S4x2048x3_S4x3x2048_0_2_1 := by
  entry_read
  rfl

/-- The block of points of grid point `t`. -/
theorem blk_0 (c : Dev nD) (t : Fin cfg0.N) (b : Fin 4) (r : Fin 1024) (n : Fin 2048) (d : Fin 3) (hb : b.val = t.val / 2) (hn : n.val = (t.val % 2) * 1024 + r.val) :
    (iblk m c 0 t : Vec F S1x1024x3 .f32) (ix3 0 r d) = (m ((c : Thread nD τ).loc main_arg1) : Vec F S4x2048x3 .f32) (ix3 b n d) := by
  have e := (idx_pts t).1
  have hi : ((cfg0.win 0).blk t).view.emb (ix3 0 r d) = ix3 b n d := by
    funext a; apply Fin.ext
    match a with
    | ⟨0, _⟩ => show win0_0.index t (0 : Fin 3) * 1 + 1 * 0 = b.val; rw [e]; show t.val / 2 * 1 + 1 * 0 = b.val; omega
    | ⟨1, _⟩ => show win0_0.index t (1 : Fin 3) * 1024 + 1 * r.val = n.val; rw [e]; show t.val % 2 * 1024 + 1 * r.val = n.val; omega
    | ⟨2, _⟩ => show win0_0.index t (2 : Fin 3) * 3 + 1 * d.val = d.val; rw [e]; show 0 * 3 + 1 * d.val = d.val; omega
  exact congrArg (m ((c : Thread nD τ).loc main_arg1) : Vec F S4x2048x3 .f32) hi

/-- The block of all points of grid point `t`, coordinates first. -/
theorem blk_1 (c : Dev nD) (t : Fin cfg0.N) (b : Fin 4) (n : Fin 2048) (d : Fin 3) (hb : b.val = t.val / 2) :
    (iblk m c 1 t : Vec F S1x3x2048 .f32) (ix3 0 d n) = (m ((c : Thread nD τ).loc main_arg1) : Vec F S4x2048x3 .f32) (ix3 b n d) := by
  have e := (idx_pts t).2.1
  have hi : ((cfg0.win 1).blk t).view.emb (ix3 0 d n) = ix3 b d n := by
    funext a; apply Fin.ext
    match a with
    | ⟨0, _⟩ => show win0_1.index t (0 : Fin 3) * 1 + 1 * 0 = b.val; rw [e]; show t.val / 2 * 1 + 1 * 0 = b.val; omega
    | ⟨1, _⟩ => show win0_1.index t (1 : Fin 3) * 3 + 1 * d.val = d.val; rw [e]; show 0 * 3 + 1 * d.val = d.val; omega
    | ⟨2, _⟩ => show win0_1.index t (2 : Fin 3) * 2048 + 1 * n.val = n.val; rw [e]; show 0 * 2048 + 1 * n.val = n.val; omega
  have h : (iblk m c 1 t : Vec F S1x3x2048 .f32) (ix3 0 d n) = (V m c main_v0 : Vec F S4x3x2048 .f32) (ix3 b d n) :=
    congrArg (V m c main_v0 : Vec F S4x3x2048 .f32) hi
  rw [h, V_main_v0]
  pointwise

/-- Two points' blocks of neighbour numbers share no index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (by
    have e := (idx_pts t).2.2
    have e' := (idx_pts t').2.2
    have h0 : win0_4.index t 0 = win0_4.index t' 0 := congrFun h 0
    have h1 : win0_4.index t 1 = win0_4.index t' 1 := congrFun h 1
    rw [e, e'] at h0 h1
    have h0' : t.val / 2 = t'.val / 2 := h0
    have h1' : t.val % 2 = t'.val % 2 := h1
    exact Fin.ext (by omega))

/-- The array of neighbour numbers at a point. -/
theorem arr_4 (c : Dev nD) (t : Fin cfg0.N) (b : Fin 4) (r : Fin 1024) (n : Fin 2048) (k : Fin 8) (hb : b.val = t.val / 2) (hn : n.val = (t.val % 2) * 1024 + r.val) :
    ((dats m 0 c).arrAt 4 cfg0.N : Vec F S4x2048x8 .i32) (ix3 b n k) = knnIdx (iblk m c 0 t) (iblk m c 1 t) (ix3 0 r k) := by
  have h := (dats m 0 c).read_blk_arrAt_eq_flushed 4 disjoint4 cfg0.N t t.isLt (flush0_4 t)
  have e := (idx_pts t).2.2
  have hy := congrFun h (ix3 0 r k)
  have hi : ((cfg0.win 4).blk t).view.emb (ix3 0 r k) = ix3 b n k := by
    funext a; apply Fin.ext
    match a with
    | ⟨0, _⟩ => show win0_4.index t (0 : Fin 3) * 1 + 1 * 0 = b.val; rw [e]; show t.val / 2 * 1 + 1 * 0 = b.val; omega
    | ⟨1, _⟩ => show win0_4.index t (1 : Fin 3) * 1024 + 1 * r.val = n.val; rw [e]; show t.val % 2 * 1024 + 1 * r.val = n.val; omega
    | ⟨2, _⟩ => show win0_4.index t (2 : Fin 3) * 8 + 1 * k.val = k.val; rw [e]; show 0 * 8 + 1 * k.val = k.val; omega
  have hr : ((cfg0.win 4).blk t).view.read (Elt F) ((dats m 0 c).arrAt 4 cfg0.N) (ix3 0 r k) = (dats m 0 c).arrAt 4 cfg0.N (ix3 b n k) := congrArg ((dats m 0 c).arrAt 4 cfg0.N) hi
  refine hr.symm.trans (hy.trans ?_)
  show (dats m 0 c).after 4 t ((cfg0.win 4).xinj (grid0.coords t) (ix3 0 r k)) = _
  rw [after0_4, after_4]
  rfl

/-- The three columns the run keeps of the array of neighbour numbers. -/
def resIdx (c : Dev nD) : IVec S4x2048x3 32 :=
  extractStridedSlice S4x2048x3 ![0, 0, 1] ((dats m 0 c).arrAt 4 cfg0.N : Vec F S4x2048x8 .i32) slices_S4x2048x8_S4x2048x3_0_0_1

end Cert.Kernel3Ideal.Hand

end
-- ==== Proof.KnnTop.lean ====
module

public import Idealize.ShloMosaic.Lib.SortFacts
public import Mathlib.Data.EReal.Basic

@[expose] public section

/-! The stable sort of the positions of a row, greatest value first, against the greatest value taken again and again. -/

namespace Cert.Knn

open Idealize.ShloMosaic

variable {n : ℕ} (f : Fin n → EReal)

/-- Position `a` comes ahead of position `b`: its value is greater, or the values are equal and `a` is the lower position. -/
def Ahead (a b : Fin n) : Prop := f b < f a ∨ (f b = f a ∧ a < b)

theorem Ahead.trans {f : Fin n → EReal} {a b c : Fin n} (h : Ahead f a b) (h' : Ahead f b c) : Ahead f a c := by
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

/-- The test the sort makes: the value of `a` is the greater one. -/
noncomputable def greater (a b : Fin n) : Bool := decide (f b < f a)

theorem pairwise_insert (a : Fin n) (l : List (Fin n)) (ha : ∀ b ∈ l, a < b) (hl : l.Pairwise (Ahead f)) :
    (insertBefore (greater f) a l).Pairwise (Ahead f) := by
  induction l with
  | nil => exact List.pairwise_singleton _ _
  | cons b l ih =>
    have hb := List.pairwise_cons.mp hl
    unfold insertBefore
    by_cases h : f a < f b
    · rw [if_pos (by exact decide_eq_true h)]
      refine List.pairwise_cons.mpr ⟨fun c hc => ?_, ih (fun c hc => ha c (List.mem_cons_of_mem _ hc)) hb.2⟩
      rcases List.mem_cons.mp ((perm_insertBefore _ a l).mem_iff.mp hc) with rfl | hc
      · exact Or.inl h
      · exact hb.1 c hc
    · rw [if_neg (by unfold greater; rw [decide_eq_false h]; exact Bool.false_ne_true)]
      have hab : Ahead f a b := by
        rcases lt_or_eq_of_le (not_lt.mp h) with h | h
        · exact Or.inl h
        · exact Or.inr ⟨h, ha b List.mem_cons_self⟩
      refine List.pairwise_cons.mpr ⟨fun c hc => ?_, hl⟩
      rcases List.mem_cons.mp hc with rfl | hc
      · exact hab
      · exact hab.trans (hb.1 c hc)

theorem pairwise_sort (l : List (Fin n)) (hl : l.Pairwise (· < ·)) : (stableSort (greater f) l).Pairwise (Ahead f) := by
  induction l with
  | nil => exact List.Pairwise.nil
  | cons a l ih =>
    have h := List.pairwise_cons.mp hl
    exact pairwise_insert f a _ (fun b hb => h.1 b ((perm_stableSort _ l).mem_iff.mp hb)) (ih h.2)

/-- The sort leaves a position that comes ahead of another ahead of it. -/
theorem sorted_ahead (i j : Fin n) (hij : i < j) : Ahead f (sortedFrom (greater f) i) (sortedFrom (greater f) j) :=
  List.pairwise_iff_get.mp (pairwise_sort f (List.finRange n) (List.pairwise_lt_finRange n)) _ _ hij

/-- `p` is the first of the greatest outside the positions `S`. -/
def Best (S : Finset (Fin n)) (p : Fin n) : Prop := p ∉ S ∧ ∀ q, q ∉ S → q = p ∨ Ahead f p q

/-- The positions sorted ahead of place `r`. -/
noncomputable def firsts (r : Fin n) : Finset (Fin n) := (Finset.univ.filter fun i => i < r).image (sortedFrom (greater f))

/-- Place `r` holds the first of the greatest outside the places ahead of it. -/
theorem best_sorted (r : Fin n) : Best f (firsts f r) (sortedFrom (greater f) r) := by
  refine ⟨fun h => ?_, fun q hq => ?_⟩
  · obtain ⟨i, hi, e⟩ := Finset.mem_image.mp h
    have hi := (Finset.mem_filter.mp hi).2
    exact absurd (sortedFrom_injective _ e) hi.ne
  · obtain ⟨j, rfl⟩ := sortedFrom_surjective (greater f) q
    rcases lt_trichotomy j r with h | h | h
    · exact absurd (Finset.mem_image.mpr ⟨j, Finset.mem_filter.mpr ⟨Finset.mem_univ _, h⟩, rfl⟩) hq
    · exact Or.inl (by rw [h])
    · exact Or.inr (sorted_ahead f r j h)

/-- Nothing is sorted ahead of the first place. -/
theorem firsts_zero (r : Fin n) (h : r.val = 0) : firsts f r = ∅ := by
  unfold firsts
  rw [Finset.image_eq_empty, Finset.filter_eq_empty_iff]
  exact fun i _ hi => by have := Fin.lt_def.mp hi; omega

/-- One place further, one position more. -/
theorem firsts_succ (r r' : Fin n) (h : r'.val = r.val + 1) : firsts f r' = insert (sortedFrom (greater f) r) (firsts f r) := by
  unfold firsts
  rw [← Finset.image_insert]
  congr 1
  ext i
  simp only [Finset.mem_filter, Finset.mem_univ, true_and, Finset.mem_insert, Fin.lt_def, Fin.ext_iff]
  omega

/-- The row with the positions `S` struck out. -/
noncomputable def struck (S : Finset (Fin n)) (p : Fin n) : EReal := if p ∈ S then ⊥ else f p

variable {f}

/-- The first of the greatest has the greatest value left. -/
theorem Best.le {S : Finset (Fin n)} {p : Fin n} (h : Best f S p) (q : Fin n) : struck f S q ≤ struck f S p := by
  unfold struck
  rw [if_neg h.1]
  split
  · exact bot_le
  · next hq =>
    rcases h.2 q hq with rfl | h | h
    · exact le_rfl
    · exact h.le
    · exact h.1.le

/-- And it is the lowest of the positions with that value. -/
theorem Best.first {S : Finset (Fin n)} {p : Fin n} (h : Best f S p) (hf : ∀ q, f q ≠ ⊥) (q : Fin n) (e : struck f S q = struck f S p) : p ≤ q := by
  unfold struck at e
  rw [if_neg h.1] at e
  split at e
  · exact absurd e.symm (hf p)
  · next hq =>
    rcases h.2 q hq with rfl | h | h
    · exact le_rfl
    · exact absurd e h.ne
    · exact h.2.le

end Cert.Knn

end
-- ==== Proof.KnnPay.lean ====
module

public import proofs.«01_k».proof.Proof.KnnTop
public import proofs.«01_k».proof.Proof.KnnRun
public import Idealize.ShloMosaic.Lib.SortNet.Extract
public import Idealize.ShloMosaic.Lib.Pointwise

@[expose] public section

set_option maxRecDepth 16384

noncomputable section

/-! One round of the choice of neighbours at a row: the greatest value, the lowest position with it, and the row with that position struck out. -/

namespace Cert.Kernel3Ideal.Hand

open Cert.Kernel3Ideal Cert.Kernel3Ideal.Gen Cert.Knn
open Idealize.ShloMosaic Idealize.ShloMosaic.TcCoe Idealize.ShloMosaic.Tactic

/-- The lowest position of a row whose value is the given one. -/
def pickOf (v : FVec Ideal S1024x2048 .f32) (mx : FVec Ideal S1024x1 .f32) (it : IVec S1024x2048 32) : IVec S1024x1 32 :=
  shapeCast S1024x1 (multiReductionI .minsi [1] S1024 (select (cmpf .oeq v (broadcastTo S1024x2048 mx broadcasts_S1024x1_S1024x2048)) it (broadcast S1024x2048 2048#32)) 2147483647#32 reduces_S1024x2048_S1024 rfl) shapeCasts_S1024_S1024x1

/-- The greatest value of a row. -/
def maxOf (v : FVec Ideal S1024x2048 .f32) : FVec Ideal S1024x1 .f32 :=
  shapeCast S1024x1 (multiReduction .maximumf [1] S1024 v 0xFF800000#32 reduces_S1024x2048_S1024 (.inl rfl) rfl) shapeCasts_S1024_S1024x1

/-- A row with one position struck out. -/
def strikeOf (v : FVec Ideal S1024x2048 .f32) (w : IVec S1024x1 32) (it : IVec S1024x2048 32) : FVec Ideal S1024x2048 .f32 :=
  select (cmpi .eq it (broadcastTo S1024x2048 w broadcasts_S1024x1_S1024x2048)) (broadcast S1024x2048 (Scalar.ofBits (F := Ideal) .f32 0xFF800000#32)) v

/-- The least of some words, when `w` is among them and none is less. -/
theorem minsi_fold {ι : Type} [DecidableEq ι] (s : Finset ι) (g : ι → BitVec 32) (b w : BitVec 32) (hb : w.toInt ≤ b.toInt)
    (hg : ∀ i ∈ s, w.toInt ≤ (g i).toInt) (hw : ∃ i ∈ s, g i = w) : s.fold IntOp.minsi b g = w := by
  have key : (s.fold IntOp.minsi b g).toInt = s.fold min b.toInt (fun i => (g i).toInt) := by
    clear hg hw
    induction s using Finset.induction_on with
    | empty => simp
    | insert a s ha ih => rw [Finset.fold_insert ha, Finset.fold_insert ha, SortNet.toInt_minsi, ih]
  apply BitVec.eq_of_toInt_eq
  rw [key]
  apply le_antisymm
  · obtain ⟨i, hi, rfl⟩ := hw
    exact Finset.fold_min_le _ |>.mpr (Or.inr ⟨i, hi, le_rfl⟩)
  · exact Finset.le_fold_min _ |>.mpr ⟨hb, hg⟩

theorem toInt_small (n : ℕ) (h : n ≤ 2048) : (BitVec.ofNat 32 n).toInt = n := by
  rw [BitVec.toInt_eq_toNat_of_lt, BitVec.toNat_ofNat, Nat.mod_eq_of_lt (by omega)]
  rw [BitVec.toNat_ofNat, Nat.mod_eq_of_lt (by omega)]
  omega

theorem ofNat_inj (p q : Fin 2048) : BitVec.ofNat 32 q.val = BitVec.ofNat 32 p.val ↔ q = p := by
  refine ⟨fun h => ?_, fun h => by rw [h]⟩
  have := congrArg BitVec.toInt h
  rw [toInt_small _ q.isLt.le, toInt_small _ p.isLt.le] at this
  exact Fin.ext (by exact_mod_cast this)

theorem pickOf_apply (v : FVec Ideal S1024x2048 .f32) (mx : FVec Ideal S1024x1 .f32) (r : Fin 1024) (p : Fin 2048)
    (hp : v (ix2 r p) = mx (ix2 r 0)) (hm : ∀ q : Fin 2048, v (ix2 r q) = mx (ix2 r 0) → p ≤ q) :
    pickOf v mx cols (ix2 r 0) = BitVec.ofNat 32 p.val := by
  unfold pickOf cols
  pointwise
  refine minsi_fold _ _ _ _ ?_ (fun q _ => ?_) ⟨p, Finset.mem_univ _, if_pos hp⟩
  · rw [toInt_small _ p.isLt.le]
    have : (2147483647#32).toInt = 2147483647 := by decide
    rw [this]
    have := p.isLt
    omega
  · split
    · next h =>
      rw [toInt_small _ p.isLt.le, toInt_small _ q.isLt.le]
      exact_mod_cast hm q h
    · rw [toInt_small _ p.isLt.le]
      have : (2048#32).toInt = 2048 := by decide
      rw [this]
      have := p.isLt
      omega

theorem bot_bits : Ideal.ofBits FTy.f32 4286578688#32 = (⊥ : EReal) := by
  simp [Ideal.ofBits, Ideal.ieee]

theorem maxOf_apply (v : FVec Ideal S1024x2048 .f32) (r : Fin 1024) (p : Fin 2048) (hp : ∀ q : Fin 2048, (v (ix2 r q) : EReal) ≤ v (ix2 r p)) :
    maxOf v (ix2 r 0) = v (ix2 r p) := by
  unfold maxOf
  pointwise
  rw [bot_bits]
  apply le_antisymm
  · exact Finset.fold_max_le _ |>.mpr ⟨bot_le, fun q _ => hp q⟩
  · exact Finset.le_fold_max _ |>.mpr (Or.inr ⟨p, Finset.mem_univ _, le_rfl⟩)

theorem strikeOf_apply (v : FVec Ideal S1024x2048 .f32) (w : IVec S1024x1 32) (r : Fin 1024) (p q : Fin 2048) (hw : w (ix2 r 0) = BitVec.ofNat 32 p.val) :
    strikeOf v w cols (ix2 r q) = if q = p then (⊥ : EReal) else v (ix2 r q) := by
  unfold strikeOf cols
  pointwise
  rw [bot_bits, hw]
  by_cases h : q = p
  · rw [if_pos h, h]
    have : IntOp.cmpi CmpIPredicate.eq (BitVec.ofNat 32 p.val) (BitVec.ofNat 32 p.val) = 1#1 := by simp [IntOp.cmpi]
    rw [this]
    rfl
  · rw [if_neg h]
    have : IntOp.cmpi CmpIPredicate.eq (BitVec.ofNat 32 q.val) (BitVec.ofNat 32 p.val) = 0#1 := by
      show BitVec.ofBool (BitVec.ofNat 32 q.val == BitVec.ofNat 32 p.val) = 0#1
      rw [beq_false_of_ne ((ofNat_inj p q).not.mpr h)]
      rfl
    rw [this]
    rfl

/-- The negated squared distance of two points given by their coordinates. -/
def ndist (a b : Fin 3 → EReal) : EReal :=
  0 - ((a 0 - b 0) * (a 0 - b 0) + (a 1 - b 1) * (a 1 - b 1) + (a 2 - b 2) * (a 2 - b 2))

theorem dist_apply (x0 : Vec Ideal S1x1024x3 .f32) (x1 : Vec Ideal S1x3x2048 .f32) (r : Fin 1024) (q : Fin 2048) :
    k0_pay10 x0 x1 (ix2 r q) = ndist (fun d => x0 (ix3 0 r d)) (fun d => x1 (ix3 0 d q)) := by
  unfold k0_pay10 ndist
  pointwise

theorem pay22_apply (it : IVec S1024x2048 32) (a b d : IVec S1024x1 32) (v : FVec Ideal S1024x2048 .f32) (r : Fin 1024) :
    k0_pay22 (F := Ideal) it a b v d (ix3 0 r 1) = b (ix2 r 0) ∧ k0_pay22 (F := Ideal) it a b v d (ix3 0 r 2) = d (ix2 r 0)
    ∧ k0_pay22 (F := Ideal) it a b v d (ix3 0 r 3) = k0_pay19 it v d (ix2 r 0) := by
  unfold k0_pay22
  refine ⟨?_, ?_, ?_⟩
  all_goals pointwise

theorem pays (v : FVec Ideal S1024x2048 .f32) (it : IVec S1024x2048 32) (w : IVec S1024x1 32) :
    k0_pay11 v it = pickOf v (broadcast S1024x1 (Scalar.ofBits (F := Ideal) .f32 0x00000000#32)) it ∧
    k0_pay12 v it = strikeOf v (k0_pay11 v it) it ∧
    k0_pay13 v it = pickOf (k0_pay12 v it) (maxOf (k0_pay12 v it)) it ∧
    k0_pay15 v it = strikeOf (k0_pay12 v it) (k0_pay13 v it) it ∧
    k0_pay16 v it = pickOf (k0_pay15 v it) (maxOf (k0_pay15 v it)) it ∧
    k0_pay19 it v w = pickOf (strikeOf v w it) (maxOf (strikeOf v w it)) it :=
  ⟨rfl, rfl, rfl, rfl, rfl, rfl⟩

/-- A row of the array `v` is `f` with the positions `S` struck out. -/
def RowIs (v : FVec Ideal S1024x2048 .f32) (r : Fin 1024) (f : Fin 2048 → EReal) (S : Finset (Fin 2048)) : Prop :=
  ∀ q, v (ix2 r q) = struck f S q

theorem RowIs.pick {v : FVec Ideal S1024x2048 .f32} {r : Fin 1024} {f : Fin 2048 → EReal} {S : Finset (Fin 2048)} (h : RowIs v r f S)
    (hf : ∀ q, f q ≠ ⊥) {p : Fin 2048} (hp : Best f S p) : pickOf v (maxOf v) cols (ix2 r 0) = BitVec.ofNat 32 p.val := by
  have hm : maxOf v (ix2 r 0) = v (ix2 r p) := maxOf_apply v r p fun q => by rw [h q, h p]; exact hp.le q
  refine pickOf_apply v _ r p hm.symm fun q e => ?_
  rw [hm, h q, h p] at e
  exact hp.first hf q e

theorem RowIs.strike {v : FVec Ideal S1024x2048 .f32} {r : Fin 1024} {f : Fin 2048 → EReal} {S : Finset (Fin 2048)} (h : RowIs v r f S)
    {p : Fin 2048} {w : IVec S1024x1 32} (hw : w (ix2 r 0) = BitVec.ofNat 32 p.val) : RowIs (strikeOf v w cols) r f (insert p S) := by
  intro q
  rw [strikeOf_apply v w r p q hw, h q]
  unfold struck
  by_cases e : q = p
  · rw [if_pos e, if_pos (by rw [e]; exact Finset.mem_insert_self _ _)]
  · rw [if_neg e]
    simp only [Finset.mem_insert, e, false_or]

/-- The three neighbour numbers of a row are the sorted positions one to three, when the greatest value of the row is zero. -/
theorem knnIdx_apply (x0 : Vec Ideal S1x1024x3 .f32) (x1 : Vec Ideal S1x3x2048 .f32) (r : Fin 1024) (f : Fin 2048 → EReal)
    (hx : ∀ q, ndist (fun d => x0 (ix3 0 r d)) (fun d => x1 (ix3 0 d q)) = f q) (hf : ∀ q, f q ≠ ⊥) (h0 : ∀ q, f q ≤ 0) (h1 : ∃ q, f q = 0) :
    knnIdx x0 x1 (ix3 0 r 1) = BitVec.ofNat 32 (sortedFrom (greater f) 1).val ∧
    knnIdx x0 x1 (ix3 0 r 2) = BitVec.ofNat 32 (sortedFrom (greater f) 2).val ∧
    knnIdx x0 x1 (ix3 0 r 3) = BitVec.ofNat 32 (sortedFrom (greater f) 3).val := by
  unfold knnIdx
  obtain ⟨e1, e2, e3⟩ := pay22_apply cols (k0_pay11 (k0_pay10 x0 x1) cols) (k0_pay13 (k0_pay10 x0 x1) cols) (k0_pay16 (k0_pay10 x0 x1) cols) (k0_pay15 (k0_pay10 x0 x1) cols) r
  rw [e1, e2, e3]
  have hr : ∀ q, k0_pay10 x0 x1 (ix2 r q) = f q := fun q => (dist_apply x0 x1 r q).trans (hx q)
  generalize k0_pay10 x0 x1 = v at hr ⊢
  obtain ⟨p11, p12, p13, p15, p16, p19⟩ := pays v cols (k0_pay16 v cols)
  have p19 := (pays (k0_pay15 v cols) cols (k0_pay16 v cols)).2.2.2.2.2
  have b0 := best_sorted f 0
  rw [firsts_zero f 0 rfl] at b0
  have b1 := best_sorted f 1
  rw [firsts_succ f 0 1 rfl, firsts_zero f 0 rfl] at b1
  have b2 := best_sorted f 2
  rw [firsts_succ f 1 2 rfl, firsts_succ f 0 1 rfl, firsts_zero f 0 rfl] at b2
  have b3 := best_sorted f 3
  rw [firsts_succ f 2 3 rfl, firsts_succ f 1 2 rfl, firsts_succ f 0 1 rfl, firsts_zero f 0 rfl] at b3
  have s0 : RowIs v r f ∅ := fun q => (hr q).trans (if_neg (Finset.notMem_empty q)).symm
  have z : f (sortedFrom (greater f) 0) = 0 := by
    obtain ⟨q, hq⟩ := h1
    refine le_antisymm (h0 _) ?_
    rw [← hq]
    have := b0.le q
    unfold struck at this
    simpa using this
  have t0 : k0_pay11 v cols (ix2 r 0) = BitVec.ofNat 32 (sortedFrom (greater f) 0).val := by
    rw [p11]
    have hz : (broadcast S1024x1 (Scalar.ofBits (F := Ideal) .f32 0x00000000#32) : FVec Ideal S1024x1 .f32) (ix2 r 0) = (0 : EReal) := by
      pointwise
    refine pickOf_apply _ _ r _ ?_ fun q e => ?_
    · rw [hr, hz, z]
    · rw [hr, hz] at e
      refine b0.first hf q ?_
      unfold struck
      simp only [Finset.notMem_empty, if_false]
      rw [e, z]
  have s1 := s0.strike t0
  rw [← p12] at s1
  have t1 := s1.pick hf b1
  rw [← p13] at t1
  have s2 := s1.strike t1
  rw [← p15] at s2
  have t2 := s2.pick hf b2
  rw [← p16] at t2
  have s3 := s2.strike t2
  have t3 := s3.pick hf b3
  rw [← p19] at t3
  exact ⟨t1, t2, t3⟩

end Cert.Kernel3Ideal.Hand

end
-- ==== Proof.KnnRef.lean ====
module

public import proofs.«01_k».proof.Proof.Gen.Reference3Ideal.Run
public import proofs.«01_k».proof.Proof.KnnPay
public import Idealize.ShloMosaic.Lib.Pointwise

@[expose] public section

set_option maxRecDepth 16384

noncomputable section

/-! The nearest points as the reference finds them. -/

namespace Cert.Reference3Ideal.Hand

open Cert.Reference3Ideal Cert.Reference3Ideal.Gen Cert.Reference3Ideal.Facts Cert.Knn
open Idealize.ShloMosaic Idealize.ShloMosaic.TcCoe

/-- The negated squared distances of all pairs of points. -/
def dist (x : FVec Ideal S4x2048x3 .f32) : FVec Ideal S4x2048x2048 .f32 :=
  Host.negf (Host.reduceAdd (mulf (subf (broadcastInDim S4x2048x2048x3 ![0, 1, 2, 3] bcast_S4x2048x1x3_S4x2048x2048x3_0_1_2_3 (broadcastInDim S4x2048x1x3 ![0, 1, 3] bcast_S4x2048x3_S4x2048x1x3_0_1_3 x)) (broadcastInDim S4x2048x2048x3 ![0, 1, 2, 3] bcast_S4x1x2048x3_S4x2048x2048x3_0_1_2_3 (broadcastInDim S4x1x2048x3 ![0, 2, 3] bcast_S4x2048x3_S4x1x2048x3_0_2_3 x))) (subf (broadcastInDim S4x2048x2048x3 ![0, 1, 2, 3] bcast_S4x2048x1x3_S4x2048x2048x3_0_1_2_3 (broadcastInDim S4x2048x1x3 ![0, 1, 3] bcast_S4x2048x3_S4x2048x1x3_0_1_3 x)) (broadcastInDim S4x2048x2048x3 ![0, 1, 2, 3] bcast_S4x1x2048x3_S4x2048x2048x3_0_1_2_3 (broadcastInDim S4x1x2048x3 ![0, 2, 3] bcast_S4x2048x3_S4x1x2048x3_0_2_3 x)))) (constant S_ .f32 0x00000000#32) reducesTo_S4x2048x2048x3_S4x2048x2048_d3 h_S_)

theorem dist_apply (x : FVec Ideal S4x2048x3 .f32) (b : Fin 4) (n q : Fin 2048) :
    dist x (ix3 b n q) = Cert.Kernel3Ideal.Hand.ndist (fun d => x (ix3 b n d)) (fun d => x (ix3 b q d)) := by
  unfold dist Cert.Kernel3Ideal.Hand.ndist
  pointwise
  rw [zero_sub]
  exact congrArg (- · : EReal → EReal) (Fin.sum_univ_three _)

theorem gt_eq (a b : EReal) : (FloatOps.cmpfTotal (F := Ideal) (φ := .f32) .gt a b == 1#1) = decide (b < a) := by
  show (BitVec.ofBool (decide (b < a)) == 1#1) = decide (b < a)
  cases decide (b < a) <;> rfl

section
variable {A B N K : ℕ}

theorem along_eq (b : Fin A) (n : Fin B) (q k : Fin N) : Shape.Idx.along (ix3 b n k : (⟨3, ![A, B, N]⟩ : Shape).Idx) (2 : Fin 3) q = ix3 b n q := by
  funext a
  match a with
  | ⟨0, _⟩ => rfl
  | ⟨1, _⟩ => rfl
  | ⟨2, _⟩ => rfl

/-- The positions of the greatest entries of a row are the sorted ones, at any sizes. -/
theorem topK_any (x : FVec Ideal ⟨3, ![A, B, N]⟩ .f32) (h : (⟨3, ![A, B, N]⟩ : Shape).Slices (fun _ => 0) ⟨3, ![A, B, K]⟩) (b : Fin A) (n : Fin B) (k : Fin K) (k' : Fin N) (hk : k'.val = k.val) :
    (Host.topK ⟨3, ![A, B, K]⟩ 2 (FloatOps.cmpfTotal .gt) x h).2 (ix3 b n k) = BitVec.ofNat 32 (sortedFrom (greater fun q => x (ix3 b n q)) k').val := by
  unfold Host.topK Host.sort2
  dsimp only
  rw [dif_pos (by decide)]
  have hs : ∀ y : IVec ⟨3, ![A, B, N]⟩ 32, extractStridedSlice ⟨3, ![A, B, K]⟩ (fun _ => 0) y h (ix3 b n k) = y (ix3 b n k') := by
    intro y
    refine congrArg y (funext fun a => Fin.ext ?_)
    match a with
    | ⟨0, _⟩ => exact Nat.zero_add _
    | ⟨1, _⟩ => exact Nat.zero_add _
    | ⟨2, _⟩ => exact (Nat.zero_add _).trans hk.symm
  rw [hs]
  dsimp only
  rw [dif_pos (by decide)]
  unfold iotaInDim
  refine congrArg (BitVec.ofNat 32) ?_
  refine (congrArg (fun i : (⟨3, ![A, B, N]⟩ : Shape).Idx => (i 2).val) (along_eq b n _ k')).trans ?_
  show (sortedFrom _ k').val = _
  refine congrArg (fun R : Fin N → Fin N → Bool => (sortedFrom R k').val) ?_
  funext p q
  rw [gt_eq]
  have hx : ∀ q : Fin N, x ((ix3 b n k' : (⟨3, ![A, B, N]⟩ : Shape).Idx).along (2 : Fin 3) q) = x (ix3 b n q) := fun q => congrArg x (along_eq b n q k')
  exact congrArg₂ (fun u v : EReal => decide (v < u)) (hx p) (hx q)

end

/-- The positions of the greatest entries of a row are the sorted ones. -/
theorem topK_apply (x : FVec Ideal S4x2048x2048 .f32) (h : S4x2048x2048.Slices (fun _ => 0) S4x2048x4) (b : Fin 4) (n : Fin 2048) (k : Fin 4) (k' : Fin 2048) (hk : k'.val = k.val) :
    (Host.topK S4x2048x4 2 (FloatOps.cmpfTotal .gt) x h).2 (ix3 b n k) = BitVec.ofNat 32 (sortedFrom (greater fun q => x (ix3 b n q)) k').val :=
  topK_any x h b n k k' hk

end Cert.Reference3Ideal.Hand

end
-- ==== Proof.KnnPre.lean ====
module

public import proofs.«01_k».proof.Proof.Gen.Pre_knn_pre
public import proofs.«01_k».proof.Proof.OutPre

@[expose] public section

set_option maxRecDepth 16384

noncomputable section

/-! The precondition of the first call, spelled out. -/

namespace Cert.KnnPre

open Cert.Pre_knn_pre Cert.Pre_knn_pre.Facts Idealize.ShloMosaic Cert.OutPre

instance : Subsingleton S_.Idx := ⟨fun a b => funext fun k => k.elim0⟩

variable [Cert.Pre_knn_pre.Facts]

/-- Every feature and every coordinate is a real number. -/
theorem real_of_pre {f : FVec Ideal S4x128x2048 .f32} {x : FVec Ideal S4x2048x3 .f32} (h : Cert.Pre_knn_pre.fn (F := Ideal) f x = fun _ => 1#1) :
    (∀ i, ∃ r : ℝ, f i = (r : EReal)) ∧ ∀ i, ∃ r : ℝ, x i = (r : EReal) := by
  have h0 := congrFun h ix0
  unfold Cert.Pre_knn_pre.fn at h0
  obtain ⟨hf, hx⟩ := IntOp.andi_eq_one.1 h0
  refine ⟨fun i => ?_, fun i => ?_⟩
  · have e' : max (f i) (-(f i)) < Ideal.ofBits .f32 0x7F800000#32 := bit_lt (Host.reduce_andi_all _ _ _ _ _ hf i)
    rw [ofBits_inf] at e'
    exact real_of_abs_lt e'
  · have e' : max (x i) (-(x i)) < Ideal.ofBits .f32 0x7F800000#32 := bit_lt (Host.reduce_andi_all _ _ _ _ _ hx i)
    rw [ofBits_inf] at e'
    exact real_of_abs_lt e'

end Cert.KnnPre

end
-- ==== Proof.KnnEq.lean ====
module

public import proofs.«01_k».proof.Proof.KnnBlk
public import proofs.«01_k».proof.Proof.KnnRef
public import proofs.«01_k».proof.Proof.KnnPre

@[expose] public section

set_option maxRecDepth 16384

noncomputable section

/-! The first call's neighbour numbers are the reference's. -/

namespace Cert.KnnEq

open Idealize.ShloMosaic Idealize.ShloMosaic.TcCoe Cert.Kernel3Ideal.Hand Cert.Knn

/-- The negated squared distance of two real points. -/
theorem ndist_real (a b : Fin 3 → ℝ) : ndist (fun d => (a d : EReal)) (fun d => (b d : EReal))
    = ((-((a 0 - b 0) * (a 0 - b 0) + (a 1 - b 1) * (a 1 - b 1) + (a 2 - b 2) * (a 2 - b 2)) : ℝ) : EReal) := by
  unfold ndist
  rw [zero_sub]
  norm_cast

/-- The row of negated distances of point `n` of batch `b`. -/
def row (x : FVec Ideal Cert.Kernel3Ideal.S4x2048x3 .f32) (b : Fin 4) (n q : Fin 2048) : EReal := ndist (fun d => x (ix3 b n d)) (fun d => x (ix3 b q d))

section
variable {x : FVec Ideal Cert.Kernel3Ideal.S4x2048x3 .f32} (hx : ∀ i, ∃ r : ℝ, x i = (r : EReal)) (b : Fin 4) (n : Fin 2048)
include hx

theorem row_real (q : Fin 2048) : ∃ a c : Fin 3 → ℝ, (∀ d, x (ix3 b n d) = (a d : EReal)) ∧ (∀ d, x (ix3 b q d) = (c d : EReal)) := by
  choose f hf using hx
  exact ⟨fun d => f (ix3 b n d), fun d => f (ix3 b q d), fun d => hf _, fun d => hf _⟩

theorem row_ne_bot (q : Fin 2048) : row x b n q ≠ ⊥ := by
  obtain ⟨a, c, ha, hc⟩ := row_real hx b n q
  unfold row
  rw [funext ha, funext hc, ndist_real]
  exact EReal.coe_ne_bot _

theorem row_le (q : Fin 2048) : row x b n q ≤ 0 := by
  obtain ⟨a, c, ha, hc⟩ := row_real hx b n q
  unfold row
  rw [funext ha, funext hc, ndist_real]
  have : -((a 0 - c 0) * (a 0 - c 0) + (a 1 - c 1) * (a 1 - c 1) + (a 2 - c 2) * (a 2 - c 2)) ≤ 0 := by
    nlinarith [mul_self_nonneg (a 0 - c 0), mul_self_nonneg (a 1 - c 1), mul_self_nonneg (a 2 - c 2)]
  exact_mod_cast this

theorem row_self : row x b n n = 0 := by
  choose f hf using hx
  unfold row
  rw [funext fun d => hf (ix3 b n d), ndist_real]
  norm_num

end

section
open Cert.Kernel3Ideal Cert.Kernel3Ideal.Gen
variable (m : (ℓ : Loc nD τ sig) → Buf (Elt Ideal) ℓ)

/-- A neighbour number of the run, at a point. -/
theorem resIdx_apply (c : Dev nD) (hx : ∀ i, ∃ r : ℝ, (m ((c : Thread nD τ).loc main_arg1) : FVec Ideal S4x2048x3 .f32) i = (r : EReal)) (b : Fin 4) (n : Fin 2048) :
    resIdx m c (ix3 b n 0) = BitVec.ofNat 32 (sortedFrom (greater (row (m ((c : Thread nD τ).loc main_arg1)) b n)) 1).val ∧
    resIdx m c (ix3 b n 1) = BitVec.ofNat 32 (sortedFrom (greater (row (m ((c : Thread nD τ).loc main_arg1)) b n)) 2).val ∧
    resIdx m c (ix3 b n 2) = BitVec.ofNat 32 (sortedFrom (greater (row (m ((c : Thread nD τ).loc main_arg1)) b n)) 3).val := by
  have hN : cfg0.N = 8 := N_0
  have hb := b.isLt
  have hn := n.isLt
  let t : Fin cfg0.N := ⟨b.val * 2 + n.val / 1024, by rw [hN]; omega⟩
  let r : Fin 1024 := ⟨n.val % 1024, Nat.mod_lt _ (by decide)⟩
  have htb : b.val = t.val / 2 := by show b.val = (b.val * 2 + n.val / 1024) / 2; omega
  have htn : n.val = (t.val % 2) * 1024 + r.val := by show n.val = ((b.val * 2 + n.val / 1024) % 2) * 1024 + n.val % 1024; omega
  have hk := knnIdx_apply (iblk m c 0 t) (iblk m c 1 t) r (row (m ((c : Thread nD τ).loc main_arg1)) b n)
    (fun q => congrArg₂ ndist (funext fun d => blk_0 m c t b r n d htb htn) (funext fun d => blk_1 m c t b q d htb))
    (row_ne_bot hx b n) (row_le hx b n) ⟨n, row_self hx b n⟩
  have hs : ∀ (j : Fin 3) (k : Fin 8), k.val = 1 + j.val → resIdx m c (ix3 b n j) = knnIdx (iblk m c 0 t) (iblk m c 1 t) (ix3 0 r k) := by
    intro j k hjk
    refine Eq.trans ?_ (arr_4 m c t b r n k htb htn)
    unfold resIdx
    refine congrArg ((dats m 0 c).arrAt 4 cfg0.N : Vec Ideal S4x2048x8 .i32) (funext fun a => Fin.ext ?_)
    match a with
    | ⟨0, _⟩ => exact Nat.zero_add _
    | ⟨1, _⟩ => exact Nat.zero_add _
    | ⟨2, _⟩ => exact hjk.symm
  exact ⟨(hs 0 1 rfl).trans hk.1, (hs 1 2 rfl).trans hk.2.1, (hs 2 3 rfl).trans hk.2.2⟩

end

/-- The reference's neighbour numbers at a point. -/
theorem ref_apply (x : FVec Ideal Cert.Reference3Ideal.S4x2048x3 .f32) (h : Cert.Reference3Ideal.S4x2048x2048.Slices (fun _ => 0) Cert.Reference3Ideal.S4x2048x4)
    (h' : Cert.Reference3Ideal.S4x2048x4.Slices ![0, 0, 1] Cert.Reference3Ideal.S4x2048x3) (b : Fin 4) (n : Fin 2048) (j : Fin 3) (k : Fin 2048) (hk : k.val = 1 + j.val) :
    extractStridedSlice Cert.Reference3Ideal.S4x2048x3 ![0, 0, 1] (Host.topK Cert.Reference3Ideal.S4x2048x4 2 (FloatOps.cmpfTotal .gt) (Cert.Reference3Ideal.Hand.dist x) h).2 h' (ix3 b n j)
      = BitVec.ofNat 32 (sortedFrom (greater (row x b n)) k).val := by
  have hj := j.isLt
  have e : ∀ y : IVec Cert.Reference3Ideal.S4x2048x4 32, extractStridedSlice Cert.Reference3Ideal.S4x2048x3 ![0, 0, 1] y h' (ix3 b n j) = y (ix3 b n ⟨1 + j.val, by omega⟩) := by
    intro y
    refine congrArg y (funext fun a => Fin.ext ?_)
    match a with
    | ⟨0, _⟩ => exact Nat.zero_add _
    | ⟨1, _⟩ => exact Nat.zero_add _
    | ⟨2, _⟩ => rfl
  rw [e, Cert.Reference3Ideal.Hand.topK_apply _ h b n _ k hk]
  exact congrArg (fun f : Fin 2048 → EReal => BitVec.ofNat 32 (sortedFrom (greater f) k).val) (funext fun q => Cert.Reference3Ideal.Hand.dist_apply x b n q)

end Cert.KnnEq

end
-- ==== Proof.KnnRunX.lean ====
module

public import proofs.«01_k».proof.Proof.KnnRun
public import Idealize.ShloMosaic.Lib.Pipeline.Value
public import Idealize.ShloMosaic.Lib.Pipeline.ValueKit
public import Idealize.ShloMosaic.Lib.Pipeline.ValueKit.Point
public import Idealize.ShloMosaic.Lib.VecWindow
public import Idealize.ShloMosaic.Lib.WholeRead

@[expose] public section

set_option maxRecDepth 16384

noncomputable section

/-! What a point of the first call's grid stores: the rows of sums of pairs of features, their sum and their second moments, and the three scratch arrays. -/

namespace Cert.Kernel3Ideal.Hand

open Cert.Kernel3Ideal Cert.Kernel3Ideal.Gen
open Idealize.ShloMosaic Idealize.ShloMosaic.TcCoe Idealize.ShloMosaic.Tactic

variable {F : FTy → Type} [FloatOps F]

/-- The rows of the block of points at a grid point. -/
def knnQ (i : grid0.Coords) (T : Vec F S2048x128 .f32) : Vec F S1024x128 .f32 :=
  fun y => T ((Rect.unit (s := S2048x128) (k0_off1 i) S1024x128.size (k0_off1_inb i)).toLoadRect.idx y)

theorem readAt_q {v : View sig .tc .vmem S2048x128 .f32} (f : v.ty.Contents (Elt F)) (i : grid0.Coords) :
    v.readAt (Elt F) (Rect.unit (s := S2048x128) (k0_off1 i) S1024x128.size (k0_off1_inb i)).toLoadRect f = knnQ i (v.read (Elt F) f) := rfl

/-- The rows of the block of points, each added to its first, second and third neighbour's. -/
def nb1 (d : FVec F S1024x2048 .f32) (q : Vec F S1024x128 .f32) (H L : Vec F S2048x128 .bf16) : FVec F S1024x128 .f32 := k0_pay14 d cols q H L
def nb2 (d : FVec F S1024x2048 .f32) (q : Vec F S1024x128 .f32) (H L : Vec F S2048x128 .bf16) : FVec F S1024x128 .f32 := k0_pay18 q H L (k0_pay17 d cols)
def nb3 (d : FVec F S1024x2048 .f32) (q : Vec F S1024x128 .f32) (H L : Vec F S2048x128 .bf16) : FVec F S1024x128 .f32 := k0_pay20 cols q H L (k0_pay15 d cols) (k0_pay16 d cols)

/-- The block of rows. -/
def knnX (d : FVec F S1024x2048 .f32) (q : Vec F S1024x128 .f32) (H L : Vec F S2048x128 .bf16) : FVec F S3072x128 .f32 :=
  k0_pay21 cols q H L (nb1 d q H L) (k0_pay15 d cols) (k0_pay16 d cols) (k0_pay17 d cols)
/-- The sum of the rows, added to what was there. -/
def knnMu (d : FVec F S1024x2048 .f32) (q : Vec F S1024x128 .f32) (H L : Vec F S2048x128 .bf16) (acc : Vec F S1x128 .f32) : FVec F S1x128 .f32 :=
  k0_pay1 (k0_pay23 acc) (k0_pay24 cols q H L (nb1 d q H L) (k0_pay15 d cols) (k0_pay16 d cols) (k0_pay17 d cols))
/-- The second moments of the rows, added to what was there. -/
def knnS (d : FVec F S1024x2048 .f32) (q : Vec F S1024x128 .f32) (H L : Vec F S2048x128 .bf16) (acc : Vec F S128x128 .f32) : FVec F S128x128 .f32 :=
  k0_pay2 (nb1 d q H L) (nb2 d q H L) (nb3 d q H L) acc

set_option maxHeartbeats 4000000 in
theorem out0_A_3_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : cond0_0 i) (hc1 : cond0_1 i)
    (x0 : Vec F S1x1024x3 .f32) (x1 : Vec F S1x3x2048 .f32) (x2 : Vec F S1x128x2048 .f32) :
    out0_A_3 c i arg2 harg2 arg3 harg3 arg4 harg4 arg5 harg5 arg6 harg6 arg7 harg7 arg8 harg8 arg9 harg9 arg10 harg10 arg11 harg11 hc0 hc1 x0 x1 x2 = knnX (k0_pay10 x0 x1) (knnQ i (k0_pay6 x2)) (k0_pay8 x2) (k0_pay9 x2) := by
  unfold out0_A_3
  delta kernelRun0_A
  dsimp only
  try delta kernelRun0_A.sl.r_14
  try delta kernelRun0_A.sl.r_13
  try delta kernelRun0_A.sl.r_12
  try delta kernelRun0_A.sl.r_11
  try delta kernelRun0_A.sl.r_10
  try delta kernelRun0_A.sl.r_9
  try delta kernelRun0_A.sl.r_8
  try delta kernelRun0_A.sl.r_7
  try delta kernelRun0_A.sl.r_6
  try delta kernelRun0_A.sl.r_5
  try delta kernelRun0_A.sl.r_4
  try delta kernelRun0_A.sl.r_3
  try delta kernelRun0_A.sl.r_2
  try delta kernelRun0_A.sl.r_1
  try delta kernelRun0_A.sl.r
  try delta kernelRun0_A.sl.v71
  try delta kernelRun0_A.sl.v58
  try delta kernelRun0_A.sl.v46
  try delta kernelRun0_A.sl.v34
  try delta kernelRun0_A.sl.v33
  try delta kernelRun0_A.sl.v34
  try delta kernelRun0_A.sl.v10
  try delta kernelRun0_A.sl.v9
  try delta kernelRun0_A.sl.v8
  try delta kernelRun0_A.sl.v7
  try delta kernelRun0_A.sl.v6
  try delta kernelRun0_A.sl.v5
  try delta kernelRun0_A.sl.v4
  try delta kernelRun0_A.sl.v3
  try delta kernelRun0_A.sl.v2
  try delta kernelRun0_A.sl.v1
  try delta kernelRun0_A.sl.v0
  try delta kernelRun0_A.sl.H0_1
  try delta kernelRun0_A.sl.H1_1
  try delta kernelRun0_A.sl.H2_1
  try delta kernelRun0_A.sl.HS0_1
  try delta kernelRun0_A.sl.v88
  try delta kernelRun0_A.sl.v109
  try delta kernelRun0_A.sl.v67
  try delta kernelRun0_A.sl.v124
  try delta kernelRun0_A.sl.v125
  try delta kernelRun0_A.sl.v128
  try delta kernelRun0_A.sl.v134
  try delta kernelRun0_A.sl.v123
  try delta kernelRun0_A.sl.v38
  try delta kernelRun0_A.sl.v39
  try delta kernelRun0_A.sl.v37
  try delta kernelRun0_A.sl.HS1_1
  try delta kernelRun0_A.sl.HS2_1
  try delta kernelRun0_A.sl.HS0_1
  try delta kernelRun0_A.sl.H5_2
  try delta kernelRun0_A.sl.H6_2
  try delta kernelRun0_A.sl.H5_1
  try delta kernelRun0_A.sl.H6_1
  simp (config := { index := false }) only [View.read_writes_full, View.readCov_full, readAt_q, View.readAt_full, Memref.IsWhole.read_unread]
  rfl

set_option maxHeartbeats 4000000 in
theorem out0_A_5_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : cond0_0 i) (hc1 : cond0_1 i)
    (x0 : Vec F S1x1024x3 .f32) (x1 : Vec F S1x3x2048 .f32) (x2 : Vec F S1x128x2048 .f32) :
    out0_A_5 c i arg2 harg2 arg3 harg3 arg4 harg4 arg5 harg5 arg6 harg6 arg7 harg7 arg8 harg8 arg9 harg9 arg10 harg10 arg11 harg11 hc0 hc1 x0 x1 x2 = knnMu (k0_pay10 x0 x1) (knnQ i (k0_pay6 x2)) (k0_pay8 x2) (k0_pay9 x2) (k0_pay3 (F := F)) := by
  unfold out0_A_5
  delta kernelRun0_A
  dsimp only
  try delta kernelRun0_A.sl.r_14
  try delta kernelRun0_A.sl.r_13
  try delta kernelRun0_A.sl.r_12
  try delta kernelRun0_A.sl.r_11
  try delta kernelRun0_A.sl.r_10
  try delta kernelRun0_A.sl.r_9
  try delta kernelRun0_A.sl.r_8
  try delta kernelRun0_A.sl.r_7
  try delta kernelRun0_A.sl.r_6
  try delta kernelRun0_A.sl.r_5
  try delta kernelRun0_A.sl.r_4
  try delta kernelRun0_A.sl.r_3
  try delta kernelRun0_A.sl.r_2
  try delta kernelRun0_A.sl.r_1
  try delta kernelRun0_A.sl.r
  try delta kernelRun0_A.sl.v71
  try delta kernelRun0_A.sl.v58
  try delta kernelRun0_A.sl.v46
  try delta kernelRun0_A.sl.v34
  try delta kernelRun0_A.sl.v33
  try delta kernelRun0_A.sl.v34
  try delta kernelRun0_A.sl.v10
  try delta kernelRun0_A.sl.v9
  try delta kernelRun0_A.sl.v8
  try delta kernelRun0_A.sl.v7
  try delta kernelRun0_A.sl.v6
  try delta kernelRun0_A.sl.v5
  try delta kernelRun0_A.sl.v4
  try delta kernelRun0_A.sl.v3
  try delta kernelRun0_A.sl.v2
  try delta kernelRun0_A.sl.v1
  try delta kernelRun0_A.sl.v0
  try delta kernelRun0_A.sl.H0_1
  try delta kernelRun0_A.sl.H1_1
  try delta kernelRun0_A.sl.H2_1
  try delta kernelRun0_A.sl.HS0_1
  try delta kernelRun0_A.sl.v88
  try delta kernelRun0_A.sl.v109
  try delta kernelRun0_A.sl.v67
  try delta kernelRun0_A.sl.v124
  try delta kernelRun0_A.sl.v125
  try delta kernelRun0_A.sl.v128
  try delta kernelRun0_A.sl.v134
  try delta kernelRun0_A.sl.v123
  try delta kernelRun0_A.sl.v38
  try delta kernelRun0_A.sl.v39
  try delta kernelRun0_A.sl.v37
  try delta kernelRun0_A.sl.HS1_1
  try delta kernelRun0_A.sl.HS2_1
  try delta kernelRun0_A.sl.HS0_1
  try delta kernelRun0_A.sl.H5_2
  try delta kernelRun0_A.sl.H6_2
  try delta kernelRun0_A.sl.H5_1
  try delta kernelRun0_A.sl.H6_1
  simp (config := { index := false }) only [View.read_writes_full, View.readCov_full, readAt_q, View.readAt_full, Memref.IsWhole.read_unread]
  rfl

set_option maxHeartbeats 4000000 in
theorem out0_A_6_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : cond0_0 i) (hc1 : cond0_1 i)
    (x0 : Vec F S1x1024x3 .f32) (x1 : Vec F S1x3x2048 .f32) (x2 : Vec F S1x128x2048 .f32) :
    out0_A_6 c i arg2 harg2 arg3 harg3 arg4 harg4 arg5 harg5 arg6 harg6 arg7 harg7 arg8 harg8 arg9 harg9 arg10 harg10 arg11 harg11 hc0 hc1 x0 x1 x2 = knnS (k0_pay10 x0 x1) (knnQ i (k0_pay6 x2)) (k0_pay8 x2) (k0_pay9 x2) (k0_pay4 (F := F)) := by
  unfold out0_A_6
  delta kernelRun0_A
  dsimp only
  try delta kernelRun0_A.sl.r_14
  try delta kernelRun0_A.sl.r_13
  try delta kernelRun0_A.sl.r_12
  try delta kernelRun0_A.sl.r_11
  try delta kernelRun0_A.sl.r_10
  try delta kernelRun0_A.sl.r_9
  try delta kernelRun0_A.sl.r_8
  try delta kernelRun0_A.sl.r_7
  try delta kernelRun0_A.sl.r_6
  try delta kernelRun0_A.sl.r_5
  try delta kernelRun0_A.sl.r_4
  try delta kernelRun0_A.sl.r_3
  try delta kernelRun0_A.sl.r_2
  try delta kernelRun0_A.sl.r_1
  try delta kernelRun0_A.sl.r
  try delta kernelRun0_A.sl.v71
  try delta kernelRun0_A.sl.v58
  try delta kernelRun0_A.sl.v46
  try delta kernelRun0_A.sl.v34
  try delta kernelRun0_A.sl.v33
  try delta kernelRun0_A.sl.v34
  try delta kernelRun0_A.sl.v10
  try delta kernelRun0_A.sl.v9
  try delta kernelRun0_A.sl.v8
  try delta kernelRun0_A.sl.v7
  try delta kernelRun0_A.sl.v6
  try delta kernelRun0_A.sl.v5
  try delta kernelRun0_A.sl.v4
  try delta kernelRun0_A.sl.v3
  try delta kernelRun0_A.sl.v2
  try delta kernelRun0_A.sl.v1
  try delta kernelRun0_A.sl.v0
  try delta kernelRun0_A.sl.H0_1
  try delta kernelRun0_A.sl.H1_1
  try delta kernelRun0_A.sl.H2_1
  try delta kernelRun0_A.sl.HS0_1
  try delta kernelRun0_A.sl.v88
  try delta kernelRun0_A.sl.v109
  try delta kernelRun0_A.sl.v67
  try delta kernelRun0_A.sl.v124
  try delta kernelRun0_A.sl.v125
  try delta kernelRun0_A.sl.v128
  try delta kernelRun0_A.sl.v134
  try delta kernelRun0_A.sl.v123
  try delta kernelRun0_A.sl.v38
  try delta kernelRun0_A.sl.v39
  try delta kernelRun0_A.sl.v37
  try delta kernelRun0_A.sl.HS1_1
  try delta kernelRun0_A.sl.HS2_1
  try delta kernelRun0_A.sl.HS0_1
  try delta kernelRun0_A.sl.H5_2
  try delta kernelRun0_A.sl.H6_2
  try delta kernelRun0_A.sl.H5_1
  try delta kernelRun0_A.sl.H6_1
  simp (config := { index := false }) only [View.read_writes_full, View.readCov_full, readAt_q, View.readAt_full, Memref.IsWhole.read_unread]
  rfl

set_option maxHeartbeats 4000000 in
theorem sout0_A_0_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : cond0_0 i) (hc1 : cond0_1 i)
    (x0 : Vec F S1x1024x3 .f32) (x1 : Vec F S1x3x2048 .f32) (x2 : Vec F S1x128x2048 .f32) :
    sout0_A_0 c i arg2 harg2 arg3 harg3 arg4 harg4 arg5 harg5 arg6 harg6 arg7 harg7 arg8 harg8 arg9 harg9 arg10 harg10 arg11 harg11 hc0 hc1 x0 x1 x2 = k0_pay6 x2 := by
  unfold sout0_A_0
  delta kernelRun0_A
  dsimp only
  try delta kernelRun0_A.sl.r_14
  try delta kernelRun0_A.sl.r_13
  try delta kernelRun0_A.sl.r_12
  try delta kernelRun0_A.sl.r_11
  try delta kernelRun0_A.sl.r_10
  try delta kernelRun0_A.sl.r_9
  try delta kernelRun0_A.sl.r_8
  try delta kernelRun0_A.sl.r_7
  try delta kernelRun0_A.sl.r_6
  try delta kernelRun0_A.sl.r_5
  try delta kernelRun0_A.sl.r_4
  try delta kernelRun0_A.sl.r_3
  try delta kernelRun0_A.sl.r_2
  try delta kernelRun0_A.sl.r_1
  try delta kernelRun0_A.sl.r
  try delta kernelRun0_A.sl.v71
  try delta kernelRun0_A.sl.v58
  try delta kernelRun0_A.sl.v46
  try delta kernelRun0_A.sl.v34
  try delta kernelRun0_A.sl.v33
  try delta kernelRun0_A.sl.v34
  try delta kernelRun0_A.sl.v10
  try delta kernelRun0_A.sl.v9
  try delta kernelRun0_A.sl.v8
  try delta kernelRun0_A.sl.v7
  try delta kernelRun0_A.sl.v6
  try delta kernelRun0_A.sl.v5
  try delta kernelRun0_A.sl.v4
  try delta kernelRun0_A.sl.v3
  try delta kernelRun0_A.sl.v2
  try delta kernelRun0_A.sl.v1
  try delta kernelRun0_A.sl.v0
  try delta kernelRun0_A.sl.H0_1
  try delta kernelRun0_A.sl.H1_1
  try delta kernelRun0_A.sl.H2_1
  try delta kernelRun0_A.sl.HS0_1
  try delta kernelRun0_A.sl.v88
  try delta kernelRun0_A.sl.v109
  try delta kernelRun0_A.sl.v67
  try delta kernelRun0_A.sl.v124
  try delta kernelRun0_A.sl.v125
  try delta kernelRun0_A.sl.v128
  try delta kernelRun0_A.sl.v134
  try delta kernelRun0_A.sl.v123
  try delta kernelRun0_A.sl.v38
  try delta kernelRun0_A.sl.v39
  try delta kernelRun0_A.sl.v37
  try delta kernelRun0_A.sl.HS1_1
  try delta kernelRun0_A.sl.HS2_1
  try delta kernelRun0_A.sl.HS0_1
  try delta kernelRun0_A.sl.H5_2
  try delta kernelRun0_A.sl.H6_2
  try delta kernelRun0_A.sl.H5_1
  try delta kernelRun0_A.sl.H6_1
  simp (config := { index := false }) only [View.read_writes_full, View.readCov_full, readAt_q, View.readAt_full, Memref.IsWhole.read_unread]

set_option maxHeartbeats 4000000 in
theorem sout0_A_1_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : cond0_0 i) (hc1 : cond0_1 i)
    (x0 : Vec F S1x1024x3 .f32) (x1 : Vec F S1x3x2048 .f32) (x2 : Vec F S1x128x2048 .f32) :
    sout0_A_1 c i arg2 harg2 arg3 harg3 arg4 harg4 arg5 harg5 arg6 harg6 arg7 harg7 arg8 harg8 arg9 harg9 arg10 harg10 arg11 harg11 hc0 hc1 x0 x1 x2 = k0_pay8 x2 := by
  unfold sout0_A_1
  delta kernelRun0_A
  dsimp only
  try delta kernelRun0_A.sl.r_14
  try delta kernelRun0_A.sl.r_13
  try delta kernelRun0_A.sl.r_12
  try delta kernelRun0_A.sl.r_11
  try delta kernelRun0_A.sl.r_10
  try delta kernelRun0_A.sl.r_9
  try delta kernelRun0_A.sl.r_8
  try delta kernelRun0_A.sl.r_7
  try delta kernelRun0_A.sl.r_6
  try delta kernelRun0_A.sl.r_5
  try delta kernelRun0_A.sl.r_4
  try delta kernelRun0_A.sl.r_3
  try delta kernelRun0_A.sl.r_2
  try delta kernelRun0_A.sl.r_1
  try delta kernelRun0_A.sl.r
  try delta kernelRun0_A.sl.v71
  try delta kernelRun0_A.sl.v58
  try delta kernelRun0_A.sl.v46
  try delta kernelRun0_A.sl.v34
  try delta kernelRun0_A.sl.v33
  try delta kernelRun0_A.sl.v34
  try delta kernelRun0_A.sl.v10
  try delta kernelRun0_A.sl.v9
  try delta kernelRun0_A.sl.v8
  try delta kernelRun0_A.sl.v7
  try delta kernelRun0_A.sl.v6
  try delta kernelRun0_A.sl.v5
  try delta kernelRun0_A.sl.v4
  try delta kernelRun0_A.sl.v3
  try delta kernelRun0_A.sl.v2
  try delta kernelRun0_A.sl.v1
  try delta kernelRun0_A.sl.v0
  try delta kernelRun0_A.sl.H0_1
  try delta kernelRun0_A.sl.H1_1
  try delta kernelRun0_A.sl.H2_1
  try delta kernelRun0_A.sl.HS0_1
  try delta kernelRun0_A.sl.v88
  try delta kernelRun0_A.sl.v109
  try delta kernelRun0_A.sl.v67
  try delta kernelRun0_A.sl.v124
  try delta kernelRun0_A.sl.v125
  try delta kernelRun0_A.sl.v128
  try delta kernelRun0_A.sl.v134
  try delta kernelRun0_A.sl.v123
  try delta kernelRun0_A.sl.v38
  try delta kernelRun0_A.sl.v39
  try delta kernelRun0_A.sl.v37
  try delta kernelRun0_A.sl.HS1_1
  try delta kernelRun0_A.sl.HS2_1
  try delta kernelRun0_A.sl.HS0_1
  try delta kernelRun0_A.sl.H5_2
  try delta kernelRun0_A.sl.H6_2
  try delta kernelRun0_A.sl.H5_1
  try delta kernelRun0_A.sl.H6_1
  simp (config := { index := false }) only [View.read_writes_full, View.readCov_full, readAt_q, View.readAt_full, Memref.IsWhole.read_unread]

set_option maxHeartbeats 4000000 in
theorem sout0_A_2_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : cond0_0 i) (hc1 : cond0_1 i)
    (x0 : Vec F S1x1024x3 .f32) (x1 : Vec F S1x3x2048 .f32) (x2 : Vec F S1x128x2048 .f32) :
    sout0_A_2 c i arg2 harg2 arg3 harg3 arg4 harg4 arg5 harg5 arg6 harg6 arg7 harg7 arg8 harg8 arg9 harg9 arg10 harg10 arg11 harg11 hc0 hc1 x0 x1 x2 = k0_pay9 x2 := by
  unfold sout0_A_2
  delta kernelRun0_A
  dsimp only
  try delta kernelRun0_A.sl.r_14
  try delta kernelRun0_A.sl.r_13
  try delta kernelRun0_A.sl.r_12
  try delta kernelRun0_A.sl.r_11
  try delta kernelRun0_A.sl.r_10
  try delta kernelRun0_A.sl.r_9
  try delta kernelRun0_A.sl.r_8
  try delta kernelRun0_A.sl.r_7
  try delta kernelRun0_A.sl.r_6
  try delta kernelRun0_A.sl.r_5
  try delta kernelRun0_A.sl.r_4
  try delta kernelRun0_A.sl.r_3
  try delta kernelRun0_A.sl.r_2
  try delta kernelRun0_A.sl.r_1
  try delta kernelRun0_A.sl.r
  try delta kernelRun0_A.sl.v71
  try delta kernelRun0_A.sl.v58
  try delta kernelRun0_A.sl.v46
  try delta kernelRun0_A.sl.v34
  try delta kernelRun0_A.sl.v33
  try delta kernelRun0_A.sl.v34
  try delta kernelRun0_A.sl.v10
  try delta kernelRun0_A.sl.v9
  try delta kernelRun0_A.sl.v8
  try delta kernelRun0_A.sl.v7
  try delta kernelRun0_A.sl.v6
  try delta kernelRun0_A.sl.v5
  try delta kernelRun0_A.sl.v4
  try delta kernelRun0_A.sl.v3
  try delta kernelRun0_A.sl.v2
  try delta kernelRun0_A.sl.v1
  try delta kernelRun0_A.sl.v0
  try delta kernelRun0_A.sl.H0_1
  try delta kernelRun0_A.sl.H1_1
  try delta kernelRun0_A.sl.H2_1
  try delta kernelRun0_A.sl.HS0_1
  try delta kernelRun0_A.sl.v88
  try delta kernelRun0_A.sl.v109
  try delta kernelRun0_A.sl.v67
  try delta kernelRun0_A.sl.v124
  try delta kernelRun0_A.sl.v125
  try delta kernelRun0_A.sl.v128
  try delta kernelRun0_A.sl.v134
  try delta kernelRun0_A.sl.v123
  try delta kernelRun0_A.sl.v38
  try delta kernelRun0_A.sl.v39
  try delta kernelRun0_A.sl.v37
  try delta kernelRun0_A.sl.HS1_1
  try delta kernelRun0_A.sl.HS2_1
  try delta kernelRun0_A.sl.HS0_1
  try delta kernelRun0_A.sl.H5_2
  try delta kernelRun0_A.sl.H6_2
  try delta kernelRun0_A.sl.H5_1
  try delta kernelRun0_A.sl.H6_1
  simp (config := { index := false }) only [View.read_writes_full, View.readCov_full, readAt_q, View.readAt_full, Memref.IsWhole.read_unread]

set_option maxHeartbeats 4000000 in
theorem out0_B_3_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : ¬cond0_1 i)
    (x0 : Vec F S1x1024x3 .f32) (x1 : Vec F S1x3x2048 .f32) (x2 : Vec F S1x128x2048 .f32) (xo5 : Vec F S1x128 .f32) (xo6 : Vec F S128x128 .f32) (xs0 : Vec F S2048x128 .f32) (xs1 : Vec F S2048x128 .bf16) (xs2 : Vec F S2048x128 .bf16) :
    out0_B_3 c i arg2 harg2 arg3 harg3 arg4 harg4 arg5 harg5 arg6 harg6 arg7 harg7 arg8 harg8 arg9 harg9 arg10 harg10 arg11 harg11 hc0 hc1 x0 x1 x2 xo5 xo6 xs0 xs1 xs2 = knnX (k0_pay10 x0 x1) (knnQ i xs0) xs1 xs2 := by
  unfold out0_B_3
  delta kernelRun0_B
  dsimp only
  try delta kernelRun0_B.sl.r_14
  try delta kernelRun0_B.sl.r_13
  try delta kernelRun0_B.sl.r_12
  try delta kernelRun0_B.sl.r_11
  try delta kernelRun0_B.sl.r_10
  try delta kernelRun0_B.sl.r_9
  try delta kernelRun0_B.sl.r_8
  try delta kernelRun0_B.sl.r_7
  try delta kernelRun0_B.sl.r_6
  try delta kernelRun0_B.sl.r_5
  try delta kernelRun0_B.sl.r_4
  try delta kernelRun0_B.sl.r_3
  try delta kernelRun0_B.sl.r_2
  try delta kernelRun0_B.sl.r_1
  try delta kernelRun0_B.sl.r
  try delta kernelRun0_B.sl.v71
  try delta kernelRun0_B.sl.v58
  try delta kernelRun0_B.sl.v46
  try delta kernelRun0_B.sl.v34
  try delta kernelRun0_B.sl.v33
  try delta kernelRun0_B.sl.v34
  try delta kernelRun0_B.sl.v10
  try delta kernelRun0_B.sl.v9
  try delta kernelRun0_B.sl.v8
  try delta kernelRun0_B.sl.v7
  try delta kernelRun0_B.sl.v6
  try delta kernelRun0_B.sl.v5
  try delta kernelRun0_B.sl.v4
  try delta kernelRun0_B.sl.v3
  try delta kernelRun0_B.sl.v2
  try delta kernelRun0_B.sl.v1
  try delta kernelRun0_B.sl.v0
  try delta kernelRun0_B.sl.H0_1
  try delta kernelRun0_B.sl.H1_1
  try delta kernelRun0_B.sl.H2_1
  try delta kernelRun0_B.sl.HS0_1
  try delta kernelRun0_B.sl.v88
  try delta kernelRun0_B.sl.v109
  try delta kernelRun0_B.sl.v67
  try delta kernelRun0_B.sl.v124
  try delta kernelRun0_B.sl.v125
  try delta kernelRun0_B.sl.v128
  try delta kernelRun0_B.sl.v134
  try delta kernelRun0_B.sl.v123
  try delta kernelRun0_B.sl.v38
  try delta kernelRun0_B.sl.v39
  try delta kernelRun0_B.sl.v37
  try delta kernelRun0_B.sl.HS1_1
  try delta kernelRun0_B.sl.HS2_1
  try delta kernelRun0_B.sl.HS0_1
  try delta kernelRun0_B.sl.H5_2
  try delta kernelRun0_B.sl.H6_2
  try delta kernelRun0_B.sl.H5_1
  try delta kernelRun0_B.sl.H6_1
  simp (config := { index := false }) only [View.read_writes_full, View.readCov_full, readAt_q, View.readAt_full, Memref.IsWhole.read_unread]
  rfl

set_option maxHeartbeats 4000000 in
theorem out0_B_5_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : ¬cond0_1 i)
    (x0 : Vec F S1x1024x3 .f32) (x1 : Vec F S1x3x2048 .f32) (x2 : Vec F S1x128x2048 .f32) (xo5 : Vec F S1x128 .f32) (xo6 : Vec F S128x128 .f32) (xs0 : Vec F S2048x128 .f32) (xs1 : Vec F S2048x128 .bf16) (xs2 : Vec F S2048x128 .bf16) :
    out0_B_5 c i arg2 harg2 arg3 harg3 arg4 harg4 arg5 harg5 arg6 harg6 arg7 harg7 arg8 harg8 arg9 harg9 arg10 harg10 arg11 harg11 hc0 hc1 x0 x1 x2 xo5 xo6 xs0 xs1 xs2 = knnMu (k0_pay10 x0 x1) (knnQ i xs0) xs1 xs2 xo5 := by
  unfold out0_B_5
  delta kernelRun0_B
  dsimp only
  try delta kernelRun0_B.sl.r_14
  try delta kernelRun0_B.sl.r_13
  try delta kernelRun0_B.sl.r_12
  try delta kernelRun0_B.sl.r_11
  try delta kernelRun0_B.sl.r_10
  try delta kernelRun0_B.sl.r_9
  try delta kernelRun0_B.sl.r_8
  try delta kernelRun0_B.sl.r_7
  try delta kernelRun0_B.sl.r_6
  try delta kernelRun0_B.sl.r_5
  try delta kernelRun0_B.sl.r_4
  try delta kernelRun0_B.sl.r_3
  try delta kernelRun0_B.sl.r_2
  try delta kernelRun0_B.sl.r_1
  try delta kernelRun0_B.sl.r
  try delta kernelRun0_B.sl.v71
  try delta kernelRun0_B.sl.v58
  try delta kernelRun0_B.sl.v46
  try delta kernelRun0_B.sl.v34
  try delta kernelRun0_B.sl.v33
  try delta kernelRun0_B.sl.v34
  try delta kernelRun0_B.sl.v10
  try delta kernelRun0_B.sl.v9
  try delta kernelRun0_B.sl.v8
  try delta kernelRun0_B.sl.v7
  try delta kernelRun0_B.sl.v6
  try delta kernelRun0_B.sl.v5
  try delta kernelRun0_B.sl.v4
  try delta kernelRun0_B.sl.v3
  try delta kernelRun0_B.sl.v2
  try delta kernelRun0_B.sl.v1
  try delta kernelRun0_B.sl.v0
  try delta kernelRun0_B.sl.H0_1
  try delta kernelRun0_B.sl.H1_1
  try delta kernelRun0_B.sl.H2_1
  try delta kernelRun0_B.sl.HS0_1
  try delta kernelRun0_B.sl.v88
  try delta kernelRun0_B.sl.v109
  try delta kernelRun0_B.sl.v67
  try delta kernelRun0_B.sl.v124
  try delta kernelRun0_B.sl.v125
  try delta kernelRun0_B.sl.v128
  try delta kernelRun0_B.sl.v134
  try delta kernelRun0_B.sl.v123
  try delta kernelRun0_B.sl.v38
  try delta kernelRun0_B.sl.v39
  try delta kernelRun0_B.sl.v37
  try delta kernelRun0_B.sl.HS1_1
  try delta kernelRun0_B.sl.HS2_1
  try delta kernelRun0_B.sl.HS0_1
  try delta kernelRun0_B.sl.H5_2
  try delta kernelRun0_B.sl.H6_2
  try delta kernelRun0_B.sl.H5_1
  try delta kernelRun0_B.sl.H6_1
  simp (config := { index := false }) only [View.read_writes_full, View.readCov_full, readAt_q, View.readAt_full, Memref.IsWhole.read_unread]
  rfl

set_option maxHeartbeats 4000000 in
theorem out0_B_6_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : ¬cond0_1 i)
    (x0 : Vec F S1x1024x3 .f32) (x1 : Vec F S1x3x2048 .f32) (x2 : Vec F S1x128x2048 .f32) (xo5 : Vec F S1x128 .f32) (xo6 : Vec F S128x128 .f32) (xs0 : Vec F S2048x128 .f32) (xs1 : Vec F S2048x128 .bf16) (xs2 : Vec F S2048x128 .bf16) :
    out0_B_6 c i arg2 harg2 arg3 harg3 arg4 harg4 arg5 harg5 arg6 harg6 arg7 harg7 arg8 harg8 arg9 harg9 arg10 harg10 arg11 harg11 hc0 hc1 x0 x1 x2 xo5 xo6 xs0 xs1 xs2 = knnS (k0_pay10 x0 x1) (knnQ i xs0) xs1 xs2 xo6 := by
  unfold out0_B_6
  delta kernelRun0_B
  dsimp only
  try delta kernelRun0_B.sl.r_14
  try delta kernelRun0_B.sl.r_13
  try delta kernelRun0_B.sl.r_12
  try delta kernelRun0_B.sl.r_11
  try delta kernelRun0_B.sl.r_10
  try delta kernelRun0_B.sl.r_9
  try delta kernelRun0_B.sl.r_8
  try delta kernelRun0_B.sl.r_7
  try delta kernelRun0_B.sl.r_6
  try delta kernelRun0_B.sl.r_5
  try delta kernelRun0_B.sl.r_4
  try delta kernelRun0_B.sl.r_3
  try delta kernelRun0_B.sl.r_2
  try delta kernelRun0_B.sl.r_1
  try delta kernelRun0_B.sl.r
  try delta kernelRun0_B.sl.v71
  try delta kernelRun0_B.sl.v58
  try delta kernelRun0_B.sl.v46
  try delta kernelRun0_B.sl.v34
  try delta kernelRun0_B.sl.v33
  try delta kernelRun0_B.sl.v34
  try delta kernelRun0_B.sl.v10
  try delta kernelRun0_B.sl.v9
  try delta kernelRun0_B.sl.v8
  try delta kernelRun0_B.sl.v7
  try delta kernelRun0_B.sl.v6
  try delta kernelRun0_B.sl.v5
  try delta kernelRun0_B.sl.v4
  try delta kernelRun0_B.sl.v3
  try delta kernelRun0_B.sl.v2
  try delta kernelRun0_B.sl.v1
  try delta kernelRun0_B.sl.v0
  try delta kernelRun0_B.sl.H0_1
  try delta kernelRun0_B.sl.H1_1
  try delta kernelRun0_B.sl.H2_1
  try delta kernelRun0_B.sl.HS0_1
  try delta kernelRun0_B.sl.v88
  try delta kernelRun0_B.sl.v109
  try delta kernelRun0_B.sl.v67
  try delta kernelRun0_B.sl.v124
  try delta kernelRun0_B.sl.v125
  try delta kernelRun0_B.sl.v128
  try delta kernelRun0_B.sl.v134
  try delta kernelRun0_B.sl.v123
  try delta kernelRun0_B.sl.v38
  try delta kernelRun0_B.sl.v39
  try delta kernelRun0_B.sl.v37
  try delta kernelRun0_B.sl.HS1_1
  try delta kernelRun0_B.sl.HS2_1
  try delta kernelRun0_B.sl.HS0_1
  try delta kernelRun0_B.sl.H5_2
  try delta kernelRun0_B.sl.H6_2
  try delta kernelRun0_B.sl.H5_1
  try delta kernelRun0_B.sl.H6_1
  simp (config := { index := false }) only [View.read_writes_full, View.readCov_full, readAt_q, View.readAt_full, Memref.IsWhole.read_unread]
  rfl

set_option maxHeartbeats 4000000 in
theorem out0_C_3_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : cond0_1 i)
    (x0 : Vec F S1x1024x3 .f32) (x1 : Vec F S1x3x2048 .f32) (x2 : Vec F S1x128x2048 .f32) (xo5 : Vec F S1x128 .f32) (xo6 : Vec F S128x128 .f32) :
    out0_C_3 c i arg2 harg2 arg3 harg3 arg4 harg4 arg5 harg5 arg6 harg6 arg7 harg7 arg8 harg8 arg9 harg9 arg10 harg10 arg11 harg11 hc0 hc1 x0 x1 x2 xo5 xo6 = knnX (k0_pay10 x0 x1) (knnQ i (k0_pay6 x2)) (k0_pay8 x2) (k0_pay9 x2) := by
  unfold out0_C_3
  delta kernelRun0_C
  dsimp only
  try delta kernelRun0_C.sl.r_14
  try delta kernelRun0_C.sl.r_13
  try delta kernelRun0_C.sl.r_12
  try delta kernelRun0_C.sl.r_11
  try delta kernelRun0_C.sl.r_10
  try delta kernelRun0_C.sl.r_9
  try delta kernelRun0_C.sl.r_8
  try delta kernelRun0_C.sl.r_7
  try delta kernelRun0_C.sl.r_6
  try delta kernelRun0_C.sl.r_5
  try delta kernelRun0_C.sl.r_4
  try delta kernelRun0_C.sl.r_3
  try delta kernelRun0_C.sl.r_2
  try delta kernelRun0_C.sl.r_1
  try delta kernelRun0_C.sl.r
  try delta kernelRun0_C.sl.v71
  try delta kernelRun0_C.sl.v58
  try delta kernelRun0_C.sl.v46
  try delta kernelRun0_C.sl.v34
  try delta kernelRun0_C.sl.v33
  try delta kernelRun0_C.sl.v34
  try delta kernelRun0_C.sl.v10
  try delta kernelRun0_C.sl.v9
  try delta kernelRun0_C.sl.v8
  try delta kernelRun0_C.sl.v7
  try delta kernelRun0_C.sl.v6
  try delta kernelRun0_C.sl.v5
  try delta kernelRun0_C.sl.v4
  try delta kernelRun0_C.sl.v3
  try delta kernelRun0_C.sl.v2
  try delta kernelRun0_C.sl.v1
  try delta kernelRun0_C.sl.v0
  try delta kernelRun0_C.sl.H0_1
  try delta kernelRun0_C.sl.H1_1
  try delta kernelRun0_C.sl.H2_1
  try delta kernelRun0_C.sl.HS0_1
  try delta kernelRun0_C.sl.v88
  try delta kernelRun0_C.sl.v109
  try delta kernelRun0_C.sl.v67
  try delta kernelRun0_C.sl.v124
  try delta kernelRun0_C.sl.v125
  try delta kernelRun0_C.sl.v128
  try delta kernelRun0_C.sl.v134
  try delta kernelRun0_C.sl.v123
  try delta kernelRun0_C.sl.v38
  try delta kernelRun0_C.sl.v39
  try delta kernelRun0_C.sl.v37
  try delta kernelRun0_C.sl.HS1_1
  try delta kernelRun0_C.sl.HS2_1
  try delta kernelRun0_C.sl.HS0_1
  try delta kernelRun0_C.sl.H5_2
  try delta kernelRun0_C.sl.H6_2
  try delta kernelRun0_C.sl.H5_1
  try delta kernelRun0_C.sl.H6_1
  simp (config := { index := false }) only [View.read_writes_full, View.readCov_full, readAt_q, View.readAt_full, Memref.IsWhole.read_unread]
  rfl

set_option maxHeartbeats 4000000 in
theorem out0_C_5_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : cond0_1 i)
    (x0 : Vec F S1x1024x3 .f32) (x1 : Vec F S1x3x2048 .f32) (x2 : Vec F S1x128x2048 .f32) (xo5 : Vec F S1x128 .f32) (xo6 : Vec F S128x128 .f32) :
    out0_C_5 c i arg2 harg2 arg3 harg3 arg4 harg4 arg5 harg5 arg6 harg6 arg7 harg7 arg8 harg8 arg9 harg9 arg10 harg10 arg11 harg11 hc0 hc1 x0 x1 x2 xo5 xo6 = knnMu (k0_pay10 x0 x1) (knnQ i (k0_pay6 x2)) (k0_pay8 x2) (k0_pay9 x2) xo5 := by
  unfold out0_C_5
  delta kernelRun0_C
  dsimp only
  try delta kernelRun0_C.sl.r_14
  try delta kernelRun0_C.sl.r_13
  try delta kernelRun0_C.sl.r_12
  try delta kernelRun0_C.sl.r_11
  try delta kernelRun0_C.sl.r_10
  try delta kernelRun0_C.sl.r_9
  try delta kernelRun0_C.sl.r_8
  try delta kernelRun0_C.sl.r_7
  try delta kernelRun0_C.sl.r_6
  try delta kernelRun0_C.sl.r_5
  try delta kernelRun0_C.sl.r_4
  try delta kernelRun0_C.sl.r_3
  try delta kernelRun0_C.sl.r_2
  try delta kernelRun0_C.sl.r_1
  try delta kernelRun0_C.sl.r
  try delta kernelRun0_C.sl.v71
  try delta kernelRun0_C.sl.v58
  try delta kernelRun0_C.sl.v46
  try delta kernelRun0_C.sl.v34
  try delta kernelRun0_C.sl.v33
  try delta kernelRun0_C.sl.v34
  try delta kernelRun0_C.sl.v10
  try delta kernelRun0_C.sl.v9
  try delta kernelRun0_C.sl.v8
  try delta kernelRun0_C.sl.v7
  try delta kernelRun0_C.sl.v6
  try delta kernelRun0_C.sl.v5
  try delta kernelRun0_C.sl.v4
  try delta kernelRun0_C.sl.v3
  try delta kernelRun0_C.sl.v2
  try delta kernelRun0_C.sl.v1
  try delta kernelRun0_C.sl.v0
  try delta kernelRun0_C.sl.H0_1
  try delta kernelRun0_C.sl.H1_1
  try delta kernelRun0_C.sl.H2_1
  try delta kernelRun0_C.sl.HS0_1
  try delta kernelRun0_C.sl.v88
  try delta kernelRun0_C.sl.v109
  try delta kernelRun0_C.sl.v67
  try delta kernelRun0_C.sl.v124
  try delta kernelRun0_C.sl.v125
  try delta kernelRun0_C.sl.v128
  try delta kernelRun0_C.sl.v134
  try delta kernelRun0_C.sl.v123
  try delta kernelRun0_C.sl.v38
  try delta kernelRun0_C.sl.v39
  try delta kernelRun0_C.sl.v37
  try delta kernelRun0_C.sl.HS1_1
  try delta kernelRun0_C.sl.HS2_1
  try delta kernelRun0_C.sl.HS0_1
  try delta kernelRun0_C.sl.H5_2
  try delta kernelRun0_C.sl.H6_2
  try delta kernelRun0_C.sl.H5_1
  try delta kernelRun0_C.sl.H6_1
  simp (config := { index := false }) only [View.read_writes_full, View.readCov_full, readAt_q, View.readAt_full, Memref.IsWhole.read_unread]
  rfl

set_option maxHeartbeats 4000000 in
theorem out0_C_6_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : cond0_1 i)
    (x0 : Vec F S1x1024x3 .f32) (x1 : Vec F S1x3x2048 .f32) (x2 : Vec F S1x128x2048 .f32) (xo5 : Vec F S1x128 .f32) (xo6 : Vec F S128x128 .f32) :
    out0_C_6 c i arg2 harg2 arg3 harg3 arg4 harg4 arg5 harg5 arg6 harg6 arg7 harg7 arg8 harg8 arg9 harg9 arg10 harg10 arg11 harg11 hc0 hc1 x0 x1 x2 xo5 xo6 = knnS (k0_pay10 x0 x1) (knnQ i (k0_pay6 x2)) (k0_pay8 x2) (k0_pay9 x2) xo6 := by
  unfold out0_C_6
  delta kernelRun0_C
  dsimp only
  try delta kernelRun0_C.sl.r_14
  try delta kernelRun0_C.sl.r_13
  try delta kernelRun0_C.sl.r_12
  try delta kernelRun0_C.sl.r_11
  try delta kernelRun0_C.sl.r_10
  try delta kernelRun0_C.sl.r_9
  try delta kernelRun0_C.sl.r_8
  try delta kernelRun0_C.sl.r_7
  try delta kernelRun0_C.sl.r_6
  try delta kernelRun0_C.sl.r_5
  try delta kernelRun0_C.sl.r_4
  try delta kernelRun0_C.sl.r_3
  try delta kernelRun0_C.sl.r_2
  try delta kernelRun0_C.sl.r_1
  try delta kernelRun0_C.sl.r
  try delta kernelRun0_C.sl.v71
  try delta kernelRun0_C.sl.v58
  try delta kernelRun0_C.sl.v46
  try delta kernelRun0_C.sl.v34
  try delta kernelRun0_C.sl.v33
  try delta kernelRun0_C.sl.v34
  try delta kernelRun0_C.sl.v10
  try delta kernelRun0_C.sl.v9
  try delta kernelRun0_C.sl.v8
  try delta kernelRun0_C.sl.v7
  try delta kernelRun0_C.sl.v6
  try delta kernelRun0_C.sl.v5
  try delta kernelRun0_C.sl.v4
  try delta kernelRun0_C.sl.v3
  try delta kernelRun0_C.sl.v2
  try delta kernelRun0_C.sl.v1
  try delta kernelRun0_C.sl.v0
  try delta kernelRun0_C.sl.H0_1
  try delta kernelRun0_C.sl.H1_1
  try delta kernelRun0_C.sl.H2_1
  try delta kernelRun0_C.sl.HS0_1
  try delta kernelRun0_C.sl.v88
  try delta kernelRun0_C.sl.v109
  try delta kernelRun0_C.sl.v67
  try delta kernelRun0_C.sl.v124
  try delta kernelRun0_C.sl.v125
  try delta kernelRun0_C.sl.v128
  try delta kernelRun0_C.sl.v134
  try delta kernelRun0_C.sl.v123
  try delta kernelRun0_C.sl.v38
  try delta kernelRun0_C.sl.v39
  try delta kernelRun0_C.sl.v37
  try delta kernelRun0_C.sl.HS1_1
  try delta kernelRun0_C.sl.HS2_1
  try delta kernelRun0_C.sl.HS0_1
  try delta kernelRun0_C.sl.H5_2
  try delta kernelRun0_C.sl.H6_2
  try delta kernelRun0_C.sl.H5_1
  try delta kernelRun0_C.sl.H6_1
  simp (config := { index := false }) only [View.read_writes_full, View.readCov_full, readAt_q, View.readAt_full, Memref.IsWhole.read_unread]
  rfl

set_option maxHeartbeats 4000000 in
theorem sout0_C_0_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : cond0_1 i)
    (x0 : Vec F S1x1024x3 .f32) (x1 : Vec F S1x3x2048 .f32) (x2 : Vec F S1x128x2048 .f32) (xo5 : Vec F S1x128 .f32) (xo6 : Vec F S128x128 .f32) :
    sout0_C_0 c i arg2 harg2 arg3 harg3 arg4 harg4 arg5 harg5 arg6 harg6 arg7 harg7 arg8 harg8 arg9 harg9 arg10 harg10 arg11 harg11 hc0 hc1 x0 x1 x2 xo5 xo6 = k0_pay6 x2 := by
  unfold sout0_C_0
  delta kernelRun0_C
  dsimp only
  try delta kernelRun0_C.sl.r_14
  try delta kernelRun0_C.sl.r_13
  try delta kernelRun0_C.sl.r_12
  try delta kernelRun0_C.sl.r_11
  try delta kernelRun0_C.sl.r_10
  try delta kernelRun0_C.sl.r_9
  try delta kernelRun0_C.sl.r_8
  try delta kernelRun0_C.sl.r_7
  try delta kernelRun0_C.sl.r_6
  try delta kernelRun0_C.sl.r_5
  try delta kernelRun0_C.sl.r_4
  try delta kernelRun0_C.sl.r_3
  try delta kernelRun0_C.sl.r_2
  try delta kernelRun0_C.sl.r_1
  try delta kernelRun0_C.sl.r
  try delta kernelRun0_C.sl.v71
  try delta kernelRun0_C.sl.v58
  try delta kernelRun0_C.sl.v46
  try delta kernelRun0_C.sl.v34
  try delta kernelRun0_C.sl.v33
  try delta kernelRun0_C.sl.v34
  try delta kernelRun0_C.sl.v10
  try delta kernelRun0_C.sl.v9
  try delta kernelRun0_C.sl.v8
  try delta kernelRun0_C.sl.v7
  try delta kernelRun0_C.sl.v6
  try delta kernelRun0_C.sl.v5
  try delta kernelRun0_C.sl.v4
  try delta kernelRun0_C.sl.v3
  try delta kernelRun0_C.sl.v2
  try delta kernelRun0_C.sl.v1
  try delta kernelRun0_C.sl.v0
  try delta kernelRun0_C.sl.H0_1
  try delta kernelRun0_C.sl.H1_1
  try delta kernelRun0_C.sl.H2_1
  try delta kernelRun0_C.sl.HS0_1
  try delta kernelRun0_C.sl.v88
  try delta kernelRun0_C.sl.v109
  try delta kernelRun0_C.sl.v67
  try delta kernelRun0_C.sl.v124
  try delta kernelRun0_C.sl.v125
  try delta kernelRun0_C.sl.v128
  try delta kernelRun0_C.sl.v134
  try delta kernelRun0_C.sl.v123
  try delta kernelRun0_C.sl.v38
  try delta kernelRun0_C.sl.v39
  try delta kernelRun0_C.sl.v37
  try delta kernelRun0_C.sl.HS1_1
  try delta kernelRun0_C.sl.HS2_1
  try delta kernelRun0_C.sl.HS0_1
  try delta kernelRun0_C.sl.H5_2
  try delta kernelRun0_C.sl.H6_2
  try delta kernelRun0_C.sl.H5_1
  try delta kernelRun0_C.sl.H6_1
  simp (config := { index := false }) only [View.read_writes_full, View.readCov_full, readAt_q, View.readAt_full, Memref.IsWhole.read_unread]

set_option maxHeartbeats 4000000 in
theorem sout0_C_1_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : cond0_1 i)
    (x0 : Vec F S1x1024x3 .f32) (x1 : Vec F S1x3x2048 .f32) (x2 : Vec F S1x128x2048 .f32) (xo5 : Vec F S1x128 .f32) (xo6 : Vec F S128x128 .f32) :
    sout0_C_1 c i arg2 harg2 arg3 harg3 arg4 harg4 arg5 harg5 arg6 harg6 arg7 harg7 arg8 harg8 arg9 harg9 arg10 harg10 arg11 harg11 hc0 hc1 x0 x1 x2 xo5 xo6 = k0_pay8 x2 := by
  unfold sout0_C_1
  delta kernelRun0_C
  dsimp only
  try delta kernelRun0_C.sl.r_14
  try delta kernelRun0_C.sl.r_13
  try delta kernelRun0_C.sl.r_12
  try delta kernelRun0_C.sl.r_11
  try delta kernelRun0_C.sl.r_10
  try delta kernelRun0_C.sl.r_9
  try delta kernelRun0_C.sl.r_8
  try delta kernelRun0_C.sl.r_7
  try delta kernelRun0_C.sl.r_6
  try delta kernelRun0_C.sl.r_5
  try delta kernelRun0_C.sl.r_4
  try delta kernelRun0_C.sl.r_3
  try delta kernelRun0_C.sl.r_2
  try delta kernelRun0_C.sl.r_1
  try delta kernelRun0_C.sl.r
  try delta kernelRun0_C.sl.v71
  try delta kernelRun0_C.sl.v58
  try delta kernelRun0_C.sl.v46
  try delta kernelRun0_C.sl.v34
  try delta kernelRun0_C.sl.v33
  try delta kernelRun0_C.sl.v34
  try delta kernelRun0_C.sl.v10
  try delta kernelRun0_C.sl.v9
  try delta kernelRun0_C.sl.v8
  try delta kernelRun0_C.sl.v7
  try delta kernelRun0_C.sl.v6
  try delta kernelRun0_C.sl.v5
  try delta kernelRun0_C.sl.v4
  try delta kernelRun0_C.sl.v3
  try delta kernelRun0_C.sl.v2
  try delta kernelRun0_C.sl.v1
  try delta kernelRun0_C.sl.v0
  try delta kernelRun0_C.sl.H0_1
  try delta kernelRun0_C.sl.H1_1
  try delta kernelRun0_C.sl.H2_1
  try delta kernelRun0_C.sl.HS0_1
  try delta kernelRun0_C.sl.v88
  try delta kernelRun0_C.sl.v109
  try delta kernelRun0_C.sl.v67
  try delta kernelRun0_C.sl.v124
  try delta kernelRun0_C.sl.v125
  try delta kernelRun0_C.sl.v128
  try delta kernelRun0_C.sl.v134
  try delta kernelRun0_C.sl.v123
  try delta kernelRun0_C.sl.v38
  try delta kernelRun0_C.sl.v39
  try delta kernelRun0_C.sl.v37
  try delta kernelRun0_C.sl.HS1_1
  try delta kernelRun0_C.sl.HS2_1
  try delta kernelRun0_C.sl.HS0_1
  try delta kernelRun0_C.sl.H5_2
  try delta kernelRun0_C.sl.H6_2
  try delta kernelRun0_C.sl.H5_1
  try delta kernelRun0_C.sl.H6_1
  simp (config := { index := false }) only [View.read_writes_full, View.readCov_full, readAt_q, View.readAt_full, Memref.IsWhole.read_unread]

set_option maxHeartbeats 4000000 in
theorem sout0_C_2_eq (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x128x2048 .f32) (harg4 : arg4.IsWhole) (arg5 : Memref sig .tc .vmem S3072x128 .f32) (harg5 : arg5.IsWhole) (arg6 : Memref sig .tc .vmem S1x1024x8 .i32) (harg6 : arg6.IsWhole) (arg7 : Memref sig .tc .vmem S1x128 .f32) (harg7 : arg7.IsWhole) (arg8 : Memref sig .tc .vmem S128x128 .f32) (harg8 : arg8.IsWhole) (arg9 : Memref sig .tc .vmem S2048x128 .f32) (harg9 : arg9.IsWhole) (arg10 : Memref sig .tc .vmem S2048x128 .bf16) (harg10 : arg10.IsWhole) (arg11 : Memref sig .tc .vmem S2048x128 .bf16) (harg11 : arg11.IsWhole) (hc0 : ¬cond0_0 i) (hc1 : cond0_1 i)
    (x0 : Vec F S1x1024x3 .f32) (x1 : Vec F S1x3x2048 .f32) (x2 : Vec F S1x128x2048 .f32) (xo5 : Vec F S1x128 .f32) (xo6 : Vec F S128x128 .f32) :
    sout0_C_2 c i arg2 harg2 arg3 harg3 arg4 harg4 arg5 harg5 arg6 harg6 arg7 harg7 arg8 harg8 arg9 harg9 arg10 harg10 arg11 harg11 hc0 hc1 x0 x1 x2 xo5 xo6 = k0_pay9 x2 := by
  unfold sout0_C_2
  delta kernelRun0_C
  dsimp only
  try delta kernelRun0_C.sl.r_14
  try delta kernelRun0_C.sl.r_13
  try delta kernelRun0_C.sl.r_12
  try delta kernelRun0_C.sl.r_11
  try delta kernelRun0_C.sl.r_10
  try delta kernelRun0_C.sl.r_9
  try delta kernelRun0_C.sl.r_8
  try delta kernelRun0_C.sl.r_7
  try delta kernelRun0_C.sl.r_6
  try delta kernelRun0_C.sl.r_5
  try delta kernelRun0_C.sl.r_4
  try delta kernelRun0_C.sl.r_3
  try delta kernelRun0_C.sl.r_2
  try delta kernelRun0_C.sl.r_1
  try delta kernelRun0_C.sl.r
  try delta kernelRun0_C.sl.v71
  try delta kernelRun0_C.sl.v58
  try delta kernelRun0_C.sl.v46
  try delta kernelRun0_C.sl.v34
  try delta kernelRun0_C.sl.v33
  try delta kernelRun0_C.sl.v34
  try delta kernelRun0_C.sl.v10
  try delta kernelRun0_C.sl.v9
  try delta kernelRun0_C.sl.v8
  try delta kernelRun0_C.sl.v7
  try delta kernelRun0_C.sl.v6
  try delta kernelRun0_C.sl.v5
  try delta kernelRun0_C.sl.v4
  try delta kernelRun0_C.sl.v3
  try delta kernelRun0_C.sl.v2
  try delta kernelRun0_C.sl.v1
  try delta kernelRun0_C.sl.v0
  try delta kernelRun0_C.sl.H0_1
  try delta kernelRun0_C.sl.H1_1
  try delta kernelRun0_C.sl.H2_1
  try delta kernelRun0_C.sl.HS0_1
  try delta kernelRun0_C.sl.v88
  try delta kernelRun0_C.sl.v109
  try delta kernelRun0_C.sl.v67
  try delta kernelRun0_C.sl.v124
  try delta kernelRun0_C.sl.v125
  try delta kernelRun0_C.sl.v128
  try delta kernelRun0_C.sl.v134
  try delta kernelRun0_C.sl.v123
  try delta kernelRun0_C.sl.v38
  try delta kernelRun0_C.sl.v39
  try delta kernelRun0_C.sl.v37
  try delta kernelRun0_C.sl.HS1_1
  try delta kernelRun0_C.sl.HS2_1
  try delta kernelRun0_C.sl.HS0_1
  try delta kernelRun0_C.sl.H5_2
  try delta kernelRun0_C.sl.H6_2
  try delta kernelRun0_C.sl.H5_1
  try delta kernelRun0_C.sl.H6_1
  simp (config := { index := false }) only [View.read_writes_full, View.readCov_full, readAt_q, View.readAt_full, Memref.IsWhole.read_unread]

end Cert.Kernel3Ideal.Hand

end
-- ==== Proof.KnnBlkX.lean ====
module

public import proofs.«01_k».proof.Proof.KnnBlk
public import proofs.«01_k».proof.Proof.KnnRunX

@[expose] public section

set_option maxRecDepth 16384

noncomputable section

/-! The arrays of sums of pairs of features, of their sum and of their second moments after the run of the first call. -/

namespace Cert.Kernel3Ideal.Hand

open Cert.Kernel3Ideal Cert.Kernel3Ideal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem idx_ptsX : ∀ t : Fin cfg0.N, win0_2.index t = ![t.val / 2, 0, 0] ∧ win0_3.index t = ![t.val, 0] ∧ win0_5.index t = ![0, 0] ∧ win0_6.index t = ![0, 0] :=
  (by decide +kernel : ∀ t : Fin grid0.N, _)

theorem off_pts : ∀ t : Fin cfg0.N, k0_off1 (grid0.coords t) = ![t.val % 2 * 1024, 0] :=
  (by decide +kernel : ∀ t : Fin grid0.N, _)

/-- The rows of the point's own block. -/
theorem knnQ_apply (t : Fin cfg0.N) (T : Vec F S2048x128 .f32) (r : Fin 1024) (ch : Fin 128) (n : Fin 2048) (hn : n.val = (t.val % 2) * 1024 + r.val) :
    knnQ (grid0.coords t) T (ix2 r ch) = T (ix2 n ch) := by
  have e := off_pts t
  refine congrArg T (funext fun a => Fin.ext ?_)
  match a with
  | ⟨0, _⟩ => show k0_off1 (grid0.coords t) (0 : Fin 2) + 1 * r.val = n.val; rw [e]; show t.val % 2 * 1024 + 1 * r.val = n.val; omega
  | ⟨1, _⟩ => show k0_off1 (grid0.coords t) (1 : Fin 2) + 1 * ch.val = ch.val; rw [e]; show 0 + 1 * ch.val = ch.val; omega

/-- The block of features of grid point `t`. -/
theorem blk_2 (c : Dev nD) (t : Fin cfg0.N) (b : Fin 4) (ch : Fin 128) (n : Fin 2048) (hb : b.val = t.val / 2) :
    (iblk m c 2 t : Vec F S1x128x2048 .f32) (ix3 0 ch n) = (m ((c : Thread nD τ).loc main_arg0) : Vec F S4x128x2048 .f32) (ix3 b ch n) := by
  have e := (idx_ptsX t).1
  have hi : ((cfg0.win 2).blk t).view.emb (ix3 0 ch n) = ix3 b ch n := by
    funext a; apply Fin.ext
    match a with
    | ⟨0, _⟩ => show win0_2.index t (0 : Fin 3) * 1 + 1 * 0 = b.val; rw [e]; show t.val / 2 * 1 + 1 * 0 = b.val; omega
    | ⟨1, _⟩ => show win0_2.index t (1 : Fin 3) * 128 + 1 * ch.val = ch.val; rw [e]; show 0 * 128 + 1 * ch.val = ch.val; omega
    | ⟨2, _⟩ => show win0_2.index t (2 : Fin 3) * 2048 + 1 * n.val = n.val; rw [e]; show 0 * 2048 + 1 * n.val = n.val; omega
  exact congrArg (m ((c : Thread nD τ).loc main_arg0) : Vec F S4x128x2048 .f32) hi

/-- The two points of a batch read the same block of features. -/
theorem blk_2_pred (c : Dev nD) (t t' : Fin cfg0.N) (h : t'.val / 2 = t.val / 2) : (iblk m c 2 t' : Vec F S1x128x2048 .f32) = iblk m c 2 t := by
  have hN : cfg0.N = 8 := N_0
  have ht := t.isLt
  refine funext fun i => ?_
  have hi : i = ix3 0 (i 1) (i 2) := by
    funext a
    match a with
    | ⟨0, _⟩ => exact Subsingleton.elim (α := Fin 1) _ _
    | ⟨1, _⟩ => rfl
    | ⟨2, _⟩ => rfl
  rw [hi]
  exact (blk_2 m c t' ⟨t.val / 2, by omega⟩ (i 1) (i 2) h.symm).trans (blk_2 m c t ⟨t.val / 2, by omega⟩ (i 1) (i 2) rfl).symm

/-- What the scratch arrays hold after a point. -/
def ScrIs (c : Dev nD) (n : ℕ) (h : n < cfg0.N) (f : Vec F S1x128x2048 .f32) : Prop :=
  (outsAt0 m c n h).2.2.2.2.1 = k0_pay6 f ∧ (outsAt0 m c n h).2.2.2.2.2.1 = k0_pay8 f ∧ (outsAt0 m c n h).2.2.2.2.2.2 = k0_pay9 f

theorem scr_even (c : Dev nD) (t : Fin cfg0.N) (h1 : t.val % 2 = 0) : ScrIs m c t.val t.isLt (iblk m c 2 t) := by
  unfold ScrIs
  by_cases h0 : t.val % 8 = 0
  · rw [outsAt0_A m c t h0 h1]
    dsimp only
    rw [sout0_A_0_eq, sout0_A_1_eq, sout0_A_2_eq]
    exact ⟨rfl, rfl, rfl⟩
  · rw [outsAt0_C m c t h0 h1]
    dsimp only
    rw [sout0_C_0_eq, sout0_C_1_eq, sout0_C_2_eq]
    exact ⟨rfl, rfl, rfl⟩

/-- An odd point finds the scratch arrays as the point before left them. -/
theorem scr_pred (c : Dev nD) (t : Fin cfg0.N) (h1 : ¬t.val % 2 = 0) : ScrIs m c (t.val - 1) (Nat.lt_of_le_of_lt (Nat.sub_le _ _) t.isLt) (iblk m c 2 t) := by
  have h := scr_even m c ⟨t.val - 1, Nat.lt_of_le_of_lt (Nat.sub_le _ _) t.isLt⟩ (by show (t.val - 1) % 2 = 0; omega)
  rw [blk_2_pred m c t _ (by show (t.val - 1) / 2 = t.val / 2; omega)] at h
  exact h

/-- What a point leaves in the block of rows. -/
theorem after_3 (c : Dev nD) (t : Fin cfg0.N) : (outsAt0 m c t.val t.isLt).1
    = knnX (k0_pay10 (iblk m c 0 t) (iblk m c 1 t)) (knnQ (grid0.coords t) (k0_pay6 (iblk m c 2 t))) (k0_pay8 (iblk m c 2 t)) (k0_pay9 (iblk m c 2 t)) := by
  by_cases h0 : t.val % 8 = 0
  · have h1 : t.val % 2 = 0 := by omega
    rw [outsAt0_A m c t h0 h1]
    dsimp only
    rw [out0_A_3_eq]
  · by_cases h1 : t.val % 2 = 0
    · rw [outsAt0_C m c t h0 h1]
      dsimp only
      rw [out0_C_3_eq]
    · obtain ⟨s0, s1, s2⟩ := scr_pred m c t h1
      rw [outsAt0_B m c t h0 h1]
      dsimp only
      rw [out0_B_3_eq, s0, s1, s2]

/-- What the first point leaves of the sum of the rows. -/
theorem after_5_first (c : Dev nD) (t : Fin cfg0.N) (h0 : t.val % 8 = 0) : (outsAt0 m c t.val t.isLt).2.2.1 = knnMu (k0_pay10 (iblk m c 0 t) (iblk m c 1 t)) (knnQ (grid0.coords t) (k0_pay6 (iblk m c 2 t))) (k0_pay8 (iblk m c 2 t)) (k0_pay9 (iblk m c 2 t)) k0_pay3 := by
  have h1 : t.val % 2 = 0 := by omega
  rw [outsAt0_A m c t h0 h1]
  dsimp only
  rw [out0_A_5_eq]

/-- What a later point leaves of the sum of the rows. -/
theorem after_5_later (c : Dev nD) (t : Fin cfg0.N) (h0 : ¬t.val % 8 = 0) : (outsAt0 m c t.val t.isLt).2.2.1
    = knnMu (k0_pay10 (iblk m c 0 t) (iblk m c 1 t)) (knnQ (grid0.coords t) (k0_pay6 (iblk m c 2 t))) (k0_pay8 (iblk m c 2 t)) (k0_pay9 (iblk m c 2 t)) (outsAt0 m c (t.val - 1) (Nat.lt_of_le_of_lt (Nat.sub_le _ _) t.isLt)).2.2.1 := by
  by_cases h1 : t.val % 2 = 0
  · rw [outsAt0_C m c t h0 h1]
    dsimp only
    rw [out0_C_5_eq]
  · obtain ⟨s0, s1, s2⟩ := scr_pred m c t h1
    rw [outsAt0_B m c t h0 h1]
    dsimp only
    rw [out0_B_5_eq, s0, s1, s2]

/-- What the first point leaves of the second moments. -/
theorem after_6_first (c : Dev nD) (t : Fin cfg0.N) (h0 : t.val % 8 = 0) : (outsAt0 m c t.val t.isLt).2.2.2.1 = knnS (k0_pay10 (iblk m c 0 t) (iblk m c 1 t)) (knnQ (grid0.coords t) (k0_pay6 (iblk m c 2 t))) (k0_pay8 (iblk m c 2 t)) (k0_pay9 (iblk m c 2 t)) k0_pay4 := by
  have h1 : t.val % 2 = 0 := by omega
  rw [outsAt0_A m c t h0 h1]
  dsimp only
  rw [out0_A_6_eq]

/-- What a later point leaves of the second moments. -/
theorem after_6_later (c : Dev nD) (t : Fin cfg0.N) (h0 : ¬t.val % 8 = 0) : (outsAt0 m c t.val t.isLt).2.2.2.1
    = knnS (k0_pay10 (iblk m c 0 t) (iblk m c 1 t)) (knnQ (grid0.coords t) (k0_pay6 (iblk m c 2 t))) (k0_pay8 (iblk m c 2 t)) (k0_pay9 (iblk m c 2 t)) (outsAt0 m c (t.val - 1) (Nat.lt_of_le_of_lt (Nat.sub_le _ _) t.isLt)).2.2.2.1 := by
  by_cases h1 : t.val % 2 = 0
  · rw [outsAt0_C m c t h0 h1]
    dsimp only
    rw [out0_C_6_eq]
  · obtain ⟨s0, s1, s2⟩ := scr_pred m c t h1
    rw [outsAt0_B m c t h0 h1]
    dsimp only
    rw [out0_B_6_eq, s0, s1, s2]

/-- The last grid point. -/
def p7 : Fin cfg0.N := ⟨7, by decide⟩

/-- Two points' blocks of rows share no index. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (by
    have e := (idx_ptsX t).2.1
    have e' := (idx_ptsX t').2.1
    have h0 : win0_3.index t 0 = win0_3.index t' 0 := congrFun h 0
    rw [e, e'] at h0
    have h0' : t.val = t'.val := h0
    exact Fin.ext h0')

/-- The array of rows at a row. -/
theorem arr_3 (c : Dev nD) (t : Fin cfg0.N) (s : Fin 3072) (R : Fin 24576) (ch : Fin 128) (hR : R.val = t.val * 3072 + s.val) :
    ((dats m 0 c).arrAt 3 cfg0.N : Vec F S24576x128 .f32) (ix2 R ch) = (outsAt0 m c t.val t.isLt).1 (ix2 s ch) := by
  have h := (dats m 0 c).read_blk_arrAt_eq_flushed 3 disjoint3 cfg0.N t t.isLt (flush0_3 t)
  have e := (idx_ptsX t).2.1
  have hy := congrFun h (ix2 s ch)
  have hi : ((cfg0.win 3).blk t).view.emb (ix2 s ch) = ix2 R ch := by
    funext a; apply Fin.ext
    match a with
    | ⟨0, _⟩ => show win0_3.index t (0 : Fin 2) * 3072 + 1 * s.val = R.val; rw [e]; show t.val * 3072 + 1 * s.val = R.val; omega
    | ⟨1, _⟩ => show win0_3.index t (1 : Fin 2) * 128 + 1 * ch.val = ch.val; rw [e]; show 0 * 128 + 1 * ch.val = ch.val; omega
  have hr : ((cfg0.win 3).blk t).view.read (Elt F) ((dats m 0 c).arrAt 3 cfg0.N) (ix2 s ch) = (dats m 0 c).arrAt 3 cfg0.N (ix2 R ch) := congrArg ((dats m 0 c).arrAt 3 cfg0.N) hi
  refine hr.symm.trans (hy.trans ?_)
  show (dats m 0 c).after 3 t ((cfg0.win 3).xinj (grid0.coords t) (ix2 s ch)) = _
  rw [after0_3]
  rfl

/-- Window 5 is written back after the last point only. -/
theorem disjoint5 : ∀ t t' : Fin cfg0.N, (cfg0.win 5).flush t = true → (cfg0.win 5).flush t' = true → t ≠ t' →
    Disjoint ((cfg0.win 5).blk t).view.set ((cfg0.win 5).blk t').view.set := fun t t' h h' hne => by
  have e := (flush0_5 t).mp h
  have e' := (flush0_5 t').mp h'
  have ht : t.val < 8 := Nat.lt_of_lt_of_eq t.isLt N_0
  have ht' : t'.val < 8 := Nat.lt_of_lt_of_eq t'.isLt N_0
  exact absurd (Fin.ext (by omega)) hne

/-- The array of the sum of the rows ends holding what the last point left. -/
theorem arr_5 (c : Dev nD) : ((dats m 0 c).arrAt 5 cfg0.N : Vec F S1x128 .f32) = (outsAt0 m c 7 (by decide)).2.2.1 := by
  have hf : (cfg0.win 5).flush p7 = true := (flush0_5 p7).mpr rfl
  have h := (dats m 0 c).read_blk_arrAt_eq_flushed 5 disjoint5 cfg0.N p7 p7.isLt hf
  have e : win0_5.index p7 = ![0, 0] := (idx_ptsX p7).2.2.1
  funext y
  have hy := congrFun h y
  have hi : ((cfg0.win 5).blk p7).view.emb y = y := by
    funext a; apply Fin.ext
    match a with
    | ⟨0, _⟩ => show win0_5.index p7 (0 : Fin 2) * 1 + 1 * (y 0).val = (y 0).val; rw [e]; show 0 * 1 + 1 * (y 0).val = (y 0).val; omega
    | ⟨1, _⟩ => show win0_5.index p7 (1 : Fin 2) * 128 + 1 * (y 1).val = (y 1).val; rw [e]; show 0 * 128 + 1 * (y 1).val = (y 1).val; omega
  have hr : ((cfg0.win 5).blk p7).view.read (Elt F) ((dats m 0 c).arrAt 5 cfg0.N) y = (dats m 0 c).arrAt 5 cfg0.N y := congrArg ((dats m 0 c).arrAt 5 cfg0.N) hi
  refine hr.symm.trans (hy.trans ?_)
  show (dats m 0 c).after 5 p7 ((cfg0.win 5).xinj (grid0.coords p7) y) = _
  rw [after0_5]
  rfl

/-- Window 6 is written back after the last point only. -/
theorem disjoint6 : ∀ t t' : Fin cfg0.N, (cfg0.win 6).flush t = true → (cfg0.win 6).flush t' = true → t ≠ t' →
    Disjoint ((cfg0.win 6).blk t).view.set ((cfg0.win 6).blk t').view.set := fun t t' h h' hne => by
  have e := (flush0_6 t).mp h
  have e' := (flush0_6 t').mp h'
  have ht : t.val < 8 := Nat.lt_of_lt_of_eq t.isLt N_0
  have ht' : t'.val < 8 := Nat.lt_of_lt_of_eq t'.isLt N_0
  exact absurd (Fin.ext (by omega)) hne

/-- The array of the second moments ends holding what the last point left. -/
theorem arr_6 (c : Dev nD) : ((dats m 0 c).arrAt 6 cfg0.N : Vec F S128x128 .f32) = (outsAt0 m c 7 (by decide)).2.2.2.1 := by
  have hf : (cfg0.win 6).flush p7 = true := (flush0_6 p7).mpr rfl
  have h := (dats m 0 c).read_blk_arrAt_eq_flushed 6 disjoint6 cfg0.N p7 p7.isLt hf
  have e : win0_6.index p7 = ![0, 0] := (idx_ptsX p7).2.2.2
  funext y
  have hy := congrFun h y
  have hi : ((cfg0.win 6).blk p7).view.emb y = y := by
    funext a; apply Fin.ext
    match a with
    | ⟨0, _⟩ => show win0_6.index p7 (0 : Fin 2) * 128 + 1 * (y 0).val = (y 0).val; rw [e]; show 0 * 128 + 1 * (y 0).val = (y 0).val; omega
    | ⟨1, _⟩ => show win0_6.index p7 (1 : Fin 2) * 128 + 1 * (y 1).val = (y 1).val; rw [e]; show 0 * 128 + 1 * (y 1).val = (y 1).val; omega
  have hr : ((cfg0.win 6).blk p7).view.read (Elt F) ((dats m 0 c).arrAt 6 cfg0.N) y = (dats m 0 c).arrAt 6 cfg0.N y := congrArg ((dats m 0 c).arrAt 6 cfg0.N) hi
  refine hr.symm.trans (hy.trans ?_)
  show (dats m 0 c).after 6 p7 ((cfg0.win 6).xinj (grid0.coords p7) y) = _
  rw [after0_6]
  rfl

/-- The three arrays of the run beside the neighbour numbers. -/
def resRows (c : Dev nD) : FVec F S24576x128 .f32 := (dats m 0 c).arrAt 3 cfg0.N
def resSum (c : Dev nD) : FVec F S1x128 .f32 := (dats m 0 c).arrAt 5 cfg0.N
def resGram (c : Dev nD) : FVec F S128x128 .f32 := (dats m 0 c).arrAt 6 cfg0.N

/-- The run leaves the four arrays, and the arguments unchanged. -/
theorem run : θ_run defs (onTc (τ := τ) (main (F := F))) ⟨m, fun _ => 0, ρ⟩ fun r => ∀ c : Dev nD,
      r.2.mem ((c.tc : Thread nD τ).loc main_v2) = resIdx m c
      ∧ r.2.mem ((c.tc : Thread nD τ).loc main_v1_0) = resRows m c
      ∧ r.2.mem ((c.tc : Thread nD τ).loc main_v1_2) = resSum m c
      ∧ r.2.mem ((c.tc : Thread nD τ).loc main_v1_3) = resGram m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from run_main m ρ
  · unfold Pipeline.afterTail₀ resIdx
    have hw := Pipeline.withArrays_arr spec0 (by decide) c (V0 m c) (fun w => (dats m 0 c).arrAt w cfg0.N) 4
    show StableHlo.after hostOps1 _ _ = _
    after_results
    exact congrArg (fun a : Vec F S4x2048x8 .i32 => extractStridedSlice S4x2048x3 ![0, 0, 1] a slices_S4x2048x8_S4x2048x3_0_0_1) hw
  · rfl
  · rfl
  · rfl

end Cert.Kernel3Ideal.Hand

end
-- ==== Proof.KnnPayX.lean ====
module

public import proofs.«01_k».proof.Proof.KnnRunX
public import proofs.«01_k».proof.Proof.KnnPay
public import Idealize.ShloMosaic.Lib.Pointwise

@[expose] public section

set_option maxRecDepth 16384

noncomputable section

/-! The sums of pairs of features, entry by entry: a row picked by a column of zeros and a one. -/

namespace Cert.Kernel3Ideal.Hand

open Cert.Kernel3Ideal Cert.Kernel3Ideal.Gen Cert.Knn
open Idealize.ShloMosaic Idealize.ShloMosaic.TcCoe Idealize.ShloMosaic.Tactic

/-- The rows of zeros and ones: a one at the given position of each row. -/
def oneHot (w : IVec S1024x1 32) : FVec Ideal S1024x2048 .bf16 :=
  truncf .bf16 (sitofp .f32 (extui 32 (cmpi .eq cols (broadcastTo S1024x2048 w broadcasts_S1024x1_S1024x2048)) natLt_1_32)) bitsLt_bf16_f32

theorem oneHot_apply (w : IVec S1024x1 32) (r : Fin 1024) (p q : Fin 2048) (hw : w (ix2 r 0) = BitVec.ofNat 32 p.val) :
    oneHot w (ix2 r q) = if q = p then (1 : EReal) else 0 := by
  unfold oneHot cols
  pointwise
  rw [hw]
  by_cases h : q = p
  · rw [if_pos h, h]
    have : IntOp.cmpi CmpIPredicate.eq (BitVec.ofNat 32 p.val) (BitVec.ofNat 32 p.val) = 1#1 := by simp [IntOp.cmpi]
    rw [this]
    show (((BitVec.setWidth 32 1#1).toInt : ℝ) : EReal) = 1
    norm_num
  · rw [if_neg h]
    have : IntOp.cmpi CmpIPredicate.eq (BitVec.ofNat 32 q.val) (BitVec.ofNat 32 p.val) = 0#1 := by
      show BitVec.ofBool (BitVec.ofNat 32 q.val == BitVec.ofNat 32 p.val) = 0#1
      rw [beq_false_of_ne ((ofNat_inj p q).not.mpr h)]
      rfl
    rw [this]
    show (((BitVec.setWidth 32 0#1).toInt : ℝ) : EReal) = 0
    norm_num

/-- A row picked from an array by a row of zeros and a one. -/
theorem picked (w : IVec S1024x1 32) (H : FVec Ideal S2048x128 .bf16) (r : Fin 1024) (ch : Fin 128) (p : Fin 2048) (hw : w (ix2 r 0) = BitVec.ofNat 32 p.val) :
    matmul dot_S1024x2048_S2048x128_S1024x128_1_0_0_1_n_n none (oneHot w) H (constant S1024x128 .f32 0x00000000#32) (ix2 r ch) = (H (ix2 p ch) : EReal) := by
  have e : matmul dot_S1024x2048_S2048x128_S1024x128_1_0_0_1_n_n none (oneHot w) H (constant S1024x128 .f32 0x00000000#32) (ix2 r ch) = ∑ q : Fin 2048, (oneHot w (ix2 r q) : EReal) * H (ix2 q ch) := by
    generalize oneHot w = o
    pointwise
  rw [e]
  simp only [oneHot_apply w r p _ hw, ite_mul, one_mul, zero_mul, Finset.sum_ite_eq', Finset.mem_univ, if_true]

section
variable (d : FVec Ideal S1024x2048 .f32) (q : FVec Ideal S1024x128 .f32) (H L : FVec Ideal S2048x128 .bf16)

theorem nbs : nb1 d q H L = addf q (addf (matmul dot_S1024x2048_S2048x128_S1024x128_1_0_0_1_n_n none (oneHot (k0_pay13 d cols)) H (constant S1024x128 .f32 0x00000000#32)) (matmul dot_S1024x2048_S2048x128_S1024x128_1_0_0_1_n_n none (oneHot (k0_pay13 d cols)) L (constant S1024x128 .f32 0x00000000#32)))
    ∧ nb2 d q H L = addf q (addf (matmul dot_S1024x2048_S2048x128_S1024x128_1_0_0_1_n_n none (oneHot (k0_pay16 d cols)) H (constant S1024x128 .f32 0x00000000#32)) (matmul dot_S1024x2048_S2048x128_S1024x128_1_0_0_1_n_n none (oneHot (k0_pay16 d cols)) L (constant S1024x128 .f32 0x00000000#32)))
    ∧ nb3 d q H L = addf q (addf (matmul dot_S1024x2048_S2048x128_S1024x128_1_0_0_1_n_n none (oneHot (k0_pay19 cols (k0_pay15 d cols) (k0_pay16 d cols))) H (constant S1024x128 .f32 0x00000000#32)) (matmul dot_S1024x2048_S2048x128_S1024x128_1_0_0_1_n_n none (oneHot (k0_pay19 cols (k0_pay15 d cols) (k0_pay16 d cols))) L (constant S1024x128 .f32 0x00000000#32))) :=
  ⟨rfl, rfl, rfl⟩

theorem add_picked (w : IVec S1024x1 32) (r : Fin 1024) (ch : Fin 128) (p : Fin 2048) (hw : w (ix2 r 0) = BitVec.ofNat 32 p.val) :
    (addf q (addf (matmul dot_S1024x2048_S2048x128_S1024x128_1_0_0_1_n_n none (oneHot w) H (constant S1024x128 .f32 0x00000000#32)) (matmul dot_S1024x2048_S2048x128_S1024x128_1_0_0_1_n_n none (oneHot w) L (constant S1024x128 .f32 0x00000000#32)))) (ix2 r ch)
      = (q (ix2 r ch) : EReal) + (H (ix2 p ch) + L (ix2 p ch)) :=
  congrArg₂ (fun a b : EReal => (q (ix2 r ch) : EReal) + (a + b)) (picked w H r ch p hw) (picked w L r ch p hw)

/-- The three rows of a point, in the block of rows. -/
theorem knnX_apply (r : Fin 1024) (ch : Fin 128) (h : ∀ k : Fin 3, r.val * 3 + k.val < 3072) :
    knnX d q H L (ix2 ⟨r.val * 3 + 0, h 0⟩ ch) = nb1 d q H L (ix2 r ch) ∧ knnX d q H L (ix2 ⟨r.val * 3 + 1, h 1⟩ ch) = nb2 d q H L (ix2 r ch) ∧ knnX d q H L (ix2 ⟨r.val * 3 + 2, h 2⟩ ch) = nb3 d q H L (ix2 r ch) := by
  unfold knnX nb2 nb3
  generalize nb1 d q H L = a
  unfold k0_pay21
  generalize k0_pay18 q H L (k0_pay17 d cols) = b
  generalize k0_pay20 cols q H L (k0_pay15 d cols) (k0_pay16 d cols) = e
  refine ⟨?_, ?_, ?_⟩
  · pointwise
    rw [dif_pos (by omega)]
  · pointwise
    rw [dif_neg (by omega), dif_pos (by omega)]
  · pointwise
    rw [dif_neg (by omega), dif_neg (by omega)]

/-- A point adds its block's sum of rows. -/
theorem knnMu_apply (acc : FVec Ideal S1x128 .f32) (ch : Fin 128) :
    knnMu d q H L acc (ix2 0 ch) = (acc (ix2 0 ch) : EReal) + ∑ r : Fin 1024, (nb1 d q H L (ix2 r ch) + nb2 d q H L (ix2 r ch) + nb3 d q H L (ix2 r ch)) := by
  unfold knnMu nb2 nb3
  generalize nb1 d q H L = a
  unfold k0_pay24
  generalize k0_pay18 q H L (k0_pay17 d cols) = b
  generalize k0_pay20 cols q H L (k0_pay15 d cols) (k0_pay16 d cols) = e
  pointwise [k0_pay1, k0_pay23]

/-- A point adds its block's second moments. -/
theorem knnS_apply (acc : FVec Ideal S128x128 .f32) (i j : Fin 128) :
    knnS d q H L acc (ix2 i j) = (acc (ix2 i j) : EReal) + ((∑ r : Fin 1024, (nb1 d q H L (ix2 r i) : EReal) * nb1 d q H L (ix2 r j)) + (∑ r : Fin 1024, (nb2 d q H L (ix2 r i) : EReal) * nb2 d q H L (ix2 r j))
      + ∑ r : Fin 1024, (nb3 d q H L (ix2 r i) : EReal) * nb3 d q H L (ix2 r j)) := by
  unfold knnS
  generalize nb1 d q H L = a
  generalize nb2 d q H L = b
  generalize nb3 d q H L = e
  pointwise [k0_pay2]

end

/-- The three scratch arrays: the features, features last, and the zero that is left of them. -/
theorem scr_apply (f : FVec Ideal S1x128x2048 .f32) (p : Fin 2048) (ch : Fin 128) :
    k0_pay6 f (ix2 p ch) = f (ix3 0 ch p) ∧ @id (FVec Ideal S2048x128 .bf16) (k0_pay8 f) (ix2 p ch) = (f (ix3 0 ch p) : EReal) ∧ @id (FVec Ideal S2048x128 .bf16) (k0_pay9 f) (ix2 p ch) = (f (ix3 0 ch p) : EReal) - f (ix3 0 ch p) := by
  refine ⟨?_, ?_, ?_⟩
  · pointwise [k0_pay6, k0_pay5]
  · show k0_pay8 (F := Ideal) f (ix2 p ch) = _
    pointwise [k0_pay8, k0_pay7, k0_pay5]
  · show k0_pay9 (F := Ideal) f (ix2 p ch) = _
    pointwise [k0_pay9, k0_pay7, k0_pay5]

theorem pay3_apply (ch : Fin 128) : k0_pay3 (F := Ideal) (ix2 0 ch) = (0 : EReal) := by
  pointwise [k0_pay3]

theorem pay4_apply (i j : Fin 128) : k0_pay4 (F := Ideal) (ix2 i j) = (0 : EReal) := by
  pointwise [k0_pay4]

end Cert.Kernel3Ideal.Hand

end
-- ==== Proof.KnnRefX.lean ====
module

public import proofs.«01_k».proof.Proof.KnnRef
public import proofs.«01_k».proof.Proof.KnnPay
public import proofs.«01_k».proof.Proof.Gen.Reference3Ideal.Run
public import Idealize.ShloMosaic.Lib.Pointwise

@[expose] public section

set_option maxRecDepth 16384

noncomputable section

/-! The rows of sums of pairs of features as the reference finds them. -/

namespace Cert.Reference3Ideal.Hand

open Cert.Reference3Ideal Cert.Reference3Ideal.Gen Cert.Knn
open Idealize.ShloMosaic Idealize.ShloMosaic.TcCoe

/-- The neighbour numbers. -/
def refIdx (x : FVec Ideal S4x2048x3 .f32) : IVec S4x2048x3 32 :=
  extractStridedSlice S4x2048x3 ![0, 0, 1] ((Host.topK S4x2048x4 2 (FloatOps.cmpfTotal .gt) (dist x) sliceFits_S4x2048x2048_S4x2048x4).2) slices_S4x2048x4_S4x2048x3_0_0_1

/-- The pairs of a batch number and a neighbour number. -/
def nbr (I : IVec S4x2048x3 32) : IVec S4x2048x3x2 32 :=
  concatenate S4x2048x3x2 3 [⟨S4x2048x3x1, (broadcastInDim S4x2048x3x1 ![0, 1, 2] bcast_S4x2048x3_S4x2048x3x1_0_1_2 (broadcastInDim S4x2048x3 ![0, 1, 2] bcast_S4x1x1_S4x2048x3_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0)))))⟩, ⟨S4x2048x3x1, (broadcastInDim S4x2048x3x1 ![0, 1, 2] bcast_S4x2048x3_S4x2048x3x1_0_1_2 (select (cmpi .slt I (broadcastInDim S4x2048x3 ![] bcast_S_S4x2048x3 (constantI S_ 32 0#32))) (addi I (broadcastInDim S4x2048x3 ![] bcast_S_S4x2048x3 (constantI S_ 32 2048#32))) I))⟩] concatenates_S4x2048x3x1_S4x2048x3x1_S4x2048x3x2_d3

/-- The features of the points with the given numbers. -/
def took (f : FVec Ideal S4x2048x128 .f32) (I : IVec S4x2048x3x2 32) : FVec Ideal S4x2048x3x128 .f32 :=
  Host.gather gather_S4x2048x128_S4x2048x3x2_S4x2048x3x128_3_01_n_n_01_3_11128 f I

/-- The rows of sums of pairs of features. -/
def rel (f : FVec Ideal S4x128x2048 .f32) (I : IVec S4x2048x3 32) : FVec Ideal S24576x128 .f32 :=
  shapeCast S24576x128 (addf (broadcastInDim S4x2048x3x128 ![0, 1, 2, 3] bcast_S4x2048x1x128_S4x2048x3x128_0_1_2_3 (broadcastInDim S4x2048x1x128 ![0, 1, 3] bcast_S4x2048x128_S4x2048x1x128_0_1_3 (transpose S4x2048x128 [0, 2, 1] f transposes_S4x128x2048_S4x2048x128_0_2_1))) (Host.gather gather_S4x2048x128_S4x2048x3x2_S4x2048x3x128_3_01_n_n_01_3_11128 (transpose S4x2048x128 [0, 2, 1] f transposes_S4x128x2048_S4x2048x128_0_2_1) (nbr I))) shapeCasts_S4x2048x3x128_S24576x128

/-- The features taken, at an index. -/
theorem took_apply (f : FVec Ideal S4x2048x128 .f32) (I : IVec S4x2048x3x2 32) (b : Fin 4) (n p : Fin 2048) (k : Fin 3) (ch : Fin 128)
    (h0 : I (ix4 b n k 0) = BitVec.ofNat 32 b.val) (h1 : I (ix4 b n k 1) = BitVec.ofNat 32 p.val) : took f I (ix4 b n k ch) = f (ix3 b p ch) := by
  unfold took Host.gather
  refine congrArg f (funext fun a => Fin.ext ?_)
  have s0 : ∀ q : Fin 2, gather_S4x2048x128_S4x2048x3x2_S4x2048x3x128_3_01_n_n_01_3_11128.siIdx (ix4 b n k ch) q = ix4 b n k q := by
    intro q
    funext e; refine Fin.ext ?_
    match e with
    | ⟨0, _⟩ => rfl
    | ⟨1, _⟩ => rfl
    | ⟨2, _⟩ => rfl
    | ⟨3, _⟩ => rfl
  show gather_S4x2048x128_S4x2048x3x2_S4x2048x3x128_3_01_n_n_01_3_11128.start (ix4 b n k ch) I a + gather_S4x2048x128_S4x2048x3x2_S4x2048x3x128_3_01_n_n_01_3_11128.batchCoord (ix4 b n k ch) a + gather_S4x2048x128_S4x2048x3x2_S4x2048x3x128_3_01_n_n_01_3_11128.offCoord (ix4 b n k ch) a = _
  rw [GatherDims.batchCoord_eq_zero _ _ _ List.not_mem_nil]
  match a with
  | ⟨0, _⟩ =>
    rw [GatherDims.offCoord_eq_zero _ _ _ (fun h => ((GatherDims.mem_sKept _ _).mp h).1 (show (⟨0, by decide⟩ : Fin S4x2048x128.rank) ∈ gather_S4x2048x128_S4x2048x3x2_S4x2048x3x128_3_01_n_n_01_3_11128.collapsedSliceDims from by decide))]
    unfold GatherDims.start
    rw [dif_pos (show (⟨0, by decide⟩ : Fin S4x2048x128.rank) ∈ gather_S4x2048x128_S4x2048x3x2_S4x2048x3x128_3_01_n_n_01_3_11128.startIndexMap from by decide)]
    have e : I (gather_S4x2048x128_S4x2048x3x2_S4x2048x3x128_3_01_n_n_01_3_11128.siIdx (ix4 b n k ch) ⟨0, by decide⟩) = BitVec.ofNat 32 b.val := (congrArg I (s0 0)).trans h0
    show min (I (gather_S4x2048x128_S4x2048x3x2_S4x2048x3x128_3_01_n_n_01_3_11128.siIdx (ix4 b n k ch) ⟨0, by decide⟩)).toInt.toNat (4 - 1) + 0 + 0 = b.val
    rw [e, Cert.Kernel3Ideal.Hand.toInt_small _ (by omega)]
    have := b.isLt
    omega
  | ⟨1, _⟩ =>
    rw [GatherDims.offCoord_eq_zero _ _ _ (fun h => ((GatherDims.mem_sKept _ _).mp h).1 (show (⟨1, by decide⟩ : Fin S4x2048x128.rank) ∈ gather_S4x2048x128_S4x2048x3x2_S4x2048x3x128_3_01_n_n_01_3_11128.collapsedSliceDims from by decide))]
    unfold GatherDims.start
    rw [dif_pos (show (⟨1, by decide⟩ : Fin S4x2048x128.rank) ∈ gather_S4x2048x128_S4x2048x3x2_S4x2048x3x128_3_01_n_n_01_3_11128.startIndexMap from by decide)]
    have e : I (gather_S4x2048x128_S4x2048x3x2_S4x2048x3x128_3_01_n_n_01_3_11128.siIdx (ix4 b n k ch) ⟨1, by decide⟩) = BitVec.ofNat 32 p.val := (congrArg I (s0 1)).trans h1
    show min (I (gather_S4x2048x128_S4x2048x3x2_S4x2048x3x128_3_01_n_n_01_3_11128.siIdx (ix4 b n k ch) ⟨1, by decide⟩)).toInt.toNat (2048 - 1) + 0 + 0 = p.val
    rw [e, Cert.Kernel3Ideal.Hand.toInt_small _ (by omega)]
    have := p.isLt
    omega
  | ⟨2, _⟩ =>
    unfold GatherDims.start
    have hn : (⟨2, by decide⟩ : Fin S4x2048x128.rank) ∉ gather_S4x2048x128_S4x2048x3x2_S4x2048x3x128_3_01_n_n_01_3_11128.startIndexMap := by decide
    rw [dif_neg hn]
    show 0 + 0 + ch.val = ch.val
    omega

/-- A pair, when its neighbour number is that of a point. -/
theorem nbr_apply (I : IVec S4x2048x3 32) (b : Fin 4) (n p : Fin 2048) (k : Fin 3) (h : I (ix3 b n k) = BitVec.ofNat 32 p.val) :
    nbr I (ix4 b n k 0) = BitVec.ofNat 32 b.val ∧ nbr I (ix4 b n k 1) = BitVec.ofNat 32 p.val := by
  have wrap : ∀ (q : ℕ) (w : BitVec 32), q < 2048 → Scalar.select (IntOp.cmpi CmpIPredicate.slt (BitVec.ofNat 32 q) 0#32) w (BitVec.ofNat 32 q) = BitVec.ofNat 32 q := by
    intro q w hq
    have : IntOp.cmpi CmpIPredicate.slt (BitVec.ofNat 32 q) 0#32 = 0#1 := by
      show BitVec.ofBool (BitVec.slt (BitVec.ofNat 32 q) 0#32) = 0#1
      rw [BitVec.slt, Cert.Kernel3Ideal.Hand.toInt_small _ (by omega)]
      simp only [BitVec.toInt_zero]
      rw [decide_eq_false (by omega)]
      rfl
    rw [this]
    rfl
  unfold nbr
  refine ⟨?_, ?_⟩
  · pointwise
    exact wrap _ _ (by have := b.isLt; omega)
  · pointwise
    rw [h]
    exact wrap _ _ p.isLt

/-- A row: the features of a point added to those of one of its neighbours. -/
theorem rel_apply (f : FVec Ideal S4x128x2048 .f32) (I : IVec S4x2048x3 32) (b : Fin 4) (n p : Fin 2048) (k : Fin 3) (ch : Fin 128) (hI : I (ix3 b n k) = BitVec.ofNat 32 p.val)
    (R : Fin 24576) (hR : R.val = (b.val * 2048 + n.val) * 3 + k.val) : rel f I (ix2 R ch) = (f (ix3 b ch n) : EReal) + f (ix3 b ch p) := by
  obtain ⟨h0, h1⟩ := nbr_apply I b n p k hI
  have ht := took_apply (transpose S4x2048x128 [0, 2, 1] f transposes_S4x128x2048_S4x2048x128_0_2_1) (nbr I) b n p k ch h0 h1
  have e : ∀ T : FVec Ideal S4x2048x3x128 .f32, shapeCast S24576x128 T shapeCasts_S4x2048x3x128_S24576x128 (ix2 R ch) = T (ix4 b n k ch) := by
    intro T
    have hb := b.isLt
    have hn := n.isLt
    have hk := k.isLt
    have e0 : R.val / 6144 = b.val := by omega
    have e1 : R.val / 3 % 2048 = n.val := by omega
    have e2 : R.val % 3 = k.val := by omega
    pointwise
    exact congrArg T (funext fun a => Fin.ext (by
      match a with
      | ⟨0, _⟩ => exact e0
      | ⟨1, _⟩ => exact e1
      | ⟨2, _⟩ => exact e2
      | ⟨3, _⟩ => rfl))
  unfold rel
  rw [e]
  refine congrArg₂ (fun u v : EReal => u + v) ?_ (ht.trans ?_)
  · pointwise
  · pointwise

/-- The sum of the rows. -/
def sumOf (X : FVec Ideal S24576x128 .f32) : FVec Ideal S1x128 .f32 :=
  broadcastInDim S1x128 ![1] bcast_S128_S1x128_1 (Host.reduceAdd X (constant S_ .f32 0x00000000#32) reducesTo_S24576x128_S128_d0 h_S_)

/-- The second moments of the rows. -/
def gramOf (X : FVec Ideal S24576x128 .f32) : FVec Ideal S128x128 .f32 :=
  Host.dotGeneral dot_S128x24576_S24576x128_S128x128_1_0_0_1_n_n none (transpose S128x24576 [1, 0] X transposes_S24576x128_S128x24576_1_0) X

theorem sumOf_apply (X : FVec Ideal S24576x128 .f32) (ch : Fin 128) : sumOf X (ix2 0 ch) = ∑ R : Fin 24576, (X (ix2 R ch) : EReal) := by
  pointwise [sumOf]

theorem gramOf_apply (X : FVec Ideal S24576x128 .f32) (i j : Fin 128) : gramOf X (ix2 i j) = ∑ R : Fin 24576, (X (ix2 R i) : EReal) * X (ix2 R j) := by
  pointwise [gramOf]

section
variable (m : (ℓ : Loc nD τ sig) → Buf (Elt Ideal) ℓ) (c : Dev nD)

theorem res30 : Cert.Reference3Ideal.Value.res_main_v30 m c = rel (m ((c.tc : Thread nD τ).loc main_arg0)) (refIdx (m ((c.tc : Thread nD τ).loc main_arg1))) := rfl

theorem res32 : Cert.Reference3Ideal.Value.res_main_v32 m c = sumOf (rel (m ((c.tc : Thread nD τ).loc main_arg0)) (refIdx (m ((c.tc : Thread nD τ).loc main_arg1)))) := rfl

theorem res34 : Cert.Reference3Ideal.Value.res_main_v34 m c = gramOf (rel (m ((c.tc : Thread nD τ).loc main_arg0)) (refIdx (m ((c.tc : Thread nD τ).loc main_arg1)))) := rfl

end

end Cert.Reference3Ideal.Hand

end
-- ==== Proof.KnnEqX.lean ====
module

public import proofs.«01_k».proof.Proof.KnnBlkX
public import proofs.«01_k».proof.Proof.KnnPayX
public import proofs.«01_k».proof.Proof.KnnRefX
public import proofs.«01_k».proof.Proof.KnnEq

@[expose] public section

set_option maxRecDepth 16384

noncomputable section

/-! The first call's rows, their sum and their second moments are the reference's. -/

namespace Cert.KnnEqX

open Idealize.ShloMosaic Idealize.ShloMosaic.TcCoe Cert.Kernel3Ideal.Hand Cert.Knn

/-- The rows of a block in the order of all rows. -/
def rix (t : Fin 8) (r : Fin 1024) (k : Fin 3) : Fin 24576 := ⟨t.val * 3072 + (r.val * 3 + k.val), by omega⟩

theorem sum_rows {M : Type} [AddCommMonoid M] (g : Fin 24576 → M) : ∑ R, g R = ∑ t : Fin 8, ∑ r : Fin 1024, (g (rix t r 0) + g (rix t r 1) + g (rix t r 2)) := by
  rw [← Equiv.sum_comp (finProdFinEquiv (m := 8) (n := 3072)) g, Fintype.sum_prod_type]
  refine Finset.sum_congr rfl fun t _ => ?_
  rw [← Equiv.sum_comp (finProdFinEquiv (m := 1024) (n := 3)) (fun s => g (finProdFinEquiv (t, s))), Fintype.sum_prod_type]
  refine Finset.sum_congr rfl fun r _ => ?_
  rw [Fin.sum_univ_three]
  have e : ∀ k : Fin 3, g (finProdFinEquiv (t, (finProdFinEquiv (r, k) : Fin 3072))) = g (rix t r k) := fun k => by
    refine congrArg g (Fin.ext ?_)
    show k.val + 3 * r.val + 3072 * t.val = t.val * 3072 + (r.val * 3 + k.val)
    omega
  rw [e, e, e]

theorem chain {M : Type} [AddCommMonoid M] (V : ∀ n, n < 8 → M) (B : Fin 8 → M) (h0 : V 0 (by decide) = B 0)
    (hs : ∀ n (h : n + 1 < 8), V (n + 1) h = V n (by omega) + B ⟨n + 1, h⟩) : V 7 (by decide) = ∑ t, B t := by
  rw [Fin.sum_univ_eight, hs 6, hs 5, hs 4, hs 3, hs 2, hs 1, hs 0, h0]
  rfl

/-- The features of two points of a batch, added. -/
def pairOf (f : FVec Ideal Cert.Kernel3Ideal.S4x128x2048 .f32) (b : Fin 4) (ch : Fin 128) (n p : Fin 2048) : EReal := f (ix3 b ch n) + f (ix3 b ch p)

section
open Cert.Kernel3Ideal Cert.Kernel3Ideal.Gen
variable (m : (ℓ : Loc nD τ sig) → Buf (Elt Ideal) ℓ) (c : Dev nD)

/-- The sums of pairs of a point are rows of the array of rows. -/
theorem rows_nb (t : Fin cfg0.N) (u : Fin 8) (hu : u.val = t.val) (r : Fin 1024) (ch : Fin 128) :
    nb1 (k0_pay10 (iblk m c 0 t) (iblk m c 1 t)) (knnQ (grid0.coords t) (k0_pay6 (iblk m c 2 t))) (k0_pay8 (iblk m c 2 t)) (k0_pay9 (iblk m c 2 t)) (ix2 r ch) = resRows m c (ix2 (rix u r 0) ch)
    ∧ nb2 (k0_pay10 (iblk m c 0 t) (iblk m c 1 t)) (knnQ (grid0.coords t) (k0_pay6 (iblk m c 2 t))) (k0_pay8 (iblk m c 2 t)) (k0_pay9 (iblk m c 2 t)) (ix2 r ch) = resRows m c (ix2 (rix u r 1) ch)
    ∧ nb3 (k0_pay10 (iblk m c 0 t) (iblk m c 1 t)) (knnQ (grid0.coords t) (k0_pay6 (iblk m c 2 t))) (k0_pay8 (iblk m c 2 t)) (k0_pay9 (iblk m c 2 t)) (ix2 r ch) = resRows m c (ix2 (rix u r 2) ch) := by
  have hr := r.isLt
  have h : ∀ k : Fin 3, r.val * 3 + k.val < 3072 := fun k => by have := k.isLt; omega
  have e : ∀ k : Fin 3, resRows m c (ix2 (rix u r k) ch) = knnX (k0_pay10 (iblk m c 0 t) (iblk m c 1 t)) (knnQ (grid0.coords t) (k0_pay6 (iblk m c 2 t))) (k0_pay8 (iblk m c 2 t)) (k0_pay9 (iblk m c 2 t)) (ix2 ⟨r.val * 3 + k.val, h k⟩ ch) := fun k =>
    (arr_3 m c t ⟨r.val * 3 + k.val, h k⟩ (rix u r k) ch (by show u.val * 3072 + (r.val * 3 + k.val) = _; rw [hu])).trans (congrFun (after_3 m c t) _)
  obtain ⟨e0, e1, e2⟩ := knnX_apply (k0_pay10 (iblk m c 0 t) (iblk m c 1 t)) (knnQ (grid0.coords t) (k0_pay6 (iblk m c 2 t))) (k0_pay8 (iblk m c 2 t)) (k0_pay9 (iblk m c 2 t)) r ch h
  exact ⟨e0.symm.trans (e 0).symm, e1.symm.trans (e 1).symm, e2.symm.trans (e 2).symm⟩

theorem lt8 (n : ℕ) (h : n < 8) : n < cfg0.N := Nat.lt_of_lt_of_eq h N_0.symm

/-- The array of the sum is the sum of the array of rows. -/
theorem sum_apply (ch : Fin 128) : resSum m c (ix2 0 ch) = ∑ R : Fin 24576, (resRows m c (ix2 R ch) : EReal) := by
  have e : ∀ (t : Fin cfg0.N) (u : Fin 8) (hu : u.val = t.val) (acc : FVec Ideal S1x128 .f32), knnMu (k0_pay10 (iblk m c 0 t) (iblk m c 1 t)) (knnQ (grid0.coords t) (k0_pay6 (iblk m c 2 t))) (k0_pay8 (iblk m c 2 t)) (k0_pay9 (iblk m c 2 t)) acc (ix2 0 ch)
      = (acc (ix2 0 ch) : EReal) + ∑ r : Fin 1024, (resRows m c (ix2 (rix u r 0) ch) + resRows m c (ix2 (rix u r 1) ch) + resRows m c (ix2 (rix u r 2) ch)) := by
    intro t u hu acc
    rw [knnMu_apply]
    refine congrArg (fun s : EReal => (acc (ix2 0 ch) : EReal) + s) (Finset.sum_congr rfl fun r _ => ?_)
    obtain ⟨e0, e1, e2⟩ := rows_nb m c t u hu r ch
    rw [e0, e1, e2]
  rw [sum_rows]
  refine (congrFun (arr_5 m c) (ix2 0 ch)).trans ?_
  refine chain (fun n h => ((outsAt0 m c n (lt8 n h)).2.2.1 (ix2 0 ch) : EReal)) _ ?_ fun n h => ?_
  · refine (congrFun (after_5_first m c ⟨0, lt8 0 (by decide)⟩ rfl) (ix2 0 ch)).trans ((e _ 0 rfl _).trans ?_)
    rw [pay3_apply, zero_add]
  · exact (congrFun (after_5_later m c ⟨n + 1, lt8 _ h⟩ (by show ¬(n + 1) % 8 = 0; omega)) (ix2 0 ch)).trans (e _ ⟨n + 1, h⟩ rfl _)

/-- The array of second moments is that of the array of rows. -/
theorem gram_apply (i j : Fin 128) : resGram m c (ix2 i j) = ∑ R : Fin 24576, (resRows m c (ix2 R i) : EReal) * resRows m c (ix2 R j) := by
  have e : ∀ (t : Fin cfg0.N) (u : Fin 8) (hu : u.val = t.val) (acc : FVec Ideal S128x128 .f32), knnS (k0_pay10 (iblk m c 0 t) (iblk m c 1 t)) (knnQ (grid0.coords t) (k0_pay6 (iblk m c 2 t))) (k0_pay8 (iblk m c 2 t)) (k0_pay9 (iblk m c 2 t)) acc (ix2 i j)
      = (acc (ix2 i j) : EReal) + ∑ r : Fin 1024, ((resRows m c (ix2 (rix u r 0) i) : EReal) * resRows m c (ix2 (rix u r 0) j) + (resRows m c (ix2 (rix u r 1) i) : EReal) * resRows m c (ix2 (rix u r 1) j)
        + (resRows m c (ix2 (rix u r 2) i) : EReal) * resRows m c (ix2 (rix u r 2) j)) := by
    intro t u hu acc
    rw [knnS_apply, Finset.sum_add_distrib, Finset.sum_add_distrib]
    have a0 : ∀ r ch, _ := fun r ch => (rows_nb m c t u hu r ch).1
    have a1 : ∀ r ch, _ := fun r ch => (rows_nb m c t u hu r ch).2.1
    have a2 : ∀ r ch, _ := fun r ch => (rows_nb m c t u hu r ch).2.2
    simp only [a0, a1, a2]
  rw [sum_rows (fun R => (resRows m c (ix2 R i) : EReal) * resRows m c (ix2 R j))]
  refine (congrFun (arr_6 m c) (ix2 i j)).trans ?_
  refine chain (fun n h => ((outsAt0 m c n (lt8 n h)).2.2.2.1 (ix2 i j) : EReal)) _ ?_ fun n h => ?_
  · refine (congrFun (after_6_first m c ⟨0, lt8 0 (by decide)⟩ rfl) (ix2 i j)).trans ((e _ 0 rfl _).trans ?_)
    rw [pay4_apply, zero_add]
  · exact (congrFun (after_6_later m c ⟨n + 1, lt8 _ h⟩ (by show ¬(n + 1) % 8 = 0; omega)) (ix2 i j)).trans (e _ ⟨n + 1, h⟩ rfl _)

/-- A row of the run: the features of a point added to those of one of its neighbours. -/
theorem rows_apply (hf : ∀ i, ∃ r : ℝ, (m ((c : Thread nD τ).loc main_arg0) : FVec Ideal S4x128x2048 .f32) i = (r : EReal))
    (hx : ∀ i, ∃ r : ℝ, (m ((c : Thread nD τ).loc main_arg1) : FVec Ideal S4x2048x3 .f32) i = (r : EReal)) (b : Fin 4) (n : Fin 2048) (k : Fin 3) (s : Fin 2048) (hs : s.val = 1 + k.val) (ch : Fin 128)
    (R : Fin 24576) (hR : R.val = (b.val * 2048 + n.val) * 3 + k.val) :
    resRows m c (ix2 R ch) = pairOf (m ((c : Thread nD τ).loc main_arg0)) b ch n (sortedFrom (greater (Cert.KnnEq.row (m ((c : Thread nD τ).loc main_arg1)) b n)) s) := by
  have hN : cfg0.N = 8 := N_0
  have hb := b.isLt
  have hn := n.isLt
  let t : Fin cfg0.N := ⟨b.val * 2 + n.val / 1024, by rw [hN]; omega⟩
  let u : Fin 8 := ⟨b.val * 2 + n.val / 1024, by omega⟩
  let r : Fin 1024 := ⟨n.val % 1024, Nat.mod_lt _ (by decide)⟩
  have htb : b.val = t.val / 2 := by show b.val = (b.val * 2 + n.val / 1024) / 2; omega
  have htn : n.val = (t.val % 2) * 1024 + r.val := by show n.val = ((b.val * 2 + n.val / 1024) % 2) * 1024 + n.val % 1024; omega
  have hk := knnIdx_apply (iblk m c 0 t) (iblk m c 1 t) r (Cert.KnnEq.row (m ((c : Thread nD τ).loc main_arg1)) b n)
    (fun q => congrArg₂ ndist (funext fun d => blk_0 m c t b r n d htb htn) (funext fun d => blk_1 m c t b q d htb))
    (Cert.KnnEq.row_ne_bot hx b n) (Cert.KnnEq.row_le hx b n) ⟨n, Cert.KnnEq.row_self hx b n⟩
  unfold knnIdx at hk
  obtain ⟨e1, e2, e3⟩ := pay22_apply cols (k0_pay11 (k0_pay10 (iblk m c 0 t) (iblk m c 1 t)) cols) (k0_pay13 (k0_pay10 (iblk m c 0 t) (iblk m c 1 t)) cols) (k0_pay16 (k0_pay10 (iblk m c 0 t) (iblk m c 1 t)) cols) (k0_pay15 (k0_pay10 (iblk m c 0 t) (iblk m c 1 t)) cols) r
  rw [e1, e2, e3] at hk
  have val : ∀ p : Fin 2048, ((knnQ (grid0.coords t) (k0_pay6 (iblk m c 2 t)) : FVec Ideal S1024x128 .f32) (ix2 r ch) : EReal)
      + (@id (FVec Ideal S2048x128 .bf16) (k0_pay8 (iblk m c 2 t)) (ix2 p ch) + @id (FVec Ideal S2048x128 .bf16) (k0_pay9 (iblk m c 2 t)) (ix2 p ch))
      = pairOf (m ((c : Thread nD τ).loc main_arg0)) b ch n p := by
    intro p
    obtain ⟨-, g1, g2⟩ := scr_apply (iblk m c 2 t) p ch
    rw [knnQ_apply t _ r ch n htn, (scr_apply (iblk m c 2 t) n ch).1, g1, g2, blk_2 m c t b ch n htb, blk_2 m c t b ch p htb]
    obtain ⟨y, hy⟩ := hf (ix3 b ch p)
    unfold pairOf
    rw [hy, ← EReal.coe_sub, sub_self, EReal.coe_zero, add_zero]
  obtain ⟨n1, n2, n3⟩ := nbs (k0_pay10 (iblk m c 0 t) (iblk m c 1 t)) (knnQ (grid0.coords t) (k0_pay6 (iblk m c 2 t))) (k0_pay8 (iblk m c 2 t)) (k0_pay9 (iblk m c 2 t))
  obtain ⟨r1, r2, r3⟩ := rows_nb m c t u rfl r ch
  have hRk : R = rix u r k := Fin.ext (by show R.val = (b.val * 2 + n.val / 1024) * 3072 + (n.val % 1024 * 3 + k.val); omega)
  rw [hRk]
  have h3 : ∀ k : Fin 3, k = 0 ∨ k = 1 ∨ k = 2 := by decide
  rcases h3 k with h | h | h
  · rw [h] at hs ⊢
    obtain rfl : s = 1 := Fin.ext hs
    exact r1.symm.trans ((congrFun n1 _).trans ((add_picked _ _ _ _ r ch _ hk.1).trans (val _)))
  · rw [h] at hs ⊢
    obtain rfl : s = 2 := Fin.ext hs
    exact r2.symm.trans ((congrFun n2 _).trans ((add_picked _ _ _ _ r ch _ hk.2.1).trans (val _)))
  · rw [h] at hs ⊢
    obtain rfl : s = 3 := Fin.ext hs
    exact r3.symm.trans ((congrFun n3 _).trans ((add_picked _ _ _ _ r ch _ hk.2.2).trans (val _)))

/-- The rows of the run are the reference's. -/
theorem rows_eq (hf : ∀ i, ∃ r : ℝ, (m ((c : Thread nD τ).loc main_arg0) : FVec Ideal S4x128x2048 .f32) i = (r : EReal))
    (hx : ∀ i, ∃ r : ℝ, (m ((c : Thread nD τ).loc main_arg1) : FVec Ideal S4x2048x3 .f32) i = (r : EReal)) :
    Cert.Reference3Ideal.Hand.rel (m ((c : Thread nD τ).loc main_arg0)) (Cert.Reference3Ideal.Hand.refIdx (m ((c : Thread nD τ).loc main_arg1))) = resRows m c := by
  refine funext fun i => ?_
  have hi : i = ix2 (i 0) (i 1) := by
    funext a
    match a with
    | ⟨0, _⟩ => rfl
    | ⟨1, _⟩ => rfl
  rw [hi]
  have key : ∀ (R : Fin 24576) (ch : Fin 128), Cert.Reference3Ideal.Hand.rel (m ((c : Thread nD τ).loc main_arg0)) (Cert.Reference3Ideal.Hand.refIdx (m ((c : Thread nD τ).loc main_arg1))) (ix2 R ch) = resRows m c (ix2 R ch) := by
    intro R ch
    have hR := R.isLt
    let b : Fin 4 := ⟨R.val / 6144, by omega⟩
    let n : Fin 2048 := ⟨R.val / 3 % 2048, by omega⟩
    let k : Fin 3 := ⟨R.val % 3, by omega⟩
    let s : Fin 2048 := ⟨1 + R.val % 3, by omega⟩
    have e : R.val = (b.val * 2048 + n.val) * 3 + k.val := by
      show R.val = (R.val / 6144 * 2048 + R.val / 3 % 2048) * 3 + R.val % 3
      omega
    exact (Cert.Reference3Ideal.Hand.rel_apply _ _ b n _ k ch (Cert.KnnEq.ref_apply (m ((c : Thread nD τ).loc main_arg1)) _ _ b n k s rfl) R e).trans
      (rows_apply m c hf hx b n k s rfl ch R e).symm
  exact key (i 0) (i 1)

/-- The sum of the reference's rows is the run's. -/
theorem sum_eq : Cert.Reference3Ideal.Hand.sumOf (resRows m c) = resSum m c := by
  refine funext fun i => ?_
  have hi : i = ix2 0 (i 1) := by
    funext a
    match a with
    | ⟨0, _⟩ => exact Subsingleton.elim (α := Fin 1) _ _
    | ⟨1, _⟩ => rfl
  rw [hi]
  exact (Cert.Reference3Ideal.Hand.sumOf_apply _ (i 1)).trans (sum_apply m c (i 1)).symm

/-- The second moments of the reference's rows are the run's. -/
theorem gram_eq : Cert.Reference3Ideal.Hand.gramOf (resRows m c) = resGram m c := by
  refine funext fun i => ?_
  have hi : i = ix2 (i 0) (i 1) := by
    funext a
    match a with
    | ⟨0, _⟩ => rfl
    | ⟨1, _⟩ => rfl
  rw [hi]
  exact (Cert.Reference3Ideal.Hand.gramOf_apply _ (i 0) (i 1)).trans (gram_apply m c (i 0) (i 1)).symm

end

end Cert.KnnEqX

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_out_pre
public import proofs.«01_k».proof.Proof.OutEq
public import proofs.«01_k».proof.Proof.Gen.Kernel2.Frame
public import proofs.«01_k».proof.Proof.Gen.Kernel2Ideal.Frame
public import proofs.«01_k».proof.Proof.MidEq
public import proofs.«01_k».proof.Proof.BitMidFrame
public import proofs.«01_k».proof.Proof.Gen.Reference2Ideal.Run
public import proofs.«01_k».proof.Proof.Gen.Pre_mid_pre
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_knn_pre
public import proofs.«01_k».proof.Proof.KnnEq
public import proofs.«01_k».proof.Proof.KnnEqX
public import Idealize.ShloMosaic.Adequacy
public import Idealize.ShloMosaic.Init
public import Idealize.ShloMosaic.Lib.Quiescent

@[expose] public section

noncomputable section

namespace Cert.Proof

open Idealize.ShloMosaic Idealize.SL.Sem

/-- The two result arrays of the third call are equal. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal_out_pre m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    : Cert.ReferenceIdeal.Value.res_main_v32 m' c = Cert.KernelIdeal.Value.G12 m c := by
  have key : ∀ (b : Fin 4) (o : Fin 2) (n : Fin 6144), Cert.ReferenceIdeal.Value.res_main_v32 m' c (ix3 b o n) = Cert.KernelIdeal.Value.G12 m c (ix3 b o n) := by
    intro b o n
    have h : b.val * 6144 + n.val < 24576 := by omega
    rw [Cert.ReferenceIdeal.Hand.res_apply m' c b o n h, Cert.KernelIdeal.Hand.G12_apply m c b o n h]
    rw [e0, e1, e2, e5, e6, e7, e8, e9, e10]
    exact (Cert.OutEq.logit_eq (hp c) _ _ (Cert.KernelIdeal.Hand.w3Of_apply m c) (Cert.KernelIdeal.Hand.b3Of_apply m c) _ _).symm
  refine funext fun i => ?_
  have hi : i = ix3 (i 0) (i 1) (i 2) := by
    funext a
    match a with
    | ⟨0, _⟩ => rfl
    | ⟨1, _⟩ => rfl
    | ⟨2, _⟩ => rfl
  rw [hi]
  exact key (i 0) (i 1) (i 2)

/-- The arguments of the second call and of its reference agree. -/
def MidAgree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD) : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
  ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
  ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
  ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
  ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
  ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
  ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
  ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)

/-- The sums of the hidden rows are equal. -/
theorem mid_sum_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD) (hp : Cert.Pre_Kernel2Ideal_mid_pre m)
    (e : MidAgree m m' c) : Cert.Reference2Ideal.Value.res_main_v65 m' c = Cert.Kernel2Ideal.Hand.resSum m c := by
  obtain ⟨e0, e1, e2, e3, e4, e5, e6, e7, e8, e9, e10, e11, e12⟩ := e
  have key : ∀ j : Fin 128, Cert.Reference2Ideal.Value.res_main_v65 m' c (ix2 0 j) = Cert.Kernel2Ideal.Hand.resSum m c (ix2 0 j) := by
    intro j
    refine (Cert.Reference2Ideal.Hand.sum_apply m' c j).trans ?_
    rw [e0, e9, e10, e11, e12]
    refine Eq.trans ?_ (Cert.Kernel2Ideal.Hand.resSum_apply m c j).symm
    exact Finset.sum_congr (M := EReal) rfl fun r _ => (Cert.MidEq.hidden_eq (hp c) _ _ (Cert.Kernel2Ideal.Hand.w2At_apply m c) (Cert.Kernel2Ideal.Hand.b2At_apply m c) j r).symm
  refine funext fun i => ?_
  have hi : i = ix2 0 (i 1) := by
    funext a
    match a with
    | ⟨0, _⟩ => exact Subsingleton.elim (α := Fin 1) _ _
    | ⟨1, _⟩ => rfl
  rw [hi]
  exact key (i 1)

/-- Their second moments are equal. -/
theorem mid_gram_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD) (hp : Cert.Pre_Kernel2Ideal_mid_pre m)
    (e : MidAgree m m' c) : Cert.Reference2Ideal.Value.res_main_v66 m' c = Cert.Kernel2Ideal.Hand.resGram m c := by
  obtain ⟨e0, e1, e2, e3, e4, e5, e6, e7, e8, e9, e10, e11, e12⟩ := e
  have key : ∀ i j : Fin 128, Cert.Reference2Ideal.Value.res_main_v66 m' c (ix2 i j) = Cert.Kernel2Ideal.Hand.resGram m c (ix2 i j) := by
    intro i j
    refine (Cert.Reference2Ideal.Hand.gram_apply m' c i j).trans ?_
    rw [e0, e9, e10, e11, e12]
    refine Eq.trans ?_ (Cert.Kernel2Ideal.Hand.resGram_apply m c i j).symm
    exact Finset.sum_congr (M := EReal) rfl fun r _ => congrArg₂ (α := EReal) (β := EReal) (γ := EReal) (· * ·) (Cert.MidEq.hidden_eq (hp c) _ _ (Cert.Kernel2Ideal.Hand.w2At_apply m c) (Cert.Kernel2Ideal.Hand.b2At_apply m c) i r).symm (Cert.MidEq.hidden_eq (hp c) _ _ (Cert.Kernel2Ideal.Hand.w2At_apply m c) (Cert.Kernel2Ideal.Hand.b2At_apply m c) j r).symm
  refine funext fun i => ?_
  have hi : i = ix2 (i 0) (i 1) := by
    funext a
    match a with
    | ⟨0, _⟩ => rfl
    | ⟨1, _⟩ => rfl
  rw [hi]
  exact key (i 0) (i 1)

/-- The feature arrays are equal. -/
theorem mid_feat_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD) (hp : Cert.Pre_Kernel2Ideal_mid_pre m)
    (e : MidAgree m m' c) : Cert.Reference2Ideal.Value.res_main_v30 m' c = Cert.Kernel2Ideal.Hand.resFeat m c := by
  obtain ⟨e0, e1, e2, e3, e4, e5, e6, e7, e8, e9, e10, e11, e12⟩ := e
  have key : ∀ (b : Fin 4) (o : Fin 128) (n : Fin 2048), Cert.Reference2Ideal.Value.res_main_v30 m' c (ix3 b o n) = Cert.Kernel2Ideal.Hand.resFeat m c (ix3 b o n) := by
    intro b o n
    have h : ∀ p : Fin 3, b.val * 6144 + n.val * 3 + p.val < 24576 := fun p => by omega
    refine (Cert.Reference2Ideal.Hand.feat_apply m' c b o n h).trans ?_
    rw [e0, e3, e4, e5, e6, e7, e8]
    refine Eq.trans ?_ (Cert.Kernel2Ideal.Hand.resFeat_apply m c b o n h).symm
    exact (Cert.MidEq.feat_eq (hp c) _ _ (Cert.Kernel2Ideal.Hand.weffAt_apply m c) (Cert.Kernel2Ideal.Hand.beffAt_apply m c) o _).symm
  refine funext fun i => ?_
  have hi : i = ix3 (i 0) (i 1) (i 2) := by
    funext a
    match a with
    | ⟨0, _⟩ => rfl
    | ⟨1, _⟩ => rfl
    | ⟨2, _⟩ => rfl
  rw [hi]
  exact key (i 0) (i 1) (i 2)

/-- The folded weights are equal. -/
theorem mid_weight_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD) (hp : Cert.Pre_Kernel2Ideal_mid_pre m)
    (e : MidAgree m m' c) : Cert.Reference2Ideal.Hand.resW m' c = Cert.Kernel2Ideal.Hand.w2oAt m c := by
  obtain ⟨e0, e1, e2, e3, e4, e5, e6, e7, e8, e9, e10, e11, e12⟩ := e
  have key : ∀ i j : Fin 128, Cert.Reference2Ideal.Hand.resW m' c (ix2 i j) = Cert.Kernel2Ideal.Hand.w2oAt m c (ix2 i j) := by
    intro i j
    refine (Cert.Reference2Ideal.Hand.weight_apply m' c i j).trans ?_
    rw [e0, e9, e10, e11, e12]
    rw [Cert.Kernel2Ideal.Hand.w2oAt_eq]
    refine Eq.trans ?_ (Cert.Kernel2Ideal.Hand.w2At_apply m c i j).symm
    exact (Cert.MidEq.weight_eq (hp c) i j).symm
  refine funext fun i => ?_
  have hi : i = ix2 (i 0) (i 1) := by
    funext a
    match a with
    | ⟨0, _⟩ => rfl
    | ⟨1, _⟩ => rfl
  rw [hi]
  exact key (i 0) (i 1)

/-- The folded biases are equal. -/
theorem mid_bias_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD) (hp : Cert.Pre_Kernel2Ideal_mid_pre m)
    (e : MidAgree m m' c) : Cert.Reference2Ideal.Value.res_main_v73 m' c = Cert.Kernel2Ideal.Hand.b2oAt m c := by
  obtain ⟨e0, e1, e2, e3, e4, e5, e6, e7, e8, e9, e10, e11, e12⟩ := e
  have key : ∀ j : Fin 128, Cert.Reference2Ideal.Value.res_main_v73 m' c (ix2 0 j) = Cert.Kernel2Ideal.Hand.b2oAt m c (ix2 0 j) := by
    intro j
    refine (Cert.Reference2Ideal.Hand.bias_apply m' c j).trans ?_
    rw [e0, e9, e10, e11, e12]
    rw [Cert.Kernel2Ideal.Hand.b2oAt_eq]
    refine Eq.trans ?_ (Cert.Kernel2Ideal.Hand.b2At_apply m c j).symm
    exact (Cert.MidEq.bias_eq (hp c) j).symm
  refine funext fun i => ?_
  have hi : i = ix2 0 (i 1) := by
    funext a
    match a with
    | ⟨0, _⟩ => exact Subsingleton.elim (α := Fin 1) _ _
    | ⟨1, _⟩ => rfl
  rw [hi]
  exact key (i 1)

/-- The two arrays of neighbour numbers are equal. -/
theorem knn_idx_eq (m : (ℓ : Loc Cert.Kernel3Ideal.nD Cert.Kernel3Ideal.τ Cert.Kernel3Ideal.sig) → Buf (Elt Ideal) ℓ)
    (x : FVec Ideal Cert.Reference3Ideal.S4x2048x3 .f32) (c : Dev Cert.Kernel3Ideal.nD) (hp : Cert.Pre_Kernel3Ideal_knn_pre m)
    (h : Cert.Reference3Ideal.S4x2048x2048.Slices (fun _ => 0) Cert.Reference3Ideal.S4x2048x4)
    (h' : Cert.Reference3Ideal.S4x2048x4.Slices ![0, 0, 1] Cert.Reference3Ideal.S4x2048x3)
    (e : x = m ((c.tc : Thread Cert.Kernel3Ideal.nD Cert.Kernel3Ideal.τ).loc Cert.Kernel3Ideal.main_arg1)) :
    extractStridedSlice Cert.Reference3Ideal.S4x2048x3 ![0, 0, 1] (Host.topK Cert.Reference3Ideal.S4x2048x4 2 (FloatOps.cmpfTotal .gt) (Cert.Reference3Ideal.Hand.dist x) h).2 h'
      = Cert.Kernel3Ideal.Hand.resIdx m c := by
  have hr := Cert.KnnEq.resIdx_apply m c (Cert.KnnPre.real_of_pre (hp c)).2
  refine funext fun i => ?_
  have hi : i = ix3 (i 0) (i 1) (i 2) := by
    funext a
    match a with
    | ⟨0, _⟩ => rfl
    | ⟨1, _⟩ => rfl
    | ⟨2, _⟩ => rfl
  rw [hi]
  generalize i 0 = b, i 1 = n, i 2 = j
  subst e
  match j with
  | ⟨0, _⟩ => exact (Cert.KnnEq.ref_apply _ h h' b n 0 1 rfl).trans (hr b n).1.symm
  | ⟨1, _⟩ => exact (Cert.KnnEq.ref_apply _ h h' b n 1 2 rfl).trans (hr b n).2.1.symm
  | ⟨2, _⟩ => exact (Cert.KnnEq.ref_apply _ h h' b n 2 3 rfl).trans (hr b n).2.2.symm

/-- The two arrays of rows are equal. -/
theorem knn_rows_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD) (hp : Cert.Pre_Kernel3Ideal_knn_pre m)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) :
    Cert.Reference3Ideal.Value.res_main_v30 m' c = Cert.Kernel3Ideal.Hand.resRows m c := by
  rw [Cert.Reference3Ideal.Hand.res30, e0, e1]
  exact Cert.KnnEqX.rows_eq m c (Cert.KnnPre.real_of_pre (hp c)).1 (Cert.KnnPre.real_of_pre (hp c)).2

/-- The two sums of rows are equal. -/
theorem knn_sum_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD) (hp : Cert.Pre_Kernel3Ideal_knn_pre m)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) :
    Cert.Reference3Ideal.Value.res_main_v32 m' c = Cert.Kernel3Ideal.Hand.resSum m c := by
  rw [Cert.Reference3Ideal.Hand.res32, e0, e1, Cert.KnnEqX.rows_eq m c (Cert.KnnPre.real_of_pre (hp c)).1 (Cert.KnnPre.real_of_pre (hp c)).2]
  exact Cert.KnnEqX.sum_eq m c

/-- The two arrays of second moments are equal. -/
theorem knn_gram_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD) (hp : Cert.Pre_Kernel3Ideal_knn_pre m)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) :
    Cert.Reference3Ideal.Value.res_main_v34 m' c = Cert.Kernel3Ideal.Hand.resGram m c := by
  rw [Cert.Reference3Ideal.Hand.res34, e0, e1, Cert.KnnEqX.rows_eq m c (Cert.KnnPre.real_of_pre (hp c)).1 (Cert.KnnPre.real_of_pre (hp c)).2]
  exact Cert.KnnEqX.gram_eq m c

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_out_pre.Gen.facts, Cert.Pre_mid_pre.Gen.facts, Cert.Pre_knn_pre.Gen.facts,
    fun m ρ _ => Cert.Kernel.Gen.frame m ρ,
    fun m ρ _ => Cert.KernelIdeal.Gen.frame m ρ,
    fun m ρ _ => Cert.KernelIdeal.Gen.frame m ρ,
    fun m ρ _ => (θ_run (Cert.ReferenceIdeal.defs (F := Ideal)) _ _).mono
      (fun r h => ⟨fun c => (h c).2, Idealize.ShloMosaic.sem_eq_zero_of_no_sems (by decide) r.2⟩) (Cert.ReferenceIdeal.Value.run m ρ),
    fun m ρ _ => (θ_run (Cert.ReferenceIdeal.defs (F := Ideal)) _ _).mono
      (fun r h => ⟨fun c => (h c).2, Idealize.ShloMosaic.sem_eq_zero_of_no_sems (by decide) r.2⟩) (Cert.ReferenceIdeal.Value.run m ρ),
    fun m ρ _ => Cert.Kernel2.Hand.frame m ρ,
    fun m ρ _ => Cert.Kernel2Ideal.Hand.frame m ρ,
    fun m ρ _ => Cert.Kernel2Ideal.Hand.frame m ρ,
    fun m ρ _ => (θ_run (Cert.Reference2Ideal.defs (F := Ideal)) _ _).mono
      (fun r h => ⟨fun c => (h c).2.2.2.2.2, Idealize.ShloMosaic.sem_eq_zero_of_no_sems (by decide) r.2⟩) (Cert.Reference2Ideal.Value.run m ρ),
    fun m ρ _ => (θ_run (Cert.Reference2Ideal.defs (F := Ideal)) _ _).mono
      (fun r h => ⟨fun c => (h c).2.2.2.2.2, Idealize.ShloMosaic.sem_eq_zero_of_no_sems (by decide) r.2⟩) (Cert.Reference2Ideal.Value.run m ρ),
    fun m ρ _ => Cert.Kernel3.Gen.frame m ρ,
    fun m ρ _ => Cert.Kernel3Ideal.Gen.frame m ρ,
    fun m ρ _ => Cert.Kernel3Ideal.Gen.frame m ρ,
    fun m ρ _ => (θ_run (Cert.Reference3Ideal.defs (F := Ideal)) _ _).mono
      (fun r h => ⟨fun c => (h c).2.2.2.2, Idealize.ShloMosaic.sem_eq_zero_of_no_sems (by decide) r.2⟩) (Cert.Reference3Ideal.Value.run m ρ),
    fun m ρ _ => (θ_run (Cert.Reference3Ideal.defs (F := Ideal)) _ _).mono
      (fun r h => ⟨fun c => (h c).2.2.2.2, Idealize.ShloMosaic.sem_eq_zero_of_no_sems (by decide) r.2⟩) (Cert.Reference3Ideal.Value.run m ρ),
    trivial,
    fun m g m' g' hp e => ⟨Cert.KernelIdeal.Value.G12 m, Cert.KernelIdeal.Value.run m g,
      (θ_run (Cert.ReferenceIdeal.defs (F := Ideal)) _ _).mono
        (fun r h c => ⟨(h c).1.trans (out_eq m m' c hp (e c).1 (e c).2.1 (e c).2.2.1 (e c).2.2.2.1 (e c).2.2.2.2.1 (e c).2.2.2.2.2.1 (e c).2.2.2.2.2.2.1 (e c).2.2.2.2.2.2.2.1 (e c).2.2.2.2.2.2.2.2.1 (e c).2.2.2.2.2.2.2.2.2.1 (e c).2.2.2.2.2.2.2.2.2.2), (h c).2⟩)
        (Cert.ReferenceIdeal.Value.run m' g')⟩,
    IdealRules.named_const.statement Cert.Kernel2Ideal.κ "third" .f32 0x3EAAAAAB#32 ((1 / 3 : ℝ) : EReal) rfl,
    fun m g m' g' hp e => ⟨Cert.Kernel2Ideal.Hand.resSum m, Cert.Kernel2Ideal.Hand.resGram m, Cert.Kernel2Ideal.Hand.resFeat m, Cert.Kernel2Ideal.Hand.w2oAt m, Cert.Kernel2Ideal.Hand.b2oAt m, Cert.Kernel2Ideal.Hand.run m g,
      (θ_run (Cert.Reference2Ideal.defs (F := Ideal)) _ _).mono
        (fun r h c => ⟨(h c).1.trans (mid_sum_eq m m' c hp (e c)), (h c).2.1.trans (mid_gram_eq m m' c hp (e c)), (h c).2.2.1.trans (mid_feat_eq m m' c hp (e c)),
          (h c).2.2.2.1.trans (mid_weight_eq m m' c hp (e c)), (h c).2.2.2.2.1.trans (mid_bias_eq m m' c hp (e c)), (h c).2.2.2.2.2⟩)
        (Cert.Reference2Ideal.Value.run m' g')⟩,
    trivial,
    fun m g m' g' hp e => ⟨Cert.Kernel3Ideal.Hand.resIdx m, Cert.Kernel3Ideal.Hand.resRows m, Cert.Kernel3Ideal.Hand.resSum m, Cert.Kernel3Ideal.Hand.resGram m, Cert.Kernel3Ideal.Hand.run m g,
      (θ_run (Cert.Reference3Ideal.defs (F := Ideal)) _ _).mono
        (fun r h c => ⟨(h c).1.trans (knn_idx_eq m _ c hp _ _ (e c).2), (h c).2.1.trans (knn_rows_eq m m' c hp (e c).1 (e c).2), (h c).2.2.1.trans (knn_sum_eq m m' c hp (e c).1 (e c).2),
          (h c).2.2.2.1.trans (knn_gram_eq m m' c hp (e c).1 (e c).2), (h c).2.2.2.2⟩)
        (Cert.Reference3Ideal.Value.run m' g')⟩⟩

end Cert.Proof

end
